-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersReferenceIdeal (m : (ℓ : Loc Cert.LayersReferenceIdeal.nD Cert.LayersReferenceIdeal.τ Cert.LayersReferenceIdeal.sig) → Buf (Elt Ideal) ℓ) : Prop :=
  True

def Pre_Points (m : (ℓ : Loc Cert.Points.nD Cert.Points.τ Cert.Points.sig) → Buf (Elt Bits) ℓ) : Prop :=
  True

def Pre_PointsIdeal (m : (ℓ : Loc Cert.PointsIdeal.nD Cert.PointsIdeal.τ Cert.PointsIdeal.sig) → Buf (Elt Ideal) ℓ) : Prop :=
  True

def Pre_PointsIdeal_sampled [hPre_sampled : Cert.Pre_sampled.Facts] (m : (ℓ : Loc Cert.PointsIdeal.nD Cert.PointsIdeal.τ Cert.PointsIdeal.sig) → Buf (Elt Ideal) ℓ) : Prop :=
  ∀ c : Dev Cert.PointsIdeal.nD,
    (Cert.Pre_sampled.fn (F := Ideal) (m ((c.tc : Thread Cert.PointsIdeal.nD Cert.PointsIdeal.τ).loc Cert.PointsIdeal.main_arg0)) (m ((c.tc : Thread Cert.PointsIdeal.nD Cert.PointsIdeal.τ).loc Cert.PointsIdeal.main_arg1)) (m ((c.tc : Thread Cert.PointsIdeal.nD Cert.PointsIdeal.τ).loc Cert.PointsIdeal.main_arg2)) (m ((c.tc : Thread Cert.PointsIdeal.nD Cert.PointsIdeal.τ).loc Cert.PointsIdeal.main_arg3))) = (fun _ => 1#1)

def Pre_PointsReferenceIdeal (m : (ℓ : Loc Cert.PointsReferenceIdeal.nD Cert.PointsReferenceIdeal.τ Cert.PointsReferenceIdeal.sig) → Buf (Elt Ideal) ℓ) : Prop :=
  True

def Pre_PointsReferenceIdeal_sampled [hPre_sampled : Cert.Pre_sampled.Facts] (m : (ℓ : Loc Cert.PointsReferenceIdeal.nD Cert.PointsReferenceIdeal.τ Cert.PointsReferenceIdeal.sig) → Buf (Elt Ideal) ℓ) : Prop :=
  ∀ c : Dev Cert.PointsReferenceIdeal.nD,
    (Cert.Pre_sampled.fn (F := Ideal) (m ((c.tc : Thread Cert.PointsReferenceIdeal.nD Cert.PointsReferenceIdeal.τ).loc Cert.PointsReferenceIdeal.main_arg0)) (m ((c.tc : Thread Cert.PointsReferenceIdeal.nD Cert.PointsReferenceIdeal.τ).loc Cert.PointsReferenceIdeal.main_arg1)) (m ((c.tc : Thread Cert.PointsReferenceIdeal.nD Cert.PointsReferenceIdeal.τ).loc Cert.PointsReferenceIdeal.main_arg2)) (m ((c.tc : Thread Cert.PointsReferenceIdeal.nD Cert.PointsReferenceIdeal.τ).loc Cert.PointsReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11)
      ∧ r.2.mem ((c.tc : Thread Cert.Layers.nD Cert.Layers.τ).loc Cert.Layers.main_arg12) = m ((c.tc : Thread Cert.Layers.nD Cert.Layers.τ).loc Cert.Layers.main_arg12)
      ∧ r.2.mem ((c.tc : Thread Cert.Layers.nD Cert.Layers.τ).loc Cert.Layers.main_arg13) = m ((c.tc : Thread Cert.Layers.nD Cert.Layers.τ).loc Cert.Layers.main_arg13)
      ∧ r.2.mem ((c.tc : Thread Cert.Layers.nD Cert.Layers.τ).loc Cert.Layers.main_arg14) = m ((c.tc : Thread Cert.Layers.nD Cert.Layers.τ).loc Cert.Layers.main_arg14)
      ∧ r.2.mem ((c.tc : Thread Cert.Layers.nD Cert.Layers.τ).loc Cert.Layers.main_arg15) = m ((c.tc : Thread Cert.Layers.nD Cert.Layers.τ).loc Cert.Layers.main_arg15)
      ∧ r.2.mem ((c.tc : Thread Cert.Layers.nD Cert.Layers.τ).loc Cert.Layers.main_arg16) = m ((c.tc : Thread Cert.Layers.nD Cert.Layers.τ).loc Cert.Layers.main_arg16)
      ∧ r.2.mem ((c.tc : Thread Cert.Layers.nD Cert.Layers.τ).loc Cert.Layers.main_arg17) = m ((c.tc : Thread Cert.Layers.nD Cert.Layers.τ).loc Cert.Layers.main_arg17)
      ∧ r.2.mem ((c.tc : Thread Cert.Layers.nD Cert.Layers.τ).loc Cert.Layers.main_arg18) = m ((c.tc : Thread Cert.Layers.nD Cert.Layers.τ).loc Cert.Layers.main_arg18)
      ∧ r.2.mem ((c.tc : Thread Cert.Layers.nD Cert.Layers.τ).loc Cert.Layers.main_arg19) = m ((c.tc : Thread Cert.Layers.nD Cert.Layers.τ).loc Cert.Layers.main_arg19)
      ∧ r.2.mem ((c.tc : Thread Cert.Layers.nD Cert.Layers.τ).loc Cert.Layers.main_arg20) = m ((c.tc : Thread Cert.Layers.nD Cert.Layers.τ).loc Cert.Layers.main_arg20)
      ∧ r.2.mem ((c.tc : Thread Cert.Layers.nD Cert.Layers.τ).loc Cert.Layers.main_arg21) = m ((c.tc : Thread Cert.Layers.nD Cert.Layers.τ).loc Cert.Layers.main_arg21)
      ∧ r.2.mem ((c.tc : Thread Cert.Layers.nD Cert.Layers.τ).loc Cert.Layers.main_arg22) = m ((c.tc : Thread Cert.Layers.nD Cert.Layers.τ).loc Cert.Layers.main_arg22)
      ∧ r.2.mem ((c.tc : Thread Cert.Layers.nD Cert.Layers.τ).loc Cert.Layers.main_arg23) = m ((c.tc : Thread Cert.Layers.nD Cert.Layers.τ).loc Cert.Layers.main_arg23)
      ∧ r.2.mem ((c.tc : Thread Cert.Layers.nD Cert.Layers.τ).loc Cert.Layers.main_arg24) = m ((c.tc : Thread Cert.Layers.nD Cert.Layers.τ).loc Cert.Layers.main_arg24)
      ∧ r.2.mem ((c.tc : Thread Cert.Layers.nD Cert.Layers.τ).loc Cert.Layers.main_arg25) = m ((c.tc : Thread Cert.Layers.nD Cert.Layers.τ).loc Cert.Layers.main_arg25))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
      ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
      ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
      ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
      ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17)
      ∧ r.2.mem ((c.tc : Thread Cert.LayersIdeal.nD Cert.LayersIdeal.τ).loc Cert.LayersIdeal.main_arg18) = m ((c.tc : Thread Cert.LayersIdeal.nD Cert.LayersIdeal.τ).loc Cert.LayersIdeal.main_arg18)
      ∧ r.2.mem ((c.tc : Thread Cert.LayersIdeal.nD Cert.LayersIdeal.τ).loc Cert.LayersIdeal.main_arg19) = m ((c.tc : Thread Cert.LayersIdeal.nD Cert.LayersIdeal.τ).loc Cert.LayersIdeal.main_arg19)
      ∧ r.2.mem ((c.tc : Thread Cert.LayersIdeal.nD Cert.LayersIdeal.τ).loc Cert.LayersIdeal.main_arg20) = m ((c.tc : Thread Cert.LayersIdeal.nD Cert.LayersIdeal.τ).loc Cert.LayersIdeal.main_arg20)
      ∧ r.2.mem ((c.tc : Thread Cert.LayersIdeal.nD Cert.LayersIdeal.τ).loc Cert.LayersIdeal.main_arg21) = m ((c.tc : Thread Cert.LayersIdeal.nD Cert.LayersIdeal.τ).loc Cert.LayersIdeal.main_arg21)
      ∧ r.2.mem ((c.tc : Thread Cert.LayersIdeal.nD Cert.LayersIdeal.τ).loc Cert.LayersIdeal.main_arg22) = m ((c.tc : Thread Cert.LayersIdeal.nD Cert.LayersIdeal.τ).loc Cert.LayersIdeal.main_arg22)
      ∧ r.2.mem ((c.tc : Thread Cert.LayersIdeal.nD Cert.LayersIdeal.τ).loc Cert.LayersIdeal.main_arg23) = m ((c.tc : Thread Cert.LayersIdeal.nD Cert.LayersIdeal.τ).loc Cert.LayersIdeal.main_arg23)
      ∧ r.2.mem ((c.tc : Thread Cert.LayersIdeal.nD Cert.LayersIdeal.τ).loc Cert.LayersIdeal.main_arg24) = m ((c.tc : Thread Cert.LayersIdeal.nD Cert.LayersIdeal.τ).loc Cert.LayersIdeal.main_arg24)
      ∧ r.2.mem ((c.tc : Thread Cert.LayersIdeal.nD Cert.LayersIdeal.τ).loc Cert.LayersIdeal.main_arg25) = m ((c.tc : Thread Cert.LayersIdeal.nD Cert.LayersIdeal.τ).loc Cert.LayersIdeal.main_arg25))
      ∧ r.2.sem = fun _ => 0)

def quiescent_LayersReferenceIdeal [hLayersReferenceIdeal : Cert.LayersReferenceIdeal.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10)
      ∧ r.2.mem ((c.tc : Thread Cert.LayersReferenceIdeal.nD Cert.LayersReferenceIdeal.τ).loc Cert.LayersReferenceIdeal.main_arg11) = m ((c.tc : Thread Cert.LayersReferenceIdeal.nD Cert.LayersReferenceIdeal.τ).loc Cert.LayersReferenceIdeal.main_arg11)
      ∧ r.2.mem ((c.tc : Thread Cert.LayersReferenceIdeal.nD Cert.LayersReferenceIdeal.τ).loc Cert.LayersReferenceIdeal.main_arg12) = m ((c.tc : Thread Cert.LayersReferenceIdeal.nD Cert.LayersReferenceIdeal.τ).loc Cert.LayersReferenceIdeal.main_arg12)
      ∧ r.2.mem ((c.tc : Thread Cert.LayersReferenceIdeal.nD Cert.LayersReferenceIdeal.τ).loc Cert.LayersReferenceIdeal.main_arg13) = m ((c.tc : Thread Cert.LayersReferenceIdeal.nD Cert.LayersReferenceIdeal.τ).loc Cert.LayersReferenceIdeal.main_arg13)
      ∧ r.2.mem ((c.tc : Thread Cert.LayersReferenceIdeal.nD Cert.LayersReferenceIdeal.τ).loc Cert.LayersReferenceIdeal.main_arg14) = m ((c.tc : Thread Cert.LayersReferenceIdeal.nD Cert.LayersReferenceIdeal.τ).loc Cert.LayersReferenceIdeal.main_arg14)
      ∧ r.2.mem ((c.tc : Thread Cert.LayersReferenceIdeal.nD Cert.LayersReferenceIdeal.τ).loc Cert.LayersReferenceIdeal.main_arg15) = m ((c.tc : Thread Cert.LayersReferenceIdeal.nD Cert.LayersReferenceIdeal.τ).loc Cert.LayersReferenceIdeal.main_arg15)
      ∧ r.2.mem ((c.tc : Thread Cert.LayersReferenceIdeal.nD Cert.LayersReferenceIdeal.τ).loc Cert.LayersReferenceIdeal.main_arg16) = m ((c.tc : Thread Cert.LayersReferenceIdeal.nD Cert.LayersReferenceIdeal.τ).loc Cert.LayersReferenceIdeal.main_arg16)
      ∧ r.2.mem ((c.tc : Thread Cert.LayersReferenceIdeal.nD Cert.LayersReferenceIdeal.τ).loc Cert.LayersReferenceIdeal.main_arg17) = m ((c.tc : Thread Cert.LayersReferenceIdeal.nD Cert.LayersReferenceIdeal.τ).loc Cert.LayersReferenceIdeal.main_arg17)
      ∧ r.2.mem ((c.tc : Thread Cert.LayersReferenceIdeal.nD Cert.LayersReferenceIdeal.τ).loc Cert.LayersReferenceIdeal.main_arg18) = m ((c.tc : Thread Cert.LayersReferenceIdeal.nD Cert.LayersReferenceIdeal.τ).loc Cert.LayersReferenceIdeal.main_arg18)
      ∧ r.2.mem ((c.tc : Thread Cert.LayersReferenceIdeal.nD Cert.LayersReferenceIdeal.τ).loc Cert.LayersReferenceIdeal.main_arg19) = m ((c.tc : Thread Cert.LayersReferenceIdeal.nD Cert.LayersReferenceIdeal.τ).loc Cert.LayersReferenceIdeal.main_arg19)
      ∧ r.2.mem ((c.tc : Thread Cert.LayersReferenceIdeal.nD Cert.LayersReferenceIdeal.τ).loc Cert.LayersReferenceIdeal.main_arg20) = m ((c.tc : Thread Cert.LayersReferenceIdeal.nD Cert.LayersReferenceIdeal.τ).loc Cert.LayersReferenceIdeal.main_arg20)
      ∧ r.2.mem ((c.tc : Thread Cert.LayersReferenceIdeal.nD Cert.LayersReferenceIdeal.τ).loc Cert.LayersReferenceIdeal.main_arg21) = m ((c.tc : Thread Cert.LayersReferenceIdeal.nD Cert.LayersReferenceIdeal.τ).loc Cert.LayersReferenceIdeal.main_arg21)
      ∧ r.2.mem ((c.tc : Thread Cert.LayersReferenceIdeal.nD Cert.LayersReferenceIdeal.τ).loc Cert.LayersReferenceIdeal.main_arg22) = m ((c.tc : Thread Cert.LayersReferenceIdeal.nD Cert.LayersReferenceIdeal.τ).loc Cert.LayersReferenceIdeal.main_arg22)
      ∧ r.2.mem ((c.tc : Thread Cert.LayersReferenceIdeal.nD Cert.LayersReferenceIdeal.τ).loc Cert.LayersReferenceIdeal.main_arg23) = m ((c.tc : Thread Cert.LayersReferenceIdeal.nD Cert.LayersReferenceIdeal.τ).loc Cert.LayersReferenceIdeal.main_arg23)
      ∧ r.2.mem ((c.tc : Thread Cert.LayersReferenceIdeal.nD Cert.LayersReferenceIdeal.τ).loc Cert.LayersReferenceIdeal.main_arg24) = m ((c.tc : Thread Cert.LayersReferenceIdeal.nD Cert.LayersReferenceIdeal.τ).loc Cert.LayersReferenceIdeal.main_arg24)
      ∧ r.2.mem ((c.tc : Thread Cert.LayersReferenceIdeal.nD Cert.LayersReferenceIdeal.τ).loc Cert.LayersReferenceIdeal.main_arg25) = m ((c.tc : Thread Cert.LayersReferenceIdeal.nD Cert.LayersReferenceIdeal.τ).loc Cert.LayersReferenceIdeal.main_arg25))
      ∧ r.2.sem = fun _ => 0)

def quiescent_Points [hPoints : Cert.Points.Facts] : Prop :=
  ∀ (m : (ℓ : Loc Cert.Points.nD Cert.Points.τ Cert.Points.sig) → Buf (Elt Bits) ℓ) (g : Dev Cert.Points.nD → PrngReg), Pre_Points m →
    θ_run (Cert.Points.defs (F := Bits)) (onTc (τ := Cert.Points.τ) (Cert.Points.main (F := Bits))) ⟨m, fun _ => 0, g⟩ (fun r => (∀ c : Dev Cert.Points.nD,
      r.2.mem ((c.tc : Thread Cert.Points.nD Cert.Points.τ).loc Cert.Points.main_arg0) = m ((c.tc : Thread Cert.Points.nD Cert.Points.τ).loc Cert.Points.main_arg0)
      ∧ r.2.mem ((c.tc : Thread Cert.Points.nD Cert.Points.τ).loc Cert.Points.main_arg1) = m ((c.tc : Thread Cert.Points.nD Cert.Points.τ).loc Cert.Points.main_arg1)
      ∧ r.2.mem ((c.tc : Thread Cert.Points.nD Cert.Points.τ).loc Cert.Points.main_arg2) = m ((c.tc : Thread Cert.Points.nD Cert.Points.τ).loc Cert.Points.main_arg2)
      ∧ r.2.mem ((c.tc : Thread Cert.Points.nD Cert.Points.τ).loc Cert.Points.main_arg3) = m ((c.tc : Thread Cert.Points.nD Cert.Points.τ).loc Cert.Points.main_arg3))
      ∧ r.2.sem = fun _ => 0)

def quiescent_PointsIdeal [hPointsIdeal : Cert.PointsIdeal.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3))
      ∧ r.2.sem = fun _ => 0)

def quiescent_PointsIdeal_pre_sampled [hPointsIdeal : Cert.PointsIdeal.Facts] [hPre_sampled : Cert.Pre_sampled.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal_sampled m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3))
      ∧ r.2.sem = fun _ => 0)

def quiescent_PointsReferenceIdeal [hPointsReferenceIdeal : Cert.PointsReferenceIdeal.Facts] : Prop :=
  ∀ (m : (ℓ : Loc Cert.PointsReferenceIdeal.nD Cert.PointsReferenceIdeal.τ Cert.PointsReferenceIdeal.sig) → Buf (Elt Ideal) ℓ) (g : Dev Cert.PointsReferenceIdeal.nD → PrngReg), Pre_PointsReferenceIdeal m →
    θ_run (Cert.PointsReferenceIdeal.defs (F := Ideal)) (onTc (τ := Cert.PointsReferenceIdeal.τ) (Cert.PointsReferenceIdeal.main (F := Ideal))) ⟨m, fun _ => 0, g⟩ (fun r => (∀ c : Dev Cert.PointsReferenceIdeal.nD,
      r.2.mem ((c.tc : Thread Cert.PointsReferenceIdeal.nD Cert.PointsReferenceIdeal.τ).loc Cert.PointsReferenceIdeal.main_arg0) = m ((c.tc : Thread Cert.PointsReferenceIdeal.nD Cert.PointsReferenceIdeal.τ).loc Cert.PointsReferenceIdeal.main_arg0)
      ∧ r.2.mem ((c.tc : Thread Cert.PointsReferenceIdeal.nD Cert.PointsReferenceIdeal.τ).loc Cert.PointsReferenceIdeal.main_arg1) = m ((c.tc : Thread Cert.PointsReferenceIdeal.nD Cert.PointsReferenceIdeal.τ).loc Cert.PointsReferenceIdeal.main_arg1)
      ∧ r.2.mem ((c.tc : Thread Cert.PointsReferenceIdeal.nD Cert.PointsReferenceIdeal.τ).loc Cert.PointsReferenceIdeal.main_arg2) = m ((c.tc : Thread Cert.PointsReferenceIdeal.nD Cert.PointsReferenceIdeal.τ).loc Cert.PointsReferenceIdeal.main_arg2)
      ∧ r.2.mem ((c.tc : Thread Cert.PointsReferenceIdeal.nD Cert.PointsReferenceIdeal.τ).loc Cert.PointsReferenceIdeal.main_arg3) = m ((c.tc : Thread Cert.PointsReferenceIdeal.nD Cert.PointsReferenceIdeal.τ).loc Cert.PointsReferenceIdeal.main_arg3))
      ∧ r.2.sem = fun _ => 0)

def quiescent_PointsReferenceIdeal_pre_sampled [hPointsReferenceIdeal : Cert.PointsReferenceIdeal.Facts] [hPre_sampled : Cert.Pre_sampled.Facts] : Prop :=
  ∀ (m : (ℓ : Loc Cert.PointsReferenceIdeal.nD Cert.PointsReferenceIdeal.τ Cert.PointsReferenceIdeal.sig) → Buf (Elt Ideal) ℓ) (g : Dev Cert.PointsReferenceIdeal.nD → PrngReg), Pre_PointsReferenceIdeal_sampled m →
    θ_run (Cert.PointsReferenceIdeal.defs (F := Ideal)) (onTc (τ := Cert.PointsReferenceIdeal.τ) (Cert.PointsReferenceIdeal.main (F := Ideal))) ⟨m, fun _ => 0, g⟩ (fun r => (∀ c : Dev Cert.PointsReferenceIdeal.nD,
      r.2.mem ((c.tc : Thread Cert.PointsReferenceIdeal.nD Cert.PointsReferenceIdeal.τ).loc Cert.PointsReferenceIdeal.main_arg0) = m ((c.tc : Thread Cert.PointsReferenceIdeal.nD Cert.PointsReferenceIdeal.τ).loc Cert.PointsReferenceIdeal.main_arg0)
      ∧ r.2.mem ((c.tc : Thread Cert.PointsReferenceIdeal.nD Cert.PointsReferenceIdeal.τ).loc Cert.PointsReferenceIdeal.main_arg1) = m ((c.tc : Thread Cert.PointsReferenceIdeal.nD Cert.PointsReferenceIdeal.τ).loc Cert.PointsReferenceIdeal.main_arg1)
      ∧ r.2.mem ((c.tc : Thread Cert.PointsReferenceIdeal.nD Cert.PointsReferenceIdeal.τ).loc Cert.PointsReferenceIdeal.main_arg2) = m ((c.tc : Thread Cert.PointsReferenceIdeal.nD Cert.PointsReferenceIdeal.τ).loc Cert.PointsReferenceIdeal.main_arg2)
      ∧ r.2.mem ((c.tc : Thread Cert.PointsReferenceIdeal.nD Cert.PointsReferenceIdeal.τ).loc Cert.PointsReferenceIdeal.main_arg3) = m ((c.tc : Thread Cert.PointsReferenceIdeal.nD Cert.PointsReferenceIdeal.τ).loc Cert.PointsReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Layers_LayersIdeal : Prop :=
  IdealRules.named_const.Statement Cert.LayersIdeal.κ "inv_bn" .f32 0x3F7FFFAC#32 (((Real.sqrt (2097173 / 2097152))⁻¹ : ℝ) : EReal)

def algebraic_LayersIdeal_LayersReferenceIdeal [hLayersIdeal : Cert.LayersIdeal.Facts] [hLayersReferenceIdeal : Cert.LayersReferenceIdeal.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersReferenceIdeal.nD Cert.LayersReferenceIdeal.τ Cert.LayersReferenceIdeal.sig) → Buf (Elt Ideal) ℓ) (g' : Dev Cert.LayersReferenceIdeal.nD → PrngReg), Pre_LayersIdeal m →
    (∀ c : Dev Cert.LayersIdeal.nD,
      m' ((c.tc : Thread Cert.LayersReferenceIdeal.nD Cert.LayersReferenceIdeal.τ).loc Cert.LayersReferenceIdeal.main_arg0) = m ((c.tc : Thread Cert.LayersIdeal.nD Cert.LayersIdeal.τ).loc Cert.LayersIdeal.main_arg0)
      ∧ m' ((c.tc : Thread Cert.LayersReferenceIdeal.nD Cert.LayersReferenceIdeal.τ).loc Cert.LayersReferenceIdeal.main_arg1) = m ((c.tc : Thread Cert.LayersIdeal.nD Cert.LayersIdeal.τ).loc Cert.LayersIdeal.main_arg1)
      ∧ m' ((c.tc : Thread Cert.LayersReferenceIdeal.nD Cert.LayersReferenceIdeal.τ).loc Cert.LayersReferenceIdeal.main_arg2) = m ((c.tc : Thread Cert.LayersIdeal.nD Cert.LayersIdeal.τ).loc Cert.LayersIdeal.main_arg2)
      ∧ m' ((c.tc : Thread Cert.LayersReferenceIdeal.nD Cert.LayersReferenceIdeal.τ).loc Cert.LayersReferenceIdeal.main_arg3) = m ((c.tc : Thread Cert.LayersIdeal.nD Cert.LayersIdeal.τ).loc Cert.LayersIdeal.main_arg3)
      ∧ m' ((c.tc : Thread Cert.LayersReferenceIdeal.nD Cert.LayersReferenceIdeal.τ).loc Cert.LayersReferenceIdeal.main_arg4) = m ((c.tc : Thread Cert.LayersIdeal.nD Cert.LayersIdeal.τ).loc Cert.LayersIdeal.main_arg4)
      ∧ m' ((c.tc : Thread Cert.LayersReferenceIdeal.nD Cert.LayersReferenceIdeal.τ).loc Cert.LayersReferenceIdeal.main_arg5) = m ((c.tc : Thread Cert.LayersIdeal.nD Cert.LayersIdeal.τ).loc Cert.LayersIdeal.main_arg5)
      ∧ m' ((c.tc : Thread Cert.LayersReferenceIdeal.nD Cert.LayersReferenceIdeal.τ).loc Cert.LayersReferenceIdeal.main_arg6) = m ((c.tc : Thread Cert.LayersIdeal.nD Cert.LayersIdeal.τ).loc Cert.LayersIdeal.main_arg6)
      ∧ m' ((c.tc : Thread Cert.LayersReferenceIdeal.nD Cert.LayersReferenceIdeal.τ).loc Cert.LayersReferenceIdeal.main_arg7) = m ((c.tc : Thread Cert.LayersIdeal.nD Cert.LayersIdeal.τ).loc Cert.LayersIdeal.main_arg7)
      ∧ m' ((c.tc : Thread Cert.LayersReferenceIdeal.nD Cert.LayersReferenceIdeal.τ).loc Cert.LayersReferenceIdeal.main_arg8) = m ((c.tc : Thread Cert.LayersIdeal.nD Cert.LayersIdeal.τ).loc Cert.LayersIdeal.main_arg8)
      ∧ m' ((c.tc : Thread Cert.LayersReferenceIdeal.nD Cert.LayersReferenceIdeal.τ).loc Cert.LayersReferenceIdeal.main_arg9) = m ((c.tc : Thread Cert.LayersIdeal.nD Cert.LayersIdeal.τ).loc Cert.LayersIdeal.main_arg9)
      ∧ m' ((c.tc : Thread Cert.LayersReferenceIdeal.nD Cert.LayersReferenceIdeal.τ).loc Cert.LayersReferenceIdeal.main_arg10) = m ((c.tc : Thread Cert.LayersIdeal.nD Cert.LayersIdeal.τ).loc Cert.LayersIdeal.main_arg10)
      ∧ m' ((c.tc : Thread Cert.LayersReferenceIdeal.nD Cert.LayersReferenceIdeal.τ).loc Cert.LayersReferenceIdeal.main_arg11) = m ((c.tc : Thread Cert.LayersIdeal.nD Cert.LayersIdeal.τ).loc Cert.LayersIdeal.main_arg11)
      ∧ m' ((c.tc : Thread Cert.LayersReferenceIdeal.nD Cert.LayersReferenceIdeal.τ).loc Cert.LayersReferenceIdeal.main_arg12) = m ((c.tc : Thread Cert.LayersIdeal.nD Cert.LayersIdeal.τ).loc Cert.LayersIdeal.main_arg12)
      ∧ m' ((c.tc : Thread Cert.LayersReferenceIdeal.nD Cert.LayersReferenceIdeal.τ).loc Cert.LayersReferenceIdeal.main_arg13) = m ((c.tc : Thread Cert.LayersIdeal.nD Cert.LayersIdeal.τ).loc Cert.LayersIdeal.main_arg13)
      ∧ m' ((c.tc : Thread Cert.LayersReferenceIdeal.nD Cert.LayersReferenceIdeal.τ).loc Cert.LayersReferenceIdeal.main_arg14) = m ((c.tc : Thread Cert.LayersIdeal.nD Cert.LayersIdeal.τ).loc Cert.LayersIdeal.main_arg14)
      ∧ m' ((c.tc : Thread Cert.LayersReferenceIdeal.nD Cert.LayersReferenceIdeal.τ).loc Cert.LayersReferenceIdeal.main_arg15) = m ((c.tc : Thread Cert.LayersIdeal.nD Cert.LayersIdeal.τ).loc Cert.LayersIdeal.main_arg15)
      ∧ m' ((c.tc : Thread Cert.LayersReferenceIdeal.nD Cert.LayersReferenceIdeal.τ).loc Cert.LayersReferenceIdeal.main_arg16) = m ((c.tc : Thread Cert.LayersIdeal.nD Cert.LayersIdeal.τ).loc Cert.LayersIdeal.main_arg16)
      ∧ m' ((c.tc : Thread Cert.LayersReferenceIdeal.nD Cert.LayersReferenceIdeal.τ).loc Cert.LayersReferenceIdeal.main_arg17) = m ((c.tc : Thread Cert.LayersIdeal.nD Cert.LayersIdeal.τ).loc Cert.LayersIdeal.main_arg17)
      ∧ m' ((c.tc : Thread Cert.LayersReferenceIdeal.nD Cert.LayersReferenceIdeal.τ).loc Cert.LayersReferenceIdeal.main_arg18) = m ((c.tc : Thread Cert.LayersIdeal.nD Cert.LayersIdeal.τ).loc Cert.LayersIdeal.main_arg18)
      ∧ m' ((c.tc : Thread Cert.LayersReferenceIdeal.nD Cert.LayersReferenceIdeal.τ).loc Cert.LayersReferenceIdeal.main_arg19) = m ((c.tc : Thread Cert.LayersIdeal.nD Cert.LayersIdeal.τ).loc Cert.LayersIdeal.main_arg19)
      ∧ m' ((c.tc : Thread Cert.LayersReferenceIdeal.nD Cert.LayersReferenceIdeal.τ).loc Cert.LayersReferenceIdeal.main_arg20) = m ((c.tc : Thread Cert.LayersIdeal.nD Cert.LayersIdeal.τ).loc Cert.LayersIdeal.main_arg20)
      ∧ m' ((c.tc : Thread Cert.LayersReferenceIdeal.nD Cert.LayersReferenceIdeal.τ).loc Cert.LayersReferenceIdeal.main_arg21) = m ((c.tc : Thread Cert.LayersIdeal.nD Cert.LayersIdeal.τ).loc Cert.LayersIdeal.main_arg21)
      ∧ m' ((c.tc : Thread Cert.LayersReferenceIdeal.nD Cert.LayersReferenceIdeal.τ).loc Cert.LayersReferenceIdeal.main_arg22) = m ((c.tc : Thread Cert.LayersIdeal.nD Cert.LayersIdeal.τ).loc Cert.LayersIdeal.main_arg22)
      ∧ m' ((c.tc : Thread Cert.LayersReferenceIdeal.nD Cert.LayersReferenceIdeal.τ).loc Cert.LayersReferenceIdeal.main_arg23) = m ((c.tc : Thread Cert.LayersIdeal.nD Cert.LayersIdeal.τ).loc Cert.LayersIdeal.main_arg23)
      ∧ m' ((c.tc : Thread Cert.LayersReferenceIdeal.nD Cert.LayersReferenceIdeal.τ).loc Cert.LayersReferenceIdeal.main_arg24) = m ((c.tc : Thread Cert.LayersIdeal.nD Cert.LayersIdeal.τ).loc Cert.LayersIdeal.main_arg24)
      ∧ m' ((c.tc : Thread Cert.LayersReferenceIdeal.nD Cert.LayersReferenceIdeal.τ).loc Cert.LayersReferenceIdeal.main_arg25) = m ((c.tc : Thread Cert.LayersIdeal.nD Cert.LayersIdeal.τ).loc Cert.LayersIdeal.main_arg25)) →
    ∃ (v0 : (c : Dev Cert.LayersIdeal.nD) → Buf (Elt Ideal) ((c.tc : Thread Cert.LayersIdeal.nD Cert.LayersIdeal.τ).loc Cert.LayersIdeal.main_v43)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v43) = v0 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
          ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
          ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
          ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
          ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
          ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
          ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17)
          ∧ r.2.mem ((c.tc : Thread Cert.LayersIdeal.nD Cert.LayersIdeal.τ).loc Cert.LayersIdeal.main_arg18) = m ((c.tc : Thread Cert.LayersIdeal.nD Cert.LayersIdeal.τ).loc Cert.LayersIdeal.main_arg18)
          ∧ r.2.mem ((c.tc : Thread Cert.LayersIdeal.nD Cert.LayersIdeal.τ).loc Cert.LayersIdeal.main_arg19) = m ((c.tc : Thread Cert.LayersIdeal.nD Cert.LayersIdeal.τ).loc Cert.LayersIdeal.main_arg19)
          ∧ r.2.mem ((c.tc : Thread Cert.LayersIdeal.nD Cert.LayersIdeal.τ).loc Cert.LayersIdeal.main_arg20) = m ((c.tc : Thread Cert.LayersIdeal.nD Cert.LayersIdeal.τ).loc Cert.LayersIdeal.main_arg20)
          ∧ r.2.mem ((c.tc : Thread Cert.LayersIdeal.nD Cert.LayersIdeal.τ).loc Cert.LayersIdeal.main_arg21) = m ((c.tc : Thread Cert.LayersIdeal.nD Cert.LayersIdeal.τ).loc Cert.LayersIdeal.main_arg21)
          ∧ r.2.mem ((c.tc : Thread Cert.LayersIdeal.nD Cert.LayersIdeal.τ).loc Cert.LayersIdeal.main_arg22) = m ((c.tc : Thread Cert.LayersIdeal.nD Cert.LayersIdeal.τ).loc Cert.LayersIdeal.main_arg22)
          ∧ r.2.mem ((c.tc : Thread Cert.LayersIdeal.nD Cert.LayersIdeal.τ).loc Cert.LayersIdeal.main_arg23) = m ((c.tc : Thread Cert.LayersIdeal.nD Cert.LayersIdeal.τ).loc Cert.LayersIdeal.main_arg23)
          ∧ r.2.mem ((c.tc : Thread Cert.LayersIdeal.nD Cert.LayersIdeal.τ).loc Cert.LayersIdeal.main_arg24) = m ((c.tc : Thread Cert.LayersIdeal.nD Cert.LayersIdeal.τ).loc Cert.LayersIdeal.main_arg24)
          ∧ r.2.mem ((c.tc : Thread Cert.LayersIdeal.nD Cert.LayersIdeal.τ).loc Cert.LayersIdeal.main_arg25) = m ((c.tc : Thread Cert.LayersIdeal.nD Cert.LayersIdeal.τ).loc Cert.LayersIdeal.main_arg25))
      ∧ θ_run (Cert.LayersReferenceIdeal.defs (F := Ideal)) (onTc (τ := Cert.LayersReferenceIdeal.τ) (Cert.LayersReferenceIdeal.main (F := Ideal))) ⟨m', fun _ => 0, g'⟩ (fun r => ∀ c : Dev Cert.LayersReferenceIdeal.nD,
          r.2.mem ((c.tc : Thread Cert.LayersReferenceIdeal.nD Cert.LayersReferenceIdeal.τ).loc Cert.LayersReferenceIdeal.main_v249) = v0 c
          ∧ r.2.mem ((c.tc : Thread Cert.LayersReferenceIdeal.nD Cert.LayersReferenceIdeal.τ).loc Cert.LayersReferenceIdeal.main_arg0) = m' ((c.tc : Thread Cert.LayersReferenceIdeal.nD Cert.LayersReferenceIdeal.τ).loc Cert.LayersReferenceIdeal.main_arg0)
          ∧ r.2.mem ((c.tc : Thread Cert.LayersReferenceIdeal.nD Cert.LayersReferenceIdeal.τ).loc Cert.LayersReferenceIdeal.main_arg1) = m' ((c.tc : Thread Cert.LayersReferenceIdeal.nD Cert.LayersReferenceIdeal.τ).loc Cert.LayersReferenceIdeal.main_arg1)
          ∧ r.2.mem ((c.tc : Thread Cert.LayersReferenceIdeal.nD Cert.LayersReferenceIdeal.τ).loc Cert.LayersReferenceIdeal.main_arg2) = m' ((c.tc : Thread Cert.LayersReferenceIdeal.nD Cert.LayersReferenceIdeal.τ).loc Cert.LayersReferenceIdeal.main_arg2)
          ∧ r.2.mem ((c.tc : Thread Cert.LayersReferenceIdeal.nD Cert.LayersReferenceIdeal.τ).loc Cert.LayersReferenceIdeal.main_arg3) = m' ((c.tc : Thread Cert.LayersReferenceIdeal.nD Cert.LayersReferenceIdeal.τ).loc Cert.LayersReferenceIdeal.main_arg3)
          ∧ r.2.mem ((c.tc : Thread Cert.LayersReferenceIdeal.nD Cert.LayersReferenceIdeal.τ).loc Cert.LayersReferenceIdeal.main_arg4) = m' ((c.tc : Thread Cert.LayersReferenceIdeal.nD Cert.LayersReferenceIdeal.τ).loc Cert.LayersReferenceIdeal.main_arg4)
          ∧ r.2.mem ((c.tc : Thread Cert.LayersReferenceIdeal.nD Cert.LayersReferenceIdeal.τ).loc Cert.LayersReferenceIdeal.main_arg5) = m' ((c.tc : Thread Cert.LayersReferenceIdeal.nD Cert.LayersReferenceIdeal.τ).loc Cert.LayersReferenceIdeal.main_arg5)
          ∧ r.2.mem ((c.tc : Thread Cert.LayersReferenceIdeal.nD Cert.LayersReferenceIdeal.τ).loc Cert.LayersReferenceIdeal.main_arg6) = m' ((c.tc : Thread Cert.LayersReferenceIdeal.nD Cert.LayersReferenceIdeal.τ).loc Cert.LayersReferenceIdeal.main_arg6)
          ∧ r.2.mem ((c.tc : Thread Cert.LayersReferenceIdeal.nD Cert.LayersReferenceIdeal.τ).loc Cert.LayersReferenceIdeal.main_arg7) = m' ((c.tc : Thread Cert.LayersReferenceIdeal.nD Cert.LayersReferenceIdeal.τ).loc Cert.LayersReferenceIdeal.main_arg7)
          ∧ r.2.mem ((c.tc : Thread Cert.LayersReferenceIdeal.nD Cert.LayersReferenceIdeal.τ).loc Cert.LayersReferenceIdeal.main_arg8) = m' ((c.tc : Thread Cert.LayersReferenceIdeal.nD Cert.LayersReferenceIdeal.τ).loc Cert.LayersReferenceIdeal.main_arg8)
          ∧ r.2.mem ((c.tc : Thread Cert.LayersReferenceIdeal.nD Cert.LayersReferenceIdeal.τ).loc Cert.LayersReferenceIdeal.main_arg9) = m' ((c.tc : Thread Cert.LayersReferenceIdeal.nD Cert.LayersReferenceIdeal.τ).loc Cert.LayersReferenceIdeal.main_arg9)
          ∧ r.2.mem ((c.tc : Thread Cert.LayersReferenceIdeal.nD Cert.LayersReferenceIdeal.τ).loc Cert.LayersReferenceIdeal.main_arg10) = m' ((c.tc : Thread Cert.LayersReferenceIdeal.nD Cert.LayersReferenceIdeal.τ).loc Cert.LayersReferenceIdeal.main_arg10)
          ∧ r.2.mem ((c.tc : Thread Cert.LayersReferenceIdeal.nD Cert.LayersReferenceIdeal.τ).loc Cert.LayersReferenceIdeal.main_arg11) = m' ((c.tc : Thread Cert.LayersReferenceIdeal.nD Cert.LayersReferenceIdeal.τ).loc Cert.LayersReferenceIdeal.main_arg11)
          ∧ r.2.mem ((c.tc : Thread Cert.LayersReferenceIdeal.nD Cert.LayersReferenceIdeal.τ).loc Cert.LayersReferenceIdeal.main_arg12) = m' ((c.tc : Thread Cert.LayersReferenceIdeal.nD Cert.LayersReferenceIdeal.τ).loc Cert.LayersReferenceIdeal.main_arg12)
          ∧ r.2.mem ((c.tc : Thread Cert.LayersReferenceIdeal.nD Cert.LayersReferenceIdeal.τ).loc Cert.LayersReferenceIdeal.main_arg13) = m' ((c.tc : Thread Cert.LayersReferenceIdeal.nD Cert.LayersReferenceIdeal.τ).loc Cert.LayersReferenceIdeal.main_arg13)
          ∧ r.2.mem ((c.tc : Thread Cert.LayersReferenceIdeal.nD Cert.LayersReferenceIdeal.τ).loc Cert.LayersReferenceIdeal.main_arg14) = m' ((c.tc : Thread Cert.LayersReferenceIdeal.nD Cert.LayersReferenceIdeal.τ).loc Cert.LayersReferenceIdeal.main_arg14)
          ∧ r.2.mem ((c.tc : Thread Cert.LayersReferenceIdeal.nD Cert.LayersReferenceIdeal.τ).loc Cert.LayersReferenceIdeal.main_arg15) = m' ((c.tc : Thread Cert.LayersReferenceIdeal.nD Cert.LayersReferenceIdeal.τ).loc Cert.LayersReferenceIdeal.main_arg15)
          ∧ r.2.mem ((c.tc : Thread Cert.LayersReferenceIdeal.nD Cert.LayersReferenceIdeal.τ).loc Cert.LayersReferenceIdeal.main_arg16) = m' ((c.tc : Thread Cert.LayersReferenceIdeal.nD Cert.LayersReferenceIdeal.τ).loc Cert.LayersReferenceIdeal.main_arg16)
          ∧ r.2.mem ((c.tc : Thread Cert.LayersReferenceIdeal.nD Cert.LayersReferenceIdeal.τ).loc Cert.LayersReferenceIdeal.main_arg17) = m' ((c.tc : Thread Cert.LayersReferenceIdeal.nD Cert.LayersReferenceIdeal.τ).loc Cert.LayersReferenceIdeal.main_arg17)
          ∧ r.2.mem ((c.tc : Thread Cert.LayersReferenceIdeal.nD Cert.LayersReferenceIdeal.τ).loc Cert.LayersReferenceIdeal.main_arg18) = m' ((c.tc : Thread Cert.LayersReferenceIdeal.nD Cert.LayersReferenceIdeal.τ).loc Cert.LayersReferenceIdeal.main_arg18)
          ∧ r.2.mem ((c.tc : Thread Cert.LayersReferenceIdeal.nD Cert.LayersReferenceIdeal.τ).loc Cert.LayersReferenceIdeal.main_arg19) = m' ((c.tc : Thread Cert.LayersReferenceIdeal.nD Cert.LayersReferenceIdeal.τ).loc Cert.LayersReferenceIdeal.main_arg19)
          ∧ r.2.mem ((c.tc : Thread Cert.LayersReferenceIdeal.nD Cert.LayersReferenceIdeal.τ).loc Cert.LayersReferenceIdeal.main_arg20) = m' ((c.tc : Thread Cert.LayersReferenceIdeal.nD Cert.LayersReferenceIdeal.τ).loc Cert.LayersReferenceIdeal.main_arg20)
          ∧ r.2.mem ((c.tc : Thread Cert.LayersReferenceIdeal.nD Cert.LayersReferenceIdeal.τ).loc Cert.LayersReferenceIdeal.main_arg21) = m' ((c.tc : Thread Cert.LayersReferenceIdeal.nD Cert.LayersReferenceIdeal.τ).loc Cert.LayersReferenceIdeal.main_arg21)
          ∧ r.2.mem ((c.tc : Thread Cert.LayersReferenceIdeal.nD Cert.LayersReferenceIdeal.τ).loc Cert.LayersReferenceIdeal.main_arg22) = m' ((c.tc : Thread Cert.LayersReferenceIdeal.nD Cert.LayersReferenceIdeal.τ).loc Cert.LayersReferenceIdeal.main_arg22)
          ∧ r.2.mem ((c.tc : Thread Cert.LayersReferenceIdeal.nD Cert.LayersReferenceIdeal.τ).loc Cert.LayersReferenceIdeal.main_arg23) = m' ((c.tc : Thread Cert.LayersReferenceIdeal.nD Cert.LayersReferenceIdeal.τ).loc Cert.LayersReferenceIdeal.main_arg23)
          ∧ r.2.mem ((c.tc : Thread Cert.LayersReferenceIdeal.nD Cert.LayersReferenceIdeal.τ).loc Cert.LayersReferenceIdeal.main_arg24) = m' ((c.tc : Thread Cert.LayersReferenceIdeal.nD Cert.LayersReferenceIdeal.τ).loc Cert.LayersReferenceIdeal.main_arg24)
          ∧ r.2.mem ((c.tc : Thread Cert.LayersReferenceIdeal.nD Cert.LayersReferenceIdeal.τ).loc Cert.LayersReferenceIdeal.main_arg25) = m' ((c.tc : Thread Cert.LayersReferenceIdeal.nD Cert.LayersReferenceIdeal.τ).loc Cert.LayersReferenceIdeal.main_arg25))

def preserves_Points_PointsIdeal : Prop :=
  IdealRules.named_const.Statement Cert.PointsIdeal.κ "inv_r" .f32 0x40555555#32 (((5033165 / 16777216)⁻¹ : ℝ) : EReal)

def algebraic_PointsIdeal_PointsReferenceIdeal_pre_sampled [hPointsIdeal : Cert.PointsIdeal.Facts] [hPointsReferenceIdeal : Cert.PointsReferenceIdeal.Facts] [hPre_sampled : Cert.Pre_sampled.Facts] : Prop :=
  ∀ (m : (ℓ : Loc Cert.PointsIdeal.nD Cert.PointsIdeal.τ Cert.PointsIdeal.sig) → Buf (Elt Ideal) ℓ) (g : Dev Cert.PointsIdeal.nD → PrngReg)
    (m' : (ℓ : Loc Cert.PointsReferenceIdeal.nD Cert.PointsReferenceIdeal.τ Cert.PointsReferenceIdeal.sig) → Buf (Elt Ideal) ℓ) (g' : Dev Cert.PointsReferenceIdeal.nD → PrngReg), Pre_PointsIdeal_sampled m →
    (∀ c : Dev Cert.PointsIdeal.nD,
      m' ((c.tc : Thread Cert.PointsReferenceIdeal.nD Cert.PointsReferenceIdeal.τ).loc Cert.PointsReferenceIdeal.main_arg0) = m ((c.tc : Thread Cert.PointsIdeal.nD Cert.PointsIdeal.τ).loc Cert.PointsIdeal.main_arg0)
      ∧ m' ((c.tc : Thread Cert.PointsReferenceIdeal.nD Cert.PointsReferenceIdeal.τ).loc Cert.PointsReferenceIdeal.main_arg1) = m ((c.tc : Thread Cert.PointsIdeal.nD Cert.PointsIdeal.τ).loc Cert.PointsIdeal.main_arg1)
      ∧ m' ((c.tc : Thread Cert.PointsReferenceIdeal.nD Cert.PointsReferenceIdeal.τ).loc Cert.PointsReferenceIdeal.main_arg2) = m ((c.tc : Thread Cert.PointsIdeal.nD Cert.PointsIdeal.τ).loc Cert.PointsIdeal.main_arg2)
      ∧ m' ((c.tc : Thread Cert.PointsReferenceIdeal.nD Cert.PointsReferenceIdeal.τ).loc Cert.PointsReferenceIdeal.main_arg3) = m ((c.tc : Thread Cert.PointsIdeal.nD Cert.PointsIdeal.τ).loc Cert.PointsIdeal.main_arg3)) →
    ∃ (v0 : (c : Dev Cert.PointsIdeal.nD) → Buf (Elt Ideal) ((c.tc : Thread Cert.PointsIdeal.nD Cert.PointsIdeal.τ).loc Cert.PointsIdeal.main_v13_0)) (v1 : (c : Dev Cert.PointsIdeal.nD) → Buf (Elt Ideal) ((c.tc : Thread Cert.PointsIdeal.nD Cert.PointsIdeal.τ).loc Cert.PointsIdeal.main_v13_1)) (v2 : (c : Dev Cert.PointsIdeal.nD) → Buf (Elt Ideal) ((c.tc : Thread Cert.PointsIdeal.nD Cert.PointsIdeal.τ).loc Cert.PointsIdeal.main_v13_2)) (v3 : (c : Dev Cert.PointsIdeal.nD) → Buf (Elt Ideal) ((c.tc : Thread Cert.PointsIdeal.nD Cert.PointsIdeal.τ).loc Cert.PointsIdeal.main_v13_3)) (v4 : (c : Dev Cert.PointsIdeal.nD) → Buf (Elt Ideal) ((c.tc : Thread Cert.PointsIdeal.nD Cert.PointsIdeal.τ).loc Cert.PointsIdeal.main_v13_4)),
      θ_run (Cert.PointsIdeal.defs (F := Ideal)) (onTc (τ := Cert.PointsIdeal.τ) (Cert.PointsIdeal.main (F := Ideal))) ⟨m, fun _ => 0, g⟩ (fun r => ∀ c : Dev Cert.PointsIdeal.nD,
          r.2.mem ((c.tc : Thread Cert.PointsIdeal.nD Cert.PointsIdeal.τ).loc Cert.PointsIdeal.main_v13_0) = v0 c
          ∧ r.2.mem ((c.tc : Thread Cert.PointsIdeal.nD Cert.PointsIdeal.τ).loc Cert.PointsIdeal.main_v13_1) = v1 c
          ∧ r.2.mem ((c.tc : Thread Cert.PointsIdeal.nD Cert.PointsIdeal.τ).loc Cert.PointsIdeal.main_v13_2) = v2 c
          ∧ r.2.mem ((c.tc : Thread Cert.PointsIdeal.nD Cert.PointsIdeal.τ).loc Cert.PointsIdeal.main_v13_3) = v3 c
          ∧ r.2.mem ((c.tc : Thread Cert.PointsIdeal.nD Cert.PointsIdeal.τ).loc Cert.PointsIdeal.main_v13_4) = v4 c
          ∧ r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
          ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
          ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
          ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3))
      ∧ θ_run (Cert.PointsReferenceIdeal.defs (F := Ideal)) (onTc (τ := Cert.PointsReferenceIdeal.τ) (Cert.PointsReferenceIdeal.main (F := Ideal))) ⟨m', fun _ => 0, g'⟩ (fun r => ∀ c : Dev Cert.PointsReferenceIdeal.nD,
          r.2.mem ((c.tc : Thread Cert.PointsReferenceIdeal.nD Cert.PointsReferenceIdeal.τ).loc Cert.PointsReferenceIdeal.main_v40) = v0 c
          ∧ r.2.mem ((c.tc : Thread Cert.PointsReferenceIdeal.nD Cert.PointsReferenceIdeal.τ).loc Cert.PointsReferenceIdeal.main_v61) = v1 c
          ∧ r.2.mem ((c.tc : Thread Cert.PointsReferenceIdeal.nD Cert.PointsReferenceIdeal.τ).loc Cert.PointsReferenceIdeal.main_v66) = v2 c
          ∧ r.2.mem ((c.tc : Thread Cert.PointsReferenceIdeal.nD Cert.PointsReferenceIdeal.τ).loc Cert.PointsReferenceIdeal.main_v70) = v3 c
          ∧ r.2.mem ((c.tc : Thread Cert.PointsReferenceIdeal.nD Cert.PointsReferenceIdeal.τ).loc Cert.PointsReferenceIdeal.main_v72) = v4 c
          ∧ r.2.mem ((c.tc : Thread Cert.PointsReferenceIdeal.nD Cert.PointsReferenceIdeal.τ).loc Cert.PointsReferenceIdeal.main_arg0) = m' ((c.tc : Thread Cert.PointsReferenceIdeal.nD Cert.PointsReferenceIdeal.τ).loc Cert.PointsReferenceIdeal.main_arg0)
          ∧ r.2.mem ((c.tc : Thread Cert.PointsReferenceIdeal.nD Cert.PointsReferenceIdeal.τ).loc Cert.PointsReferenceIdeal.main_arg1) = m' ((c.tc : Thread Cert.PointsReferenceIdeal.nD Cert.PointsReferenceIdeal.τ).loc Cert.PointsReferenceIdeal.main_arg1)
          ∧ r.2.mem ((c.tc : Thread Cert.PointsReferenceIdeal.nD Cert.PointsReferenceIdeal.τ).loc Cert.PointsReferenceIdeal.main_arg2) = m' ((c.tc : Thread Cert.PointsReferenceIdeal.nD Cert.PointsReferenceIdeal.τ).loc Cert.PointsReferenceIdeal.main_arg2)
          ∧ r.2.mem ((c.tc : Thread Cert.PointsReferenceIdeal.nD Cert.PointsReferenceIdeal.τ).loc Cert.PointsReferenceIdeal.main_arg3) = m' ((c.tc : Thread Cert.PointsReferenceIdeal.nD Cert.PointsReferenceIdeal.τ).loc Cert.PointsReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hLayers : Cert.Layers.Facts) (hLayersIdeal : Cert.LayersIdeal.Facts) (hLayersReferenceIdeal : Cert.LayersReferenceIdeal.Facts) (hPoints : Cert.Points.Facts) (hPointsIdeal : Cert.PointsIdeal.Facts) (hPointsReferenceIdeal : Cert.PointsReferenceIdeal.Facts) (hPre_in_range : Cert.Pre_in_range.Facts) (hPre_sampled : Cert.Pre_sampled.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Layers (hLayers := hLayers)
    ∧ quiescent_LayersIdeal (hLayersIdeal := hLayersIdeal)
    ∧ quiescent_LayersReferenceIdeal (hLayersReferenceIdeal := hLayersReferenceIdeal)
    ∧ quiescent_Points (hPoints := hPoints)
    ∧ quiescent_PointsIdeal (hPointsIdeal := hPointsIdeal)
    ∧ quiescent_PointsIdeal_pre_sampled (hPointsIdeal := hPointsIdeal) (hPre_sampled := hPre_sampled)
    ∧ quiescent_PointsReferenceIdeal (hPointsReferenceIdeal := hPointsReferenceIdeal)
    ∧ quiescent_PointsReferenceIdeal_pre_sampled (hPointsReferenceIdeal := hPointsReferenceIdeal) (hPre_sampled := hPre_sampled)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Layers_LayersIdeal
    ∧ algebraic_LayersIdeal_LayersReferenceIdeal (hLayersIdeal := hLayersIdeal) (hLayersReferenceIdeal := hLayersReferenceIdeal)
    ∧ preserves_Points_PointsIdeal
    ∧ algebraic_PointsIdeal_PointsReferenceIdeal_pre_sampled (hPointsIdeal := hPointsIdeal) (hPointsReferenceIdeal := hPointsReferenceIdeal) (hPre_sampled := hPre_sampled)
-- ==== Pre_in_range.lean ====
abbrev S8x1024x128 : Shape := ⟨3, ![8, 1024, 128]⟩
abbrev S8x256x16 : Shape := ⟨3, ![8, 256, 16]⟩
abbrev S_ : Shape := ⟨0, ![]⟩

class Facts : Prop where
  bcast_S_S8x256x16 : S_.BroadcastsInDim S8x256x16 (![] : Fin 0 → Fin S8x256x16.rank)
  reducesTo_S8x256x16_S_d0_1_2 : S8x256x16.ReducesTo [0, 1, 2] S_
  h_S_ : 0 < S_.numel

variable [Facts]

def fn {F : FTy → Type} [FloatOps F] (main_arg0 : FVec F S8x1024x128 .f32) (main_arg1 : IVec S8x256x16 32) : IVec S_ 1 :=
  let main_c : IVec S_ 32 := constantI S_ 32 0#32
  let main_v0 : IVec S8x256x16 32 := broadcastInDim S8x256x16 ![] bcast_S_S8x256x16 main_c
  let main_v1 : IVec S8x256x16 1 := cmpi .sge main_arg1 main_v0
  let main_c_0 : IVec S_ 1 := constantI S_ 1 1#1
  let main_v2 : IVec S_ 1 := (fun x v => Host.reduce IntOp.andi x v reducesTo_S8x256x16_S_d0_1_2 h_S_) main_v1 main_c_0
  let main_c_1 : IVec S_ 32 := constantI S_ 32 8192#32
  let main_v3 : IVec S8x256x16 32 := broadcastInDim S8x256x16 ![] bcast_S_S8x256x16 main_c_1
  let main_v4 : IVec S8x256x16 1 := cmpi .slt main_arg1 main_v3
  let main_c_2 : IVec S_ 1 := constantI S_ 1 1#1
  let main_v5 : IVec S_ 1 := (fun x v => Host.reduce IntOp.andi x v reducesTo_S8x256x16_S_d0_1_2 h_S_) main_v4 main_c_2
  let main_v6 : IVec S_ 1 := andi main_v2 main_v5
  main_v6
-- ==== Pre_sampled.lean ====
abbrev S8x1024x3 : Shape := ⟨3, ![8, 1024, 3]⟩
abbrev S8x256x1024 : Shape := ⟨3, ![8, 256, 1024]⟩
abbrev S8x256 : Shape := ⟨2, ![8, 256]⟩
abbrev S128x259 : Shape := ⟨2, ![128, 259]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S8x1024x3 .f32) (main_arg1 : FVec F S8x256x1024 .f32) (main_arg2 : IVec S8x256 32) (main_arg3 : FVec F S128x259 .f32) : IVec S_ 1 :=
  let main_v0 : FVec F S8x1024x3 .f32 := Host.absf main_arg0
  let main_cst : FVec F S_ .f32 := constant S_ .f32 0x70622EA5#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_c_0 : IVec S_ 32 := constantI S_ 32 0#32
  let main_v4 : IVec S8x256 32 := broadcastInDim S8x256 ![] bcast_S_S8x256 main_c_0
  let main_v5 : IVec S8x256 1 := cmpi .sge main_arg2 main_v4
  let main_c_1 : IVec S_ 1 := constantI S_ 1 1#1
  let main_v6 : IVec S_ 1 := (fun x v => Host.reduce IntOp.andi x v reducesTo_S8x256_S_d0_1 h_S_) main_v5 main_c_1
  let main_v7 : IVec S_ 1 := andi main_v3 main_v6
  let main_c_2 : IVec S_ 32 := constantI S_ 32 1024#32
  let main_v8 : IVec S8x256 32 := broadcastInDim S8x256 ![] bcast_S_S8x256 main_c_2
  let main_v9 : IVec S8x256 1 := cmpi .slt main_arg2 main_v8
  let main_c_3 : IVec S_ 1 := constantI S_ 1 1#1
  let main_v10 : IVec S_ 1 := (fun x v => Host.reduce IntOp.andi x v reducesTo_S8x256_S_d0_1 h_S_) main_v9 main_c_3
  let main_v11 : IVec S_ 1 := andi main_v7 main_v10
  main_v11
-- ==== Kernel.lean ====
abbrev S8x1024x128 : Shape := ⟨3, ![8, 1024, 128]⟩
abbrev S8x256x16 : Shape := ⟨3, ![8, 256, 16]⟩
abbrev S8192x128 : Shape := ⟨2, ![8192, 128]⟩
abbrev S32768 : Shape := ⟨1, ![32768]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S8x4096x128 : Shape := ⟨3, ![8, 4096, 128]⟩

abbrev nBuf : Table → Nat
  | .hbm => 7
  | .local .scVector .vmem => 2
  | _ => 0

abbrev bufTy : (tb : Table) → Fin (nBuf tb) → BufTy
  | .hbm, ⟨0, _⟩ => ⟨S8x1024x128, .f32⟩
  | .hbm, ⟨1, _⟩ => ⟨S8x256x16, .i32⟩
  | .hbm, ⟨2, _⟩ => ⟨S8192x128, .f32⟩
  | .hbm, ⟨3, _⟩ => ⟨S32768, .i32⟩
  | .hbm, ⟨4, _⟩ => ⟨S1x32768, .i32⟩
  | .hbm, ⟨5, _⟩ => ⟨S32768x128, .f32⟩
  | .hbm, ⟨6, _⟩ => ⟨S8x4096x128, .f32⟩
  | .local .scVector .vmem, ⟨0, _⟩ => ⟨S2x1x128, .i32⟩
  | .local .scVector .vmem, ⟨1, _⟩ => ⟨S2x128x128, .f32⟩
  | _, _ => ⟨S8x1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x1024x128 : Shape := ⟨3, ![8, 1024, 128]⟩
abbrev S8x256x16 : Shape := ⟨3, ![8, 256, 16]⟩
abbrev S8192x128 : Shape := ⟨2, ![8192, 128]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S8x4096x128 : Shape := ⟨3, ![8, 4096, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x256x16, .i32⟩
  | .hbm, ⟨2, _⟩ => ⟨S8192x128, .f32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x128, .f32⟩
  | .hbm, ⟨13, _⟩ => ⟨S8x4096x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Layers.lean ====
abbrev S8x4096x128 : Shape := ⟨3, ![8, 4096, 128]⟩
abbrev S8x256x128 : Shape := ⟨3, ![8, 256, 128]⟩
abbrev S8x256x256 : Shape := ⟨3, ![8, 256, 256]⟩
abbrev S8x256x16 : Shape := ⟨3, ![8, 256, 16]⟩
abbrev S128 : Shape := ⟨1, ![128]⟩
abbrev S128x128 : Shape := ⟨2, ![128, 128]⟩
abbrev S4x128x128 : Shape := ⟨3, ![4, 128, 128]⟩
abbrev S4x256 : Shape := ⟨2, ![4, 256]⟩
abbrev S512x128 : Shape := ⟨2, ![512, 128]⟩
abbrev S256 : Shape := ⟨1, ![256]⟩
abbrev S119x128 : Shape := ⟨2, ![119, 128]⟩
abbrev S119 : Shape := ⟨1, ![119]⟩
abbrev S128x119 : Shape := ⟨2, ![128, 119]⟩
abbrev S_ : Shape := ⟨0, ![]⟩
abbrev S128x9 : Shape := ⟨2, ![128, 9]⟩
abbrev S9 : Shape := ⟨1, ![9]⟩
abbrev S1x128 : Shape := ⟨2, ![1, 128]⟩
abbrev S1x256 : Shape := ⟨2, ![1, 256]⟩
abbrev S8x256x8 : Shape := ⟨3, ![8, 256, 8]⟩
abbrev S1x4096x128 : Shape := ⟨3, ![1, 4096, 128]⟩
abbrev S1x256x128 : Shape := ⟨3, ![1, 256, 128]⟩
abbrev S1x256x256 : Shape := ⟨3, ![1, 256, 256]⟩
abbrev S1x256x16 : Shape := ⟨3, ![1, 256, 16]⟩
abbrev S1x256x8 : Shape := ⟨3, ![1, 256, 8]⟩
abbrev S4096x128 : Shape := ⟨2, ![4096, 128]⟩
abbrev S256x16x128 : Shape := ⟨3, ![256, 16, 128]⟩
abbrev S256x128 : Shape := ⟨2, ![256, 128]⟩
abbrev S256x1x128 : Shape := ⟨3, ![256, 1, 128]⟩
abbrev S1x1x128 : Shape := ⟨3, ![1, 1, 128]⟩
abbrev S256x256 : Shape := ⟨2, ![256, 256]⟩
abbrev S1x128x128 : Shape := ⟨3, ![1, 128, 128]⟩
abbrev S256x1 : Shape := ⟨2, ![256, 1]⟩
abbrev S256x512 : Shape := ⟨2, ![256, 512]⟩
abbrev S256x16 : Shape := ⟨2, ![256, 16]⟩
abbrev S256x3 : Shape := ⟨2, ![256, 3]⟩
abbrev S256x5 : Shape := ⟨2, ![256, 5]⟩
abbrev S256x8 : Shape := ⟨2, ![256, 8]⟩
abbrev S8x256x119 : Shape := ⟨3, ![8, 256, 119]⟩
abbrev S8x256x3 : Shape := ⟨3, ![8, 256, 3]⟩
abbrev S8x256x122 : Shape := ⟨3, ![8, 256, 122]⟩

abbrev nBuf : Space → Nat
  | .hbm => 73
  | .vmem => 34
  | .smem => 0
  | _ => 0

abbrev bufTy : (tb : Table) → Fin (tcTables nBuf tb) → BufTy
  | .hbm, ⟨0, _⟩ => ⟨S8x4096x128, .f32⟩
  | .hbm, ⟨1, _⟩ => ⟨S8x256x128, .f32⟩
  | .hbm, ⟨2, _⟩ => ⟨S8x256x256, .f32⟩
  | .hbm, ⟨3, _⟩ => ⟨S8x256x16, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S4x128x128, .f32⟩
  | .hbm, ⟨21, _⟩ => ⟨S4x256, .f32⟩
  | .hbm, ⟨22, _⟩ => ⟨S512x128, .f32⟩
  | .hbm, ⟨23, _⟩ => ⟨S256, .f32⟩
  | .hbm, ⟨24, _⟩ => ⟨S119x128, .f32⟩
  | .hbm, ⟨25, _⟩ => ⟨S119, .f32⟩
  | .hbm, ⟨26, _⟩ => ⟨S128x119, .f32⟩
  | .hbm, ⟨27, _⟩ => ⟨S_, .f32⟩
  | .hbm, ⟨28, _⟩ => ⟨S128x9, .f32⟩
  | .hbm, ⟨29, _⟩ => ⟨S128x128, .f32⟩
  | .hbm, ⟨30, _⟩ => ⟨S_, .f32⟩
  | .hbm, ⟨31, _⟩ => ⟨S9, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S128x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x256, .f32⟩
  | .hbm, ⟨51, _⟩ => ⟨S1x128, .f32⟩
  | .hbm, ⟨52, _⟩ => ⟨S1x128, .f32⟩
  | .hbm, ⟨53, _⟩ => ⟨S128x128, .f32⟩
  | .hbm, ⟨54, _⟩ => ⟨S1x128, .f32⟩
  | .hbm, ⟨55, _⟩ => ⟨S1x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S128x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S128x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x256, .f32⟩
  | .hbm, ⟨68, _⟩ => ⟨S8x256x128, .f32⟩
  | .hbm, ⟨69, _⟩ => ⟨S8x256x8, .f32⟩
  | .hbm, ⟨70, _⟩ => ⟨S8x256x119, .f32⟩
  | .hbm, ⟨71, _⟩ => ⟨S8x256x3, .f32⟩
  | .hbm, ⟨72, _⟩ => ⟨S8x256x122, .f32⟩
  | .local _ .vmem, ⟨0, _⟩ => ⟨S1x4096x128, .f32⟩
  | .local _ .vmem, ⟨1, _⟩ => ⟨S1x4096x128, .f32⟩
  | .local _ .vmem, ⟨2, _⟩ => ⟨S1x256x128, .f32⟩
  | .local _ .vmem, ⟨3, _⟩ => ⟨S1x256x128, .f32⟩
  | .local _ .vmem, ⟨4, _⟩ => ⟨S1x256x256, .f32⟩
  | .local _ .vmem, ⟨5, _⟩ => ⟨S1x256x256, .f32⟩
  | .local _ .vmem, ⟨6, _⟩ => ⟨S1x256x16, .f32⟩
  | .local _ .vmem, ⟨7, _⟩ => ⟨S1x256x16, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4x128x128, .f32⟩
  | .local _ .vmem, ⟨25, _⟩ => ⟨S4x256, .f32⟩
  | .local _ .vmem, ⟨26, _⟩ => ⟨S512x128, .f32⟩
  | .local _ .vmem, ⟨27, _⟩ => ⟨S1x256, .f32⟩
  | .local _ .vmem, ⟨28, _⟩ => ⟨S128x128, .f32⟩
  | .local _ .vmem, ⟨29, _⟩ => ⟨S1x128, .f32⟩
  | .local _ .vmem, ⟨30, _⟩ => ⟨S1x256x128, .f32⟩
  | .local _ .vmem, ⟨31, _⟩ => ⟨S1x256x128, .f32⟩
  | .local _ .vmem, ⟨32, _⟩ => ⟨S1x256x8, .f32⟩
  | .local _ .vmem, ⟨33, _⟩ => ⟨S1x256x8, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40_0 : Ref sig .tc := ⟨.hbm, 68, rfl⟩
abbrev main_v40_1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_stg27_0 : Ref sig .tc := ⟨.vmem, 32, rfl⟩
abbrev cc0_stg27_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31
abbrev cc0_sem27_0 : DmaSem sig := 32
abbrev cc0_sem27_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1x256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x256x8 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== LayersIdeal.lean ====
variable {F : FTy → Type} [FloatOps F] [Named F]
def κ : String → Option EReal := fun
  | "inv_bn" => some (((Real.sqrt (2097173 / 2097152))⁻¹ : ℝ) : EReal)
  | _ => none
-- ==== LayersReferenceIdeal.lean ====
abbrev S8x4096x128 : Shape := ⟨3, ![8, 4096, 128]⟩
abbrev S8x256x128 : Shape := ⟨3, ![8, 256, 128]⟩
abbrev S8x256x256 : Shape := ⟨3, ![8, 256, 256]⟩
abbrev S8x256x16 : Shape := ⟨3, ![8, 256, 16]⟩
abbrev S128 : Shape := ⟨1, ![128]⟩
abbrev S128x128 : Shape := ⟨2, ![128, 128]⟩
abbrev S4x128x128 : Shape := ⟨3, ![4, 128, 128]⟩
abbrev S4x256 : Shape := ⟨2, ![4, 256]⟩
abbrev S512x128 : Shape := ⟨2, ![512, 128]⟩
abbrev S256 : Shape := ⟨1, ![256]⟩
abbrev S119x128 : Shape := ⟨2, ![119, 128]⟩
abbrev S119 : Shape := ⟨1, ![119]⟩
abbrev S8x256x16x128 : Shape := ⟨4, ![8, 256, 16, 128]⟩
abbrev S8x256x1x128 : Shape := ⟨4, ![8, 256, 1, 128]⟩
abbrev S1x1x1x128 : Shape := ⟨4, ![1, 1, 1, 128]⟩
abbrev S_ : Shape := ⟨0, ![]⟩
abbrev S1x1x128 : Shape := ⟨3, ![1, 1, 128]⟩
abbrev S1x128x128 : Shape := ⟨3, ![1, 128, 128]⟩
abbrev S1x256 : Shape := ⟨2, ![1, 256]⟩
abbrev S8x256 : Shape := ⟨2, ![8, 256]⟩
abbrev S8x256x1 : Shape := ⟨3, ![8, 256, 1]⟩
abbrev S8x1x256 : Shape := ⟨3, ![8, 1, 256]⟩
abbrev S8x256x512 : Shape := ⟨3, ![8, 256, 512]⟩
abbrev S8x256x119 : Shape := ⟨3, ![8, 256, 119]⟩
abbrev S1x1x119 : Shape := ⟨3, ![1, 1, 119]⟩
abbrev S8x256x3 : Shape := ⟨3, ![8, 256, 3]⟩
abbrev S8x256x122 : Shape := ⟨3, ![8, 256, 122]⟩

abbrev nBuf : Space → Nat
  | .hbm => 407
  | .vmem => 0
  | .smem => 0
  | _ => 0

abbrev hbmTy0_0 (i : Nat) : BufTy := match i % 128 with
  | 0 => ⟨S8x4096x128, .f32⟩
  | 1 => ⟨S8x256x128, .f32⟩
  | 2 => ⟨S8x256x256, .f32⟩
  | 3 => ⟨S8x256x16, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x128, .f32⟩
  | 17 => ⟨S128, .f32⟩
  | 18 => ⟨S128, .f32⟩
  | 19 => ⟨S128, .f32⟩
  | 20 => ⟨S4x128x128, .f32⟩
  | 21 => ⟨S4x256, .f32⟩
  | 22 => ⟨S512x128, .f32⟩
  | 23 => ⟨S256, .f32⟩
  | 24 => ⟨S119x128, .f32⟩
  | 25 => ⟨S119, .f32⟩
  | 26 => ⟨S8x256x16x128, .f32⟩
  | 27 => ⟨S8x256x1x128, .f32⟩
  | 28 => ⟨S8x256x16x128, .f32⟩
  | 29 => ⟨S8x256x16x128, .f32⟩
  | 30 => ⟨S1x1x1x128, .f32⟩
  | 31 => ⟨S8x256x16x128, .f32⟩
  | 32 => ⟨S8x256x16x128, .f32⟩
  | 33 => ⟨S_, .f32⟩
  | 34 => ⟨S_, .f32⟩
  | 35 => ⟨S_, .f32⟩
  | 36 => ⟨S8x256x16x128, .f32⟩
  | 37 => ⟨S8x256x16x128, .f32⟩
  | 38 => ⟨S1x1x1x128, .f32⟩
  | 39 => ⟨S8x256x16x128, .f32⟩
  | 40 => ⟨S8x256x16x128, .f32⟩
  | 41 => ⟨S_, .f32⟩
  | 42 => ⟨S8x256x16x128, .f32⟩
  | 43 => ⟨S8x256x16x128, .f32⟩
  | 44 => ⟨S8x256x16x128, .f32⟩
  | 45 => ⟨S1x1x1x128, .f32⟩
  | 46 => ⟨S8x256x16x128, .f32⟩
  | 47 => ⟨S8x256x16x128, .f32⟩
  | 48 => ⟨S_, .f32⟩
  | 49 => ⟨S_, .f32⟩
  | 50 => ⟨S_, .f32⟩
  | 51 => ⟨S8x256x16x128, .f32⟩
  | 52 => ⟨S8x256x16x128, .f32⟩
  | 53 => ⟨S1x1x1x128, .f32⟩
  | 54 => ⟨S8x256x16x128, .f32⟩
  | 55 => ⟨S8x256x16x128, .f32⟩
  | 56 => ⟨S_, .f32⟩
  | 57 => ⟨S8x256x16x128, .f32⟩
  | 58 => ⟨S8x256x16x128, .f32⟩
  | 59 => ⟨S8x256x16x128, .f32⟩
  | 60 => ⟨S1x1x1x128, .f32⟩
  | 61 => ⟨S8x256x16x128, .f32⟩
  | 62 => ⟨S8x256x16x128, .f32⟩
  | 63 => ⟨S_, .f32⟩
  | 64 => ⟨S_, .f32⟩
  | 65 => ⟨S_, .f32⟩
  | 66 => ⟨S8x256x16x128, .f32⟩
  | 67 => ⟨S8x256x16x128, .f32⟩
  | 68 => ⟨S1x1x1x128, .f32⟩
  | 69 => ⟨S8x256x16x128, .f32⟩
  | 70 => ⟨S8x256x16x128, .f32⟩
  | 71 => ⟨S_, .f32⟩
  | 72 => ⟨S8x256x16x128, .f32⟩
  | 73 => ⟨S8x256x16x128, .f32⟩
  | 74 => ⟨S_, .f32⟩
  | 75 => ⟨S8x256x128, .f32⟩
  | 76 => ⟨S8x256x128, .f32⟩
  | 77 => ⟨S1x1x128, .f32⟩
  | 78 => ⟨S8x256x128, .f32⟩
  | 79 => ⟨S8x256x128, .f32⟩
  | 80 => ⟨S1x1x128, .f32⟩
  | 81 => ⟨S8x256x128, .f32⟩
  | 82 => ⟨S8x256x128, .f32⟩
  | 83 => ⟨S_, .f32⟩
  | 84 => ⟨S_, .f32⟩
  | 85 => ⟨S_, .f32⟩
  | 86 => ⟨S8x256x128, .f32⟩
  | 87 => ⟨S8x256x128, .f32⟩
  | 88 => ⟨S1x1x128, .f32⟩
  | 89 => ⟨S8x256x128, .f32⟩
  | 90 => ⟨S8x256x128, .f32⟩
  | 91 => ⟨S_, .f32⟩
  | 92 => ⟨S8x256x128, .f32⟩
  | 93 => ⟨S8x256x128, .f32⟩
  | 94 => ⟨S8x256x128, .f32⟩
  | 95 => ⟨S1x1x128, .f32⟩
  | 96 => ⟨S8x256x128, .f32⟩
  | 97 => ⟨S8x256x128, .f32⟩
  | 98 => ⟨S1x1x128, .f32⟩
  | 99 => ⟨S8x256x128, .f32⟩
  | 100 => ⟨S8x256x128, .f32⟩
  | 101 => ⟨S_, .f32⟩
  | 102 => ⟨S_, .f32⟩
  | 103 => ⟨S_, .f32⟩
  | 104 => ⟨S8x256x128, .f32⟩
  | 105 => ⟨S8x256x128, .f32⟩
  | 106 => ⟨S1x1x128, .f32⟩
  | 107 => ⟨S8x256x128, .f32⟩
  | 108 => ⟨S8x256x128, .f32⟩
  | 109 => ⟨S_, .f32⟩
  | 110 => ⟨S8x256x128, .f32⟩
  | 111 => ⟨S8x256x128, .f32⟩
  | 112 => ⟨S1x128x128, .f32⟩
  | 113 => ⟨S128x128, .f32⟩
  | 114 => ⟨S1x256, .f32⟩
  | 115 => ⟨S256, .f32⟩
  | 116 => ⟨S8x256x128, .f32⟩
  | 117 => ⟨S128, .f32⟩
  | 118 => ⟨S8x256, .f32⟩
  | 119 => ⟨S8x256x1, .f32⟩
  | 120 => ⟨S128, .f32⟩
  | 121 => ⟨S8x256, .f32⟩
  | 122 => ⟨S8x1x256, .f32⟩
  | 123 => ⟨S8x256x256, .f32⟩
  | 124 => ⟨S8x256x256, .f32⟩
  | 125 => ⟨S8x256x256, .f32⟩
  | 126 => ⟨S_, .f32⟩
  | 127 => ⟨S8x256x256, .f32⟩
  | _ => ⟨S8x4096x128, .f32⟩

abbrev hbmTy0_1 (i : Nat) : BufTy := match i % 128 with
  | 0 => ⟨S8x256x256, .i1⟩
  | 1 => ⟨S_, .f32⟩
  | 2 => ⟨S8x256x256, .f32⟩
  | 3 => ⟨S8x256x256, .f32⟩
  | 4 => ⟨S8x256x256, .f32⟩
  | 5 => ⟨S_, .f32⟩
  | 6 => ⟨S8x256x256, .f32⟩
  | 7 => ⟨S8x256x256, .i1⟩
  | 8 => ⟨S_, .f32⟩
  | 9 => ⟨S_, .f32⟩
  | 10 => ⟨S8x256x256, .f32⟩
  | 11 => ⟨S8x256x256, .f32⟩
  | 12 => ⟨S_, .f32⟩
  | 13 => ⟨S8x256, .f32⟩
  | 14 => ⟨S_, .f32⟩
  | 15 => ⟨S8x256, .f32⟩
  | 16 => ⟨S8x256, .f32⟩
  | 17 => ⟨S8x256x1, .f32⟩
  | 18 => ⟨S8x256x256, .f32⟩
  | 19 => ⟨S8x256x256, .f32⟩
  | 20 => ⟨S8x256x256, .f32⟩
  | 21 => ⟨S_, .f32⟩
  | 22 => ⟨S8x256, .f32⟩
  | 23 => ⟨S8x256x1, .f32⟩
  | 24 => ⟨S8x256x256, .f32⟩
  | 25 => ⟨S8x256x256, .f32⟩
  | 26 => ⟨S8x256x128, .f32⟩
  | 27 => ⟨S_, .f32⟩
  | 28 => ⟨S8x256x128, .f32⟩
  | 29 => ⟨S8x256x128, .i1⟩
  | 30 => ⟨S_, .f32⟩
  | 31 => ⟨S8x256x128, .f32⟩
  | 32 => ⟨S8x256x128, .i1⟩
  | 33 => ⟨S_, .f32⟩
  | 34 => ⟨S_, .f32⟩
  | 35 => ⟨S8x256x128, .f32⟩
  | 36 => ⟨S8x256x128, .f32⟩
  | 37 => ⟨S8x256x128, .f32⟩
  | 38 => ⟨S_, .f32⟩
  | 39 => ⟨S8x256x128, .f32⟩
  | 40 => ⟨S8x256x128, .f32⟩
  | 41 => ⟨S8x256x128, .f32⟩
  | 42 => ⟨S1x128x128, .f32⟩
  | 43 => ⟨S128x128, .f32⟩
  | 44 => ⟨S1x256, .f32⟩
  | 45 => ⟨S256, .f32⟩
  | 46 => ⟨S8x256x128, .f32⟩
  | 47 => ⟨S128, .f32⟩
  | 48 => ⟨S8x256, .f32⟩
  | 49 => ⟨S8x256x1, .f32⟩
  | 50 => ⟨S128, .f32⟩
  | 51 => ⟨S8x256, .f32⟩
  | 52 => ⟨S8x1x256, .f32⟩
  | 53 => ⟨S8x256x256, .f32⟩
  | 54 => ⟨S8x256x256, .f32⟩
  | 55 => ⟨S8x256x256, .f32⟩
  | 56 => ⟨S_, .f32⟩
  | 57 => ⟨S8x256x256, .f32⟩
  | 58 => ⟨S8x256x256, .i1⟩
  | 59 => ⟨S_, .f32⟩
  | 60 => ⟨S8x256x256, .f32⟩
  | 61 => ⟨S8x256x256, .f32⟩
  | 62 => ⟨S8x256x256, .f32⟩
  | 63 => ⟨S_, .f32⟩
  | 64 => ⟨S8x256x256, .f32⟩
  | 65 => ⟨S8x256x256, .i1⟩
  | 66 => ⟨S_, .f32⟩
  | 67 => ⟨S_, .f32⟩
  | 68 => ⟨S8x256x256, .f32⟩
  | 69 => ⟨S8x256x256, .f32⟩
  | 70 => ⟨S_, .f32⟩
  | 71 => ⟨S8x256, .f32⟩
  | 72 => ⟨S_, .f32⟩
  | 73 => ⟨S8x256, .f32⟩
  | 74 => ⟨S8x256, .f32⟩
  | 75 => ⟨S8x256x1, .f32⟩
  | 76 => ⟨S8x256x256, .f32⟩
  | 77 => ⟨S8x256x256, .f32⟩
  | 78 => ⟨S8x256x256, .f32⟩
  | 79 => ⟨S_, .f32⟩
  | 80 => ⟨S8x256, .f32⟩
  | 81 => ⟨S8x256x1, .f32⟩
  | 82 => ⟨S8x256x256, .f32⟩
  | 83 => ⟨S8x256x256, .f32⟩
  | 84 => ⟨S8x256x128, .f32⟩
  | 85 => ⟨S_, .f32⟩
  | 86 => ⟨S8x256x128, .f32⟩
  | 87 => ⟨S8x256x128, .i1⟩
  | 88 => ⟨S_, .f32⟩
  | 89 => ⟨S8x256x128, .f32⟩
  | 90 => ⟨S8x256x128, .i1⟩
  | 91 => ⟨S_, .f32⟩
  | 92 => ⟨S_, .f32⟩
  | 93 => ⟨S8x256x128, .f32⟩
  | 94 => ⟨S8x256x128, .f32⟩
  | 95 => ⟨S8x256x128, .f32⟩
  | 96 => ⟨S_, .f32⟩
  | 97 => ⟨S8x256x128, .f32⟩
  | 98 => ⟨S8x256x128, .f32⟩
  | 99 => ⟨S8x256x128, .f32⟩
  | 100 => ⟨S1x128x128, .f32⟩
  | 101 => ⟨S128x128, .f32⟩
  | 102 => ⟨S1x256, .f32⟩
  | 103 => ⟨S256, .f32⟩
  | 104 => ⟨S8x256x128, .f32⟩
  | 105 => ⟨S128, .f32⟩
  | 106 => ⟨S8x256, .f32⟩
  | 107 => ⟨S8x256x1, .f32⟩
  | 108 => ⟨S128, .f32⟩
  | 109 => ⟨S8x256, .f32⟩
  | 110 => ⟨S8x1x256, .f32⟩
  | 111 => ⟨S8x256x256, .f32⟩
  | 112 => ⟨S8x256x256, .f32⟩
  | 113 => ⟨S8x256x256, .f32⟩
  | 114 => ⟨S_, .f32⟩
  | 115 => ⟨S8x256x256, .f32⟩
  | 116 => ⟨S8x256x256, .i1⟩
  | 117 => ⟨S_, .f32⟩
  | 118 => ⟨S8x256x256, .f32⟩
  | 119 => ⟨S8x256x256, .f32⟩
  | 120 => ⟨S8x256x256, .f32⟩
  | 121 => ⟨S_, .f32⟩
  | 122 => ⟨S8x256x256, .f32⟩
  | 123 => ⟨S8x256x256, .i1⟩
  | 124 => ⟨S_, .f32⟩
  | 125 => ⟨S_, .f32⟩
  | 126 => ⟨S8x256x256, .f32⟩
  | 127 => ⟨S8x256x256, .f32⟩
  | _ => ⟨S8x4096x128, .f32⟩

abbrev hbmTy0_2 (i : Nat) : BufTy := match i % 128 with
  | 0 => ⟨S_, .f32⟩
  | 1 => ⟨S8x256, .f32⟩
  | 2 => ⟨S_, .f32⟩
  | 3 => ⟨S8x256, .f32⟩
  | 4 => ⟨S8x256, .f32⟩
  | 5 => ⟨S8x256x1, .f32⟩
  | 6 => ⟨S8x256x256, .f32⟩
  | 7 => ⟨S8x256x256, .f32⟩
  | 8 => ⟨S8x256x256, .f32⟩
  | 9 => ⟨S_, .f32⟩
  | 10 => ⟨S8x256, .f32⟩
  | 11 => ⟨S8x256x1, .f32⟩
  | 12 => ⟨S8x256x256, .f32⟩
  | 13 => ⟨S8x256x256, .f32⟩
  | 14 => ⟨S8x256x128, .f32⟩
  | 15 => ⟨S_, .f32⟩
  | 16 => ⟨S8x256x128, .f32⟩
  | 17 => ⟨S8x256x128, .i1⟩
  | 18 => ⟨S_, .f32⟩
  | 19 => ⟨S8x256x128, .f32⟩
  | 20 => ⟨S8x256x128, .i1⟩
  | 21 => ⟨S_, .f32⟩
  | 22 => ⟨S_, .f32⟩
  | 23 => ⟨S8x256x128, .f32⟩
  | 24 => ⟨S8x256x128, .f32⟩
  | 25 => ⟨S8x256x128, .f32⟩
  | 26 => ⟨S_, .f32⟩
  | 27 => ⟨S8x256x128, .f32⟩
  | 28 => ⟨S8x256x128, .f32⟩
  | 29 => ⟨S8x256x128, .f32⟩
  | 30 => ⟨S1x128x128, .f32⟩
  | 31 => ⟨S128x128, .f32⟩
  | 32 => ⟨S1x256, .f32⟩
  | 33 => ⟨S256, .f32⟩
  | 34 => ⟨S8x256x128, .f32⟩
  | 35 => ⟨S128, .f32⟩
  | 36 => ⟨S8x256, .f32⟩
  | 37 => ⟨S8x256x1, .f32⟩
  | 38 => ⟨S128, .f32⟩
  | 39 => ⟨S8x256, .f32⟩
  | 40 => ⟨S8x1x256, .f32⟩
  | 41 => ⟨S8x256x256, .f32⟩
  | 42 => ⟨S8x256x256, .f32⟩
  | 43 => ⟨S8x256x256, .f32⟩
  | 44 => ⟨S_, .f32⟩
  | 45 => ⟨S8x256x256, .f32⟩
  | 46 => ⟨S8x256x256, .i1⟩
  | 47 => ⟨S_, .f32⟩
  | 48 => ⟨S8x256x256, .f32⟩
  | 49 => ⟨S8x256x256, .f32⟩
  | 50 => ⟨S8x256x256, .f32⟩
  | 51 => ⟨S_, .f32⟩
  | 52 => ⟨S8x256x256, .f32⟩
  | 53 => ⟨S8x256x256, .i1⟩
  | 54 => ⟨S_, .f32⟩
  | 55 => ⟨S_, .f32⟩
  | 56 => ⟨S8x256x256, .f32⟩
  | 57 => ⟨S8x256x256, .f32⟩
  | 58 => ⟨S_, .f32⟩
  | 59 => ⟨S8x256, .f32⟩
  | 60 => ⟨S_, .f32⟩
  | 61 => ⟨S8x256, .f32⟩
  | 62 => ⟨S8x256, .f32⟩
  | 63 => ⟨S8x256x1, .f32⟩
  | 64 => ⟨S8x256x256, .f32⟩
  | 65 => ⟨S8x256x256, .f32⟩
  | 66 => ⟨S8x256x256, .f32⟩
  | 67 => ⟨S_, .f32⟩
  | 68 => ⟨S8x256, .f32⟩
  | 69 => ⟨S8x256x1, .f32⟩
  | 70 => ⟨S8x256x256, .f32⟩
  | 71 => ⟨S8x256x256, .f32⟩
  | 72 => ⟨S8x256x128, .f32⟩
  | 73 => ⟨S_, .f32⟩
  | 74 => ⟨S8x256x128, .f32⟩
  | 75 => ⟨S8x256x128, .i1⟩
  | 76 => ⟨S_, .f32⟩
  | 77 => ⟨S8x256x128, .f32⟩
  | 78 => ⟨S8x256x128, .i1⟩
  | 79 => ⟨S_, .f32⟩
  | 80 => ⟨S_, .f32⟩
  | 81 => ⟨S8x256x128, .f32⟩
  | 82 => ⟨S8x256x128, .f32⟩
  | 83 => ⟨S8x256x128, .f32⟩
  | 84 => ⟨S_, .f32⟩
  | 85 => ⟨S8x256x128, .f32⟩
  | 86 => ⟨S8x256x128, .f32⟩
  | 87 => ⟨S8x256x128, .f32⟩
  | 88 => ⟨S8x256x512, .f32⟩
  | 89 => ⟨S8x256x128, .f32⟩
  | 90 => ⟨S128, .f32⟩
  | 91 => ⟨S8x256, .f32⟩
  | 92 => ⟨S8x256x1, .f32⟩
  | 93 => ⟨S128, .f32⟩
  | 94 => ⟨S8x256, .f32⟩
  | 95 => ⟨S8x1x256, .f32⟩
  | 96 => ⟨S8x256x256, .f32⟩
  | 97 => ⟨S8x256x256, .f32⟩
  | 98 => ⟨S8x256x256, .f32⟩
  | 99 => ⟨S_, .f32⟩
  | 100 => ⟨S8x256x256, .f32⟩
  | 101 => ⟨S8x256x256, .i1⟩
  | 102 => ⟨S_, .f32⟩
  | 103 => ⟨S8x256x256, .f32⟩
  | 104 => ⟨S8x256x256, .f32⟩
  | 105 => ⟨S8x256x256, .f32⟩
  | 106 => ⟨S_, .f32⟩
  | 107 => ⟨S8x256x256, .f32⟩
  | 108 => ⟨S8x256x256, .i1⟩
  | 109 => ⟨S_, .f32⟩
  | 110 => ⟨S_, .f32⟩
  | 111 => ⟨S8x256x256, .f32⟩
  | 112 => ⟨S8x256x256, .f32⟩
  | 113 => ⟨S_, .f32⟩
  | 114 => ⟨S8x256, .f32⟩
  | 115 => ⟨S_, .f32⟩
  | 116 => ⟨S8x256, .f32⟩
  | 117 => ⟨S8x256, .f32⟩
  | 118 => ⟨S8x256x1, .f32⟩
  | 119 => ⟨S8x256x256, .f32⟩
  | 120 => ⟨S8x256x256, .f32⟩
  | 121 => ⟨S8x256x256, .f32⟩
  | 122 => ⟨S_, .f32⟩
  | 123 => ⟨S8x256, .f32⟩
  | 124 => ⟨S8x256x1, .f32⟩
  | 125 => ⟨S8x256x256, .f32⟩
  | 126 => ⟨S8x256x256, .f32⟩
  | 127 => ⟨S8x256x128, .f32⟩
  | _ => ⟨S8x4096x128, .f32⟩

abbrev hbmTy0_3 (i : Nat) : BufTy := match i % 128 with
  | 0 => ⟨S_, .f32⟩
  | 1 => ⟨S8x256x128, .f32⟩
  | 2 => ⟨S8x256x128, .i1⟩
  | 3 => ⟨S_, .f32⟩
  | 4 => ⟨S8x256x128, .f32⟩
  | 5 => ⟨S8x256x128, .i1⟩
  | 6 => ⟨S_, .f32⟩
  | 7 => ⟨S_, .f32⟩
  | 8 => ⟨S8x256x128, .f32⟩
  | 9 => ⟨S8x256x128, .f32⟩
  | 10 => ⟨S8x256x128, .f32⟩
  | 11 => ⟨S_, .f32⟩
  | 12 => ⟨S8x256x128, .f32⟩
  | 13 => ⟨S8x256x128, .f32⟩
  | 14 => ⟨S8x256x128, .f32⟩
  | 15 => ⟨S8x256x119, .f32⟩
  | 16 => ⟨S1x1x119, .f32⟩
  | 17 => ⟨S8x256x119, .f32⟩
  | 18 => ⟨S8x256x119, .f32⟩
  | 19 => ⟨S8x256x3, .f32⟩
  | 20 => ⟨S8x256x3, .f32⟩
  | 21 => ⟨S8x256x3, .f32⟩
  | 22 => ⟨S8x256x122, .f32⟩
  | _ => ⟨S8x4096x128, .f32⟩

abbrev hbmTy (i : Nat) : BufTy := match i / 128 with
  | 0 => hbmTy0_0 i
  | 1 => hbmTy0_1 i
  | 2 => hbmTy0_2 i
  | 3 => hbmTy0_3 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call0_cst : Ref sig .tc := ⟨.hbm, 41, rfl⟩
abbrev main_call0_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call1_cst : Ref sig .tc := ⟨.hbm, 56, rfl⟩
abbrev main_call1_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_1 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call2_cst : Ref sig .tc := ⟨.hbm, 71, rfl⟩
abbrev main_call2_v0 : Ref sig .tc := ⟨.hbm, 72, rfl⟩
abbrev main_v38 : Ref sig .tc := ⟨.hbm, 73, rfl⟩
abbrev main_cst_2 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_3 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_call3_cst : Ref sig .tc := ⟨.hbm, 91, rfl⟩
abbrev main_call3_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_4 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_cst : Ref sig .tc := ⟨.hbm, 109, rfl⟩
abbrev main_call4_v0 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_5 : Ref sig .tc := ⟨.hbm, 126, rfl⟩
abbrev main_v84 : Ref sig .tc := ⟨.hbm, 127, rfl⟩
abbrev main_v85 : Ref sig .tc := ⟨.hbm, 128, rfl⟩
abbrev main_cst_6 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_7 : Ref sig .tc := ⟨.hbm, 133, rfl⟩
abbrev main_v89 : Ref sig .tc := ⟨.hbm, 134, rfl⟩
abbrev main_v90 : Ref sig .tc := ⟨.hbm, 135, rfl⟩
abbrev main_cst_8 : Ref sig .tc := ⟨.hbm, 136, rfl⟩
abbrev main_call6_v0 : Ref sig .tc := ⟨.hbm, 137, rfl⟩
abbrev main_call6_v1 : Ref sig .tc := ⟨.hbm, 138, rfl⟩
abbrev main_v91 : Ref sig .tc := ⟨.hbm, 139, rfl⟩
abbrev main_cst_9 : Ref sig .tc := ⟨.hbm, 140, rfl⟩
abbrev main_v92 : Ref sig .tc := ⟨.hbm, 141, rfl⟩
abbrev main_cst_10 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_11 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_call7_cst : Ref sig .tc := ⟨.hbm, 155, rfl⟩
abbrev main_call7_v0 : Ref sig .tc := ⟨.hbm, 156, rfl⟩
abbrev main_call7_v1 : Ref sig .tc := ⟨.hbm, 157, rfl⟩
abbrev main_call7_cst_0 : Ref sig .tc := ⟨.hbm, 158, rfl⟩
abbrev main_call7_v2 : Ref sig .tc := ⟨.hbm, 159, rfl⟩
abbrev main_call7_v3 : Ref sig .tc := ⟨.hbm, 160, rfl⟩
abbrev main_call7_cst_1 : Ref sig .tc := ⟨.hbm, 161, rfl⟩
abbrev main_call7_call0_v0 : Ref sig .tc := ⟨.hbm, 162, rfl⟩
abbrev main_call7_call0_v1 : Ref sig .tc := ⟨.hbm, 163, rfl⟩
abbrev main_call7_v4 : Ref sig .tc := ⟨.hbm, 164, rfl⟩
abbrev main_call7_v5 : Ref sig .tc := ⟨.hbm, 165, rfl⟩
abbrev main_call7_cst_2 : Ref sig .tc := ⟨.hbm, 166, rfl⟩
abbrev main_call7_v6 : Ref sig .tc := ⟨.hbm, 167, rfl⟩
abbrev main_call7_v7 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_12 : Ref sig .tc := ⟨.hbm, 184, rfl⟩
abbrev main_v119 : Ref sig .tc := ⟨.hbm, 185, rfl⟩
abbrev main_v120 : Ref sig .tc := ⟨.hbm, 186, rfl⟩
abbrev main_cst_13 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_14 : Ref sig .tc := ⟨.hbm, 191, rfl⟩
abbrev main_v124 : Ref sig .tc := ⟨.hbm, 192, rfl⟩
abbrev main_v125 : Ref sig .tc := ⟨.hbm, 193, rfl⟩
abbrev main_cst_15 : Ref sig .tc := ⟨.hbm, 194, rfl⟩
abbrev main_call9_v0 : Ref sig .tc := ⟨.hbm, 195, rfl⟩
abbrev main_call9_v1 : Ref sig .tc := ⟨.hbm, 196, rfl⟩
abbrev main_v126 : Ref sig .tc := ⟨.hbm, 197, rfl⟩
abbrev main_cst_16 : Ref sig .tc := ⟨.hbm, 198, rfl⟩
abbrev main_v127 : Ref sig .tc := ⟨.hbm, 199, rfl⟩
abbrev main_cst_17 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_18 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_call10_cst : Ref sig .tc := ⟨.hbm, 213, rfl⟩
abbrev main_call10_v0 : Ref sig .tc := ⟨.hbm, 214, rfl⟩
abbrev main_call10_v1 : Ref sig .tc := ⟨.hbm, 215, rfl⟩
abbrev main_call10_cst_0 : Ref sig .tc := ⟨.hbm, 216, rfl⟩
abbrev main_call10_v2 : Ref sig .tc := ⟨.hbm, 217, rfl⟩
abbrev main_call10_v3 : Ref sig .tc := ⟨.hbm, 218, rfl⟩
abbrev main_call10_cst_1 : Ref sig .tc := ⟨.hbm, 219, rfl⟩
abbrev main_call10_call0_v0 : Ref sig .tc := ⟨.hbm, 220, rfl⟩
abbrev main_call10_call0_v1 : Ref sig .tc := ⟨.hbm, 221, rfl⟩
abbrev main_call10_v4 : Ref sig .tc := ⟨.hbm, 222, rfl⟩
abbrev main_call10_v5 : Ref sig .tc := ⟨.hbm, 223, rfl⟩
abbrev main_call10_cst_2 : Ref sig .tc := ⟨.hbm, 224, rfl⟩
abbrev main_call10_v6 : Ref sig .tc := ⟨.hbm, 225, rfl⟩
abbrev main_call10_v7 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_19 : Ref sig .tc := ⟨.hbm, 242, rfl⟩
abbrev main_v154 : Ref sig .tc := ⟨.hbm, 243, rfl⟩
abbrev main_v155 : Ref sig .tc := ⟨.hbm, 244, rfl⟩
abbrev main_cst_20 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_cst_21 : Ref sig .tc := ⟨.hbm, 249, rfl⟩
abbrev main_v159 : Ref sig .tc := ⟨.hbm, 250, rfl⟩
abbrev main_v160 : Ref sig .tc := ⟨.hbm, 251, rfl⟩
abbrev main_cst_22 : Ref sig .tc := ⟨.hbm, 252, rfl⟩
abbrev main_call12_v0 : Ref sig .tc := ⟨.hbm, 253, rfl⟩
abbrev main_call12_v1 : Ref sig .tc := ⟨.hbm, 254, rfl⟩
abbrev main_v161 : Ref sig .tc := ⟨.hbm, 255, rfl⟩
abbrev main_cst_23 : Ref sig .tc := ⟨.hbm, 256, rfl⟩
abbrev main_v162 : Ref sig .tc := ⟨.hbm, 257, rfl⟩
abbrev main_cst_24 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_cst_25 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_call13_cst : Ref sig .tc := ⟨.hbm, 271, rfl⟩
abbrev main_call13_v0 : Ref sig .tc := ⟨.hbm, 272, rfl⟩
abbrev main_call13_v1 : Ref sig .tc := ⟨.hbm, 273, rfl⟩
abbrev main_call13_cst_0 : Ref sig .tc := ⟨.hbm, 274, rfl⟩
abbrev main_call13_v2 : Ref sig .tc := ⟨.hbm, 275, rfl⟩
abbrev main_call13_v3 : Ref sig .tc := ⟨.hbm, 276, rfl⟩
abbrev main_call13_cst_1 : Ref sig .tc := ⟨.hbm, 277, rfl⟩
abbrev main_call13_call0_v0 : Ref sig .tc := ⟨.hbm, 278, rfl⟩
abbrev main_call13_call0_v1 : Ref sig .tc := ⟨.hbm, 279, rfl⟩
abbrev main_call13_v4 : Ref sig .tc := ⟨.hbm, 280, rfl⟩
abbrev main_call13_v5 : Ref sig .tc := ⟨.hbm, 281, rfl⟩
abbrev main_call13_cst_2 : Ref sig .tc := ⟨.hbm, 282, rfl⟩
abbrev main_call13_v6 : Ref sig .tc := ⟨.hbm, 283, rfl⟩
abbrev main_call13_v7 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_cst_26 : Ref sig .tc := ⟨.hbm, 300, rfl⟩
abbrev main_v189 : Ref sig .tc := ⟨.hbm, 301, rfl⟩
abbrev main_v190 : Ref sig .tc := ⟨.hbm, 302, rfl⟩
abbrev main_cst_27 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_cst_28 : Ref sig .tc := ⟨.hbm, 307, rfl⟩
abbrev main_v194 : Ref sig .tc := ⟨.hbm, 308, rfl⟩
abbrev main_v195 : Ref sig .tc := ⟨.hbm, 309, rfl⟩
abbrev main_cst_29 : Ref sig .tc := ⟨.hbm, 310, rfl⟩
abbrev main_call15_v0 : Ref sig .tc := ⟨.hbm, 311, rfl⟩
abbrev main_call15_v1 : Ref sig .tc := ⟨.hbm, 312, rfl⟩
abbrev main_v196 : Ref sig .tc := ⟨.hbm, 313, rfl⟩
abbrev main_cst_30 : Ref sig .tc := ⟨.hbm, 314, rfl⟩
abbrev main_v197 : Ref sig .tc := ⟨.hbm, 315, rfl⟩
abbrev main_cst_31 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_cst_32 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_call16_cst : Ref sig .tc := ⟨.hbm, 329, rfl⟩
abbrev main_call16_v0 : Ref sig .tc := ⟨.hbm, 330, rfl⟩
abbrev main_call16_v1 : Ref sig .tc := ⟨.hbm, 331, rfl⟩
abbrev main_call16_cst_0 : Ref sig .tc := ⟨.hbm, 332, rfl⟩
abbrev main_call16_v2 : Ref sig .tc := ⟨.hbm, 333, rfl⟩
abbrev main_call16_v3 : Ref sig .tc := ⟨.hbm, 334, rfl⟩
abbrev main_call16_cst_1 : Ref sig .tc := ⟨.hbm, 335, rfl⟩
abbrev main_call16_call0_v0 : Ref sig .tc := ⟨.hbm, 336, rfl⟩
abbrev main_call16_call0_v1 : Ref sig .tc := ⟨.hbm, 337, rfl⟩
abbrev main_call16_v4 : Ref sig .tc := ⟨.hbm, 338, rfl⟩
abbrev main_call16_v5 : Ref sig .tc := ⟨.hbm, 339, rfl⟩
abbrev main_call16_cst_2 : Ref sig .tc := ⟨.hbm, 340, rfl⟩
abbrev main_call16_v6 : Ref sig .tc := ⟨.hbm, 341, rfl⟩
abbrev main_call16_v7 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_cst_33 : Ref sig .tc := ⟨.hbm, 355, rfl⟩
abbrev main_v221 : Ref sig .tc := ⟨.hbm, 356, rfl⟩
abbrev main_v222 : Ref sig .tc := ⟨.hbm, 357, rfl⟩
abbrev main_cst_34 : Ref sig .tc := ⟨.hbm, 358, rfl⟩
abbrev main_v223 : Ref sig .tc := ⟨.hbm, 359, rfl⟩
abbrev main_v224 : Ref sig .tc := ⟨.hbm, 360, rfl⟩
abbrev main_v225 : Ref sig .tc := ⟨.hbm, 361, rfl⟩
abbrev main_cst_35 : Ref sig .tc := ⟨.hbm, 362, rfl⟩
abbrev main_v226 : Ref sig .tc := ⟨.hbm, 363, rfl⟩
abbrev main_v227 : Ref sig .tc := ⟨.hbm, 364, rfl⟩
abbrev main_cst_36 : Ref sig .tc := ⟨.hbm, 365, rfl⟩
abbrev main_call18_v0 : Ref sig .tc := ⟨.hbm, 366, rfl⟩
abbrev main_call18_v1 : Ref sig .tc := ⟨.hbm, 367, rfl⟩
abbrev main_v228 : Ref sig .tc := ⟨.hbm, 368, rfl⟩
abbrev main_cst_37 : Ref sig .tc := ⟨.hbm, 369, rfl⟩
abbrev main_v229 : Ref sig .tc := ⟨.hbm, 370, rfl⟩
abbrev main_cst_38 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_cst_39 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_call19_cst : Ref sig .tc := ⟨.hbm, 384, rfl⟩
abbrev main_call19_v0 : Ref sig .tc := ⟨.hbm, 385, rfl⟩
abbrev main_call19_v1 : Ref sig .tc := ⟨.hbm, 386, rfl⟩
abbrev main_call19_cst_0 : Ref sig .tc := ⟨.hbm, 387, rfl⟩
abbrev main_call19_v2 : Ref sig .tc := ⟨.hbm, 388, rfl⟩
abbrev main_call19_v3 : Ref sig .tc := ⟨.hbm, 389, rfl⟩
abbrev main_call19_cst_1 : Ref sig .tc := ⟨.hbm, 390, rfl⟩
abbrev main_call19_call0_v0 : Ref sig .tc := ⟨.hbm, 391, rfl⟩
abbrev main_call19_call0_v1 : Ref sig .tc := ⟨.hbm, 392, rfl⟩
abbrev main_call19_v4 : Ref sig .tc := ⟨.hbm, 393, rfl⟩
abbrev main_call19_v5 : Ref sig .tc := ⟨.hbm, 394, rfl⟩
abbrev main_call19_cst_2 : Ref sig .tc := ⟨.hbm, 395, rfl⟩
abbrev main_call19_v6 : Ref sig .tc := ⟨.hbm, 396, rfl⟩
abbrev main_call19_v7 : Ref sig .tc := ⟨.hbm, 397, rfl⟩
abbrev main_v241 : Ref sig .tc := ⟨.hbm, 398, rfl⟩
abbrev main_v242 : Ref sig .tc := ⟨.hbm, 399, rfl⟩
abbrev main_v243 : Ref sig .tc := ⟨.hbm, 400, rfl⟩
abbrev main_v244 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_v248 : Ref sig .tc := ⟨.hbm, 405, rfl⟩
abbrev main_v249 : Ref sig .tc := ⟨.hbm, 406, rfl⟩

abbrev nD : Nat := 1
abbrev τ : Topo := Topo.v7x

variable {F : FTy → Type} [FloatOps F]
-- ==== Points.lean ====
abbrev S8x1024x3 : Shape := ⟨3, ![8, 1024, 3]⟩
abbrev S8x256x1024 : Shape := ⟨3, ![8, 256, 1024]⟩
abbrev S8x256 : Shape := ⟨2, ![8, 256]⟩
abbrev S128x259 : Shape := ⟨2, ![128, 259]⟩
abbrev S_ : Shape := ⟨0, ![]⟩
abbrev S8x1024x13 : Shape := ⟨3, ![8, 1024, 13]⟩
abbrev S8x1024x16 : Shape := ⟨3, ![8, 1024, 16]⟩
abbrev S8x256x1 : Shape := ⟨3, ![8, 256, 1]⟩
abbrev S8x256x8 : Shape := ⟨3, ![8, 256, 8]⟩
abbrev S8x1024x8 : Shape := ⟨3, ![8, 1024, 8]⟩
abbrev S8x8x1024 : Shape := ⟨3, ![8, 8, 1024]⟩
abbrev S8x1024x256 : Shape := ⟨3, ![8, 1024, 256]⟩
abbrev S128x3 : Shape := ⟨2, ![128, 3]⟩
abbrev S3x128 : Shape := ⟨2, ![3, 128]⟩
abbrev S13x128 : Shape := ⟨2, ![13, 128]⟩
abbrev S16x128 : Shape := ⟨2, ![16, 128]⟩
abbrev S128x256 : Shape := ⟨2, ![128, 256]⟩
abbrev S256x128 : Shape := ⟨2, ![256, 128]⟩
abbrev S8x256x16 : Shape := ⟨3, ![8, 256, 16]⟩
abbrev S8x256x256 : Shape := ⟨3, ![8, 256, 256]⟩
abbrev S8x1024x128 : Shape := ⟨3, ![8, 1024, 128]⟩
abbrev S8x256x128 : Shape := ⟨3, ![8, 256, 128]⟩
abbrev S1x1024x16 : Shape := ⟨3, ![1, 1024, 16]⟩
abbrev S1x8x1024 : Shape := ⟨3, ![1, 8, 1024]⟩
abbrev S1x1024x256 : Shape := ⟨3, ![1, 1024, 256]⟩
abbrev S1x256x8 : Shape := ⟨3, ![1, 256, 8]⟩
abbrev S1x256x16 : Shape := ⟨3, ![1, 256, 16]⟩
abbrev S1x256x256 : Shape := ⟨3, ![1, 256, 256]⟩
abbrev S1x1024x128 : Shape := ⟨3, ![1, 1024, 128]⟩
abbrev S1x256x128 : Shape := ⟨3, ![1, 256, 128]⟩
abbrev S1024x16 : Shape := ⟨2, ![1024, 16]⟩
abbrev S256x8 : Shape := ⟨2, ![256, 8]⟩
abbrev S256x1 : Shape := ⟨2, ![256, 1]⟩
abbrev S256x1024 : Shape := ⟨2, ![256, 1024]⟩
abbrev S256x16 : Shape := ⟨2, ![256, 16]⟩
abbrev S1024x256 : Shape := ⟨2, ![1024, 256]⟩
abbrev S1024x128 : Shape := ⟨2, ![1024, 128]⟩
abbrev S1x1x1024 : Shape := ⟨3, ![1, 1, 1024]⟩
abbrev S1x1024 : Shape := ⟨2, ![1, 1024]⟩
abbrev S256 : Shape := ⟨1, ![256]⟩
abbrev S16x256 : Shape := ⟨2, ![16, 256]⟩
abbrev S1x256 : Shape := ⟨2, ![1, 256]⟩
abbrev S256x256 : Shape := ⟨2, ![256, 256]⟩

abbrev nBuf : Space → Nat
  | .hbm => 24
  | .vmem => 20
  | .smem => 0
  | _ => 0

abbrev bufTy : (tb : Table) → Fin (tcTables nBuf tb) → BufTy
  | .hbm, ⟨0, _⟩ => ⟨S8x1024x3, .f32⟩
  | .hbm, ⟨1, _⟩ => ⟨S8x256x1024, .f32⟩
  | .hbm, ⟨2, _⟩ => ⟨S8x256, .i32⟩
  | .hbm, ⟨3, _⟩ => ⟨S128x259, .f32⟩
  | .hbm, ⟨4, _⟩ => ⟨S_, .f32⟩
  | .hbm, ⟨5, _⟩ => ⟨S8x1024x13, .f32⟩
  | .hbm, ⟨6, _⟩ => ⟨S8x1024x16, .f32⟩
  | .hbm, ⟨7, _⟩ => ⟨S8x256x1, .i32⟩
  | .hbm, ⟨8, _⟩ => ⟨S8x256x8, .i32⟩
  | .hbm, ⟨9, _⟩ => ⟨S8x1024x8, .f32⟩
  | .hbm, ⟨10, _⟩ => ⟨S8x8x1024, .f32⟩
  | .hbm, ⟨11, _⟩ => ⟨S8x1024x256, .f32⟩
  | .hbm, ⟨12, _⟩ => ⟨S128x3, .f32⟩
  | .hbm, ⟨13, _⟩ => ⟨S3x128, .f32⟩
  | .hbm, ⟨14, _⟩ => ⟨S_, .f32⟩
  | .hbm, ⟨15, _⟩ => ⟨S13x128, .f32⟩
  | .hbm, ⟨16, _⟩ => ⟨S16x128, .f32⟩
  | .hbm, ⟨17, _⟩ => ⟨S128x256, .f32⟩
  | .hbm, ⟨18, _⟩ => ⟨S256x128, .f32⟩
  | .hbm, ⟨19, _⟩ => ⟨S8x256x16, .i32⟩
  | .hbm, ⟨20, _⟩ => ⟨S8x256x256, .f32⟩
  | .hbm, ⟨21, _⟩ => ⟨S8x1024x128, .f32⟩
  | .hbm, ⟨22, _⟩ => ⟨S8x256x128, .f32⟩
  | .hbm, ⟨23, _⟩ => ⟨S8x256x16, .f32⟩
  | .local _ .vmem, ⟨0, _⟩ => ⟨S1x1024x16, .f32⟩
  | .local _ .vmem, ⟨1, _⟩ => ⟨S1x1024x16, .f32⟩
  | .local _ .vmem, ⟨2, _⟩ => ⟨S1x8x1024, .f32⟩
  | .local _ .vmem, ⟨3, _⟩ => ⟨S1x8x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x256x8, .i32⟩
  | .local _ .vmem, ⟨7, _⟩ => ⟨S1x256x8, .i32⟩
  | .local _ .vmem, ⟨8, _⟩ => ⟨S16x128, .f32⟩
  | .local _ .vmem, ⟨9, _⟩ => ⟨S256x128, .f32⟩
  | .local _ .vmem, ⟨10, _⟩ => ⟨S1x256x16, .i32⟩
  | .local _ .vmem, ⟨11, _⟩ => ⟨S1x256x16, .i32⟩
  | .local _ .vmem, ⟨12, _⟩ => ⟨S1x256x256, .f32⟩
  | .local _ .vmem, ⟨13, _⟩ => ⟨S1x256x256, .f32⟩
  | .local _ .vmem, ⟨14, _⟩ => ⟨S1x1024x128, .f32⟩
  | .local _ .vmem, ⟨15, _⟩ => ⟨S1x1024x128, .f32⟩
  | .local _ .vmem, ⟨16, _⟩ => ⟨S1x256x128, .f32⟩
  | .local _ .vmem, ⟨17, _⟩ => ⟨S1x256x128, .f32⟩
  | .local _ .vmem, ⟨18, _⟩ => ⟨S1x256x16, .f32⟩
  | .local _ .vmem, ⟨19, _⟩ => ⟨S1x256x16, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PointsIdeal.lean ====
variable {F : FTy → Type} [FloatOps F] [Named F]
def κ : String → Option EReal := fun
  | "inv_r" => some (((5033165 / 16777216)⁻¹ : ℝ) : EReal)
  | _ => none
-- ==== PointsReferenceIdeal.lean ====
abbrev S8x1024x3 : Shape := ⟨3, ![8, 1024, 3]⟩
abbrev S8x256x1024 : Shape := ⟨3, ![8, 256, 1024]⟩
abbrev S8x256 : Shape := ⟨2, ![8, 256]⟩
abbrev S128x259 : Shape := ⟨2, ![128, 259]⟩
abbrev S8 : Shape := ⟨1, ![8]⟩
abbrev S8x1 : Shape := ⟨2, ![8, 1]⟩
abbrev S_ : Shape := ⟨0, ![]⟩
abbrev S8x256x1 : Shape := ⟨3, ![8, 256, 1]⟩
abbrev S8x256x2 : Shape := ⟨3, ![8, 256, 2]⟩
abbrev S8x256x3 : Shape := ⟨3, ![8, 256, 3]⟩
abbrev S8x256x1x3 : Shape := ⟨4, ![8, 256, 1, 3]⟩
abbrev S8x1x1024x3 : Shape := ⟨4, ![8, 1, 1024, 3]⟩
abbrev S8x256x1024x3 : Shape := ⟨4, ![8, 256, 1024, 3]⟩
abbrev S1024 : Shape := ⟨1, ![1024]⟩
abbrev S1x1x1024 : Shape := ⟨3, ![1, 1, 1024]⟩
abbrev S8x256x16 : Shape := ⟨3, ![8, 256, 16]⟩
abbrev S8x1x1 : Shape := ⟨3, ![8, 1, 1]⟩
abbrev S8x1x256x3 : Shape := ⟨4, ![8, 1, 256, 3]⟩
abbrev S8x256x256x3 : Shape := ⟨4, ![8, 256, 256, 3]⟩
abbrev S8x256x256 : Shape := ⟨3, ![8, 256, 256]⟩
abbrev S8x256x16x1 : Shape := ⟨4, ![8, 256, 16, 1]⟩
abbrev S1x1x1x256 : Shape := ⟨4, ![1, 1, 1, 256]⟩
abbrev S8x256x16x256 : Shape := ⟨4, ![8, 256, 16, 256]⟩
abbrev S256x256 : Shape := ⟨2, ![256, 256]⟩
abbrev S8x1024x256 : Shape := ⟨3, ![8, 1024, 256]⟩
abbrev S8x1024x259 : Shape := ⟨3, ![8, 1024, 259]⟩
abbrev S8x1024x128 : Shape := ⟨3, ![8, 1024, 128]⟩
abbrev S128x3 : Shape := ⟨2, ![128, 3]⟩
abbrev S8x256x128 : Shape := ⟨3, ![8, 256, 128]⟩
abbrev S8x256x13 : Shape := ⟨3, ![8, 256, 13]⟩

abbrev nBuf : Space → Nat
  | .hbm => 110
  | .vmem => 0
  | .smem => 0
  | _ => 0

abbrev bufTy : (tb : Table) → Fin (tcTables nBuf tb) → BufTy
  | .hbm, ⟨0, _⟩ => ⟨S8x1024x3, .f32⟩
  | .hbm, ⟨1, _⟩ => ⟨S8x256x1024, .f32⟩
  | .hbm, ⟨2, _⟩ => ⟨S8x256, .i32⟩
  | .hbm, ⟨3, _⟩ => ⟨S128x259, .f32⟩
  | .hbm, ⟨4, _⟩ => ⟨S8, .i32⟩
  | .hbm, ⟨5, _⟩ => ⟨S8x1, .i32⟩
  | .hbm, ⟨6, _⟩ => ⟨S_, .i32⟩
  | .hbm, ⟨7, _⟩ => ⟨S8x1, .i32⟩
  | .hbm, ⟨8, _⟩ => ⟨S8x1, .i1⟩
  | .hbm, ⟨9, _⟩ => ⟨S_, .i32⟩
  | .hbm, ⟨10, _⟩ => ⟨S8x1, .i32⟩
  | .hbm, ⟨11, _⟩ => ⟨S8x1, .i32⟩
  | .hbm, ⟨12, _⟩ => ⟨S8x1, .i32⟩
  | .hbm, ⟨13, _⟩ => ⟨S_, .i32⟩
  | .hbm, ⟨14, _⟩ => ⟨S8x256, .i32⟩
  | .hbm, ⟨15, _⟩ => ⟨S8x256, .i1⟩
  | .hbm, ⟨16, _⟩ => ⟨S_, .i32⟩
  | .hbm, ⟨17, _⟩ => ⟨S8x256, .i32⟩
  | .hbm, ⟨18, _⟩ => ⟨S8x256, .i32⟩
  | .hbm, ⟨19, _⟩ => ⟨S8x256, .i32⟩
  | .hbm, ⟨20, _⟩ => ⟨S8x256, .i32⟩
  | .hbm, ⟨21, _⟩ => ⟨S8x256x1, .i32⟩
  | .hbm, ⟨22, _⟩ => ⟨S8x256x1, .i32⟩
  | .hbm, ⟨23, _⟩ => ⟨S8x256x2, .i32⟩
  | .hbm, ⟨24, _⟩ => ⟨S8x256x3, .f32⟩
  | .hbm, ⟨25, _⟩ => ⟨S8x256x1x3, .f32⟩
  | .hbm, ⟨26, _⟩ => ⟨S8x1x1024x3, .f32⟩
  | .hbm, ⟨27, _⟩ => ⟨S8x256x1024x3, .f32⟩
  | .hbm, ⟨28, _⟩ => ⟨S8x256x1024x3, .f32⟩
  | .hbm, ⟨29, _⟩ => ⟨S8x256x1024x3, .f32⟩
  | .hbm, ⟨30, _⟩ => ⟨S8x256x1024x3, .f32⟩
  | .hbm, ⟨31, _⟩ => ⟨S_, .f32⟩
  | .hbm, ⟨32, _⟩ => ⟨S8x256x1024, .f32⟩
  | .hbm, ⟨33, _⟩ => ⟨S_, .f32⟩
  | .hbm, ⟨34, _⟩ => ⟨S8x256x1024, .f32⟩
  | .hbm, ⟨35, _⟩ => ⟨S8x256x1024, .i1⟩
  | .hbm, ⟨36, _⟩ => ⟨S1024, .i32⟩
  | .hbm, ⟨37, _⟩ => ⟨S1x1x1024, .i32⟩
  | .hbm, ⟨38, _⟩ => ⟨S_, .i32⟩
  | .hbm, ⟨39, _⟩ => ⟨S_, .i32⟩
  | .hbm, ⟨40, _⟩ => ⟨S8x256x1024, .i32⟩
  | .hbm, ⟨41, _⟩ => ⟨S8x256x1024, .i32⟩
  | .hbm, ⟨42, _⟩ => ⟨S8x256x1024, .i32⟩
  | .hbm, ⟨43, _⟩ => ⟨S8x256x1024, .i32⟩
  | .hbm, ⟨44, _⟩ => ⟨S8x256x16, .i32⟩
  | .hbm, ⟨45, _⟩ => ⟨S_, .i32⟩
  | .hbm, ⟨46, _⟩ => ⟨S8x256x16, .i32⟩
  | .hbm, ⟨47, _⟩ => ⟨S8x256x16, .i1⟩
  | .hbm, ⟨48, _⟩ => ⟨S8x256x1, .i32⟩
  | .hbm, ⟨49, _⟩ => ⟨S8x256x16, .i32⟩
  | .hbm, ⟨50, _⟩ => ⟨S8x256x16, .i32⟩
  | .hbm, ⟨51, _⟩ => ⟨S8, .i32⟩
  | .hbm, ⟨52, _⟩ => ⟨S8x1x1, .i32⟩
  | .hbm, ⟨53, _⟩ => ⟨S_, .i32⟩
  | .hbm, ⟨54, _⟩ => ⟨S8x1x1, .i32⟩
  | .hbm, ⟨55, _⟩ => ⟨S8x1x1, .i32⟩
  | .hbm, ⟨56, _⟩ => ⟨S8x256x16, .i32⟩
  | .hbm, ⟨57, _⟩ => ⟨S8x256x16, .i32⟩
  | .hbm, ⟨58, _⟩ => ⟨S8x256x1x3, .f32⟩
  | .hbm, ⟨59, _⟩ => ⟨S8x1x256x3, .f32⟩
  | .hbm, ⟨60, _⟩ => ⟨S8x256x256x3, .f32⟩
  | .hbm, ⟨61, _⟩ => ⟨S8x256x256x3, .f32⟩
  | .hbm, ⟨62, _⟩ => ⟨S8x256x256x3, .f32⟩
  | .hbm, ⟨63, _⟩ => ⟨S8x256x256x3, .f32⟩
  | .hbm, ⟨64, _⟩ => ⟨S_, .f32⟩
  | .hbm, ⟨65, _⟩ => ⟨S8x256x256, .f32⟩
  | .hbm, ⟨66, _⟩ => ⟨S8x256x256, .f32⟩
  | .hbm, ⟨67, _⟩ => ⟨S8x256x256, .i32⟩
  | .hbm, ⟨68, _⟩ => ⟨S8x256x256, .f32⟩
  | .hbm, ⟨69, _⟩ => ⟨S8x256x256, .i32⟩
  | .hbm, ⟨70, _⟩ => ⟨S8x256x16, .i32⟩
  | .hbm, ⟨71, _⟩ => ⟨S8x256x16x1, .i32⟩
  | .hbm, ⟨72, _⟩ => ⟨S1x1x1x256, .i32⟩
  | .hbm, ⟨73, _⟩ => ⟨S8x256x16x256, .i32⟩
  | .hbm, ⟨74, _⟩ => ⟨S8x256x16x256, .i32⟩
  | .hbm, ⟨75, _⟩ => ⟨S8x256x16x256, .i1⟩
  | .hbm, ⟨76, _⟩ => ⟨S8x256x16x256, .f32⟩
  | .hbm, ⟨77, _⟩ => ⟨S_, .f32⟩
  | .hbm, ⟨78, _⟩ => ⟨S8x256x256, .f32⟩
  | .hbm, ⟨79, _⟩ => ⟨S8x256x256, .f32⟩
  | .hbm, ⟨80, _⟩ => ⟨S8x256x256, .f32⟩
  | .hbm, ⟨81, _⟩ => ⟨S_, .f32⟩
  | .hbm, ⟨82, _⟩ => ⟨S8x256x256, .f32⟩
  | .hbm, ⟨83, _⟩ => ⟨S8x256x256, .i1⟩
  | .hbm, ⟨84, _⟩ => ⟨S8x256x256, .f32⟩
  | .hbm, ⟨85, _⟩ => ⟨S256x256, .i32⟩
  | .hbm, ⟨86, _⟩ => ⟨S256x256, .i32⟩
  | .hbm, ⟨87, _⟩ => ⟨S_, .i32⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S_, .f32⟩
  | .hbm, ⟨92, _⟩ => ⟨S_, .f32⟩
  | .hbm, ⟨93, _⟩ => ⟨S8x256x256, .i1⟩
  | .hbm, ⟨94, _⟩ => ⟨S8x256x256, .f32⟩
  | .hbm, ⟨95, _⟩ => ⟨S8x256x256, .f32⟩
  | .hbm, ⟨96, _⟩ => ⟨S_, .f32⟩
  | .hbm, ⟨97, _⟩ => ⟨S8x1024x3, .f32⟩
  | .hbm, ⟨98, _⟩ => ⟨S8x1024x3, .f32⟩
  | .hbm, ⟨99, _⟩ => ⟨S8x1024x256, .f32⟩
  | .hbm, ⟨100, _⟩ => ⟨S8x1024x259, .f32⟩
  | .hbm, ⟨101, _⟩ => ⟨S8x1024x128, .f32⟩
  | .hbm, ⟨102, _⟩ => ⟨S_, .f32⟩
  | .hbm, ⟨103, _⟩ => ⟨S8x256x3, .f32⟩
  | .hbm, ⟨104, _⟩ => ⟨S8x256x3, .f32⟩
  | .hbm, ⟨105, _⟩ => ⟨S128x3, .f32⟩
  | .hbm, ⟨106, _⟩ => ⟨S8x256x128, .f32⟩
  | .hbm, ⟨107, _⟩ => ⟨S_, .f32⟩
  | .hbm, ⟨108, _⟩ => ⟨S8x256x13, .f32⟩
  | .hbm, ⟨109, _⟩ => ⟨S8x256x16, .f32⟩
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call2_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call3_v0 : Ref sig .tc := ⟨.hbm, 63, rfl⟩
abbrev main_call3_cst : Ref sig .tc := ⟨.hbm, 64, rfl⟩
abbrev main_call3_v1 : Ref sig .tc := ⟨.hbm, 65, rfl⟩
abbrev main_v46 : Ref sig .tc := ⟨.hbm, 66, rfl⟩
abbrev main_call4_v0 : Ref sig .tc := ⟨.hbm, 67, rfl⟩
abbrev main_call4_v1_0 : Ref sig .tc := ⟨.hbm, 68, rfl⟩
abbrev main_v47 : Ref sig .tc := ⟨.hbm, 69, rfl⟩
abbrev main_v48 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== Proof.Offsets.lean ====
/-
  The arithmetic of one task of the row gather, decided once for every task and every trip.

  A task sits at core `i 0` (of two) and subcore `i 1` (of sixteen) and gathers eight blocks of 128 rows:
  the blocks `base i`, …, `base i + 7`, where `base i = 8 · (i 1 + 16 · i 0)`. Its loop carries five counters; before
  trip `t` they are `t + 1` (the index copies started, eight at most), `t` (the index copies used), `t` (the row copies
  started), `t - 1` (the row copies finished) and `t mod 8` (the block). Every offset, condition and check of the
  loop's body is a function of these, and each staging buffer's slot is its counter's parity.
-/
module

public import proofs.«01_k».proof.Proof.Gen.KernelIdeal
public import proofs.«01_k».proof.Proof.Gen.KernelIdeal.Skeleton

@[expose] public section

set_option Elab.async false

namespace Cert.Proof.Offsets

open Idealize.ShloMosaic
open Cert.KernelIdeal Cert.KernelIdeal.Gen

/-- The first block of the task at `i`. -/
abbrev base (i : grid0.Coords) : ℕ := 8 * ((i 1).val + 16 * (i 0).val)

/-- A counter as the word the loop carries. -/
abbrev w (n : ℕ) : BitVec 32 := BitVec.ofNat 32 n

/-- The five words the loop carries before trip `t`. -/
abbrev carried (t : ℕ) : BitVec 32 × BitVec 32 × BitVec 32 × BitVec 32 × BitVec 32 :=
  (w (min (t + 1) 8), w t, w t, w (t - 1), w (t % 8))

/-- The loop makes eight trips. -/
theorem trips_eq : k0_t1_loop.trips = 8 := by decide +kernel

/-- The next block's indices are fetched in every trip but the last. -/
theorem fetch_iff : ∀ (i : grid0.Coords) (t : Fin k0_t1_loop.trips), k0_cond1 i t (w (t.val % 8)) = 1#1 ↔ t.val < 7 := by decide +kernel
/-- Every trip waits for its indices. -/
theorem await_ix : ∀ (i : grid0.Coords) (t : Fin k0_t1_loop.trips), k0_cond2 i t (w (t.val % 8)) = 1#1 := by decide +kernel
/-- Every trip sends its rows out. -/
theorem send_rows : ∀ (i : grid0.Coords) (t : Fin k0_t1_loop.trips), k0_cond5 i t (w (t.val % 8)) = 1#1 := by decide +kernel
/-- Every trip but the first waits for the rows of the block before. -/
theorem await_rows_iff : ∀ (i : grid0.Coords) (t : Fin k0_t1_loop.trips), k0_cond7 i t (w (t.val % 8)) = 1#1 ↔ 0 < t.val := by decide +kernel

/-- The checks the body makes of its counters pass. -/
theorem chk1 : ∀ (i : grid0.Coords) (t : Fin k0_t1_loop.trips),
    k0_chk1 i t (w (min (t.val + 1) 8)) (w t.val) (w t.val) (w (t.val - 1)) (w (t.val % 8)) := by decide +kernel
theorem chk2 : ∀ t : Fin k0_t1_loop.trips, k0_chk2 (w t.val) := by decide +kernel
theorem chk3 : ∀ t : Fin k0_t1_loop.trips, k0_chk3 (w t.val) := by decide +kernel
/-- So do the checks made after the loop. -/
theorem chk4 : k0_chk4 (w (8 - 1)) := by decide +kernel
theorem chk5 : ∀ i : grid0.Coords, k0_chk5 i (w (8 % 8)) := by decide +kernel

/-- Where the indices of the next block land: the slot of the next trip. -/
theorem off4 : ∀ t : Fin k0_t1_loop.trips, t.val < 7 → k0_off4 (w (min (t.val + 1) 8)) = ![(t.val + 1) % 2, 0, 0] := by decide +kernel
/-- Where they come from. -/
theorem off5 : ∀ (i : grid0.Coords) (t : Fin k0_t1_loop.trips), t.val < 7 → k0_off5 i (w (t.val % 8)) = ![0, 128 * (base i + (t.val + 1))] := by
  decide +kernel
theorem off6 : ∀ t : Fin k0_t1_loop.trips, t.val < 7 → k0_off6 (w (min (t.val + 1) 8)) = ![(t.val + 1) % 2] := by decide +kernel
theorem off7 : ∀ t : Fin k0_t1_loop.trips, k0_off7 (w t.val) = ![t.val % 2, 0, 0] := by decide +kernel
theorem off9 : ∀ t : Fin k0_t1_loop.trips, k0_off9 (w t.val) = ![t.val % 2] := by decide +kernel
theorem off10 : ∀ t : Fin k0_t1_loop.trips, k0_off10 (w t.val) = ![t.val % 2, 0, 0] := by decide +kernel
theorem off11 : ∀ t : Fin k0_t1_loop.trips, k0_off11 (w t.val) = ![t.val % 2, 0, 0] := by decide +kernel
theorem off12 : ∀ t : Fin k0_t1_loop.trips, k0_off12 (w t.val) = ![t.val % 2, 0, 0] := by decide +kernel
theorem off13 : ∀ (i : grid0.Coords) (t : Fin k0_t1_loop.trips), k0_off13 i (w (t.val % 8)) = ![128 * (base i + t.val), 0] := by decide +kernel
theorem off14 : ∀ t : Fin k0_t1_loop.trips, k0_off14 (w t.val) = ![t.val % 2] := by decide +kernel
theorem off17 : ∀ t : Fin k0_t1_loop.trips, 0 < t.val → k0_off17 (w (t.val - 1)) = ![(t.val - 1) % 2] := by decide +kernel
theorem off20 : k0_off20 (w (8 - 1)) = ![(8 - 1) % 2] := by decide +kernel
theorem off2 : ∀ i : grid0.Coords, k0_off2 i = ![0, 128 * (base i + 0)] := by decide +kernel

/-- A task's blocks are among the 256. -/
theorem base_lt : ∀ i : grid0.Coords, base i + 8 ≤ 256 := by decide +kernel

end Cert.Proof.Offsets
-- ==== Proof.Slots.lean ====
/-
  The pieces of memory one task of the row gather moves, each under one name: the two slots of its index buffer and
  of its row buffer, the blocks of 128 indices, the blocks of 128 rows, and the semaphore of each slot. The printed
  program addresses them by offsets it computes; each is the named piece when its offset is (`ixSlot_of`, …).

  `gathered T I` is what the call computes: row `r` of it is the row of the table `T` that index `r` of `I` names. The
  rows one block's list of indices fetches are that block of it (`payload_eq`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ValueLayout
public import proofs.«01_k».proof.Proof.Gen.KernelIdeal
public import proofs.«01_k».proof.Proof.Offsets

@[expose] public section

set_option Elab.async false

noncomputable section

namespace Cert.Proof

open Cert.KernelIdeal Cert.KernelIdeal.Gen Cert.Proof.Offsets
open Idealize.ShloMosaic Idealize.ShloMosaic.ValueIdx

variable {F : FTy → Type}

/-- The whole table, index array, result, index buffer and row buffer as a task names them. -/
abbrev tV : Memref sig .scVector .hbm S8192x128 .f32 := Memref.whole main_v0_scv
abbrev iV : Memref sig .scVector .hbm S1x32768 .i32 := Memref.whole main_v2_scv
abbrev oV : Memref sig .scVector .hbm S32768x128 .f32 := Memref.whole main_v3_scv
abbrev sV : Memref sig .scVector .vmem S2x1x128 .i32 := Memref.whole cc0_scoped0
abbrev rV : Memref sig .scVector .vmem S2x128x128 .f32 := Memref.whole cc0_scoped2

/-- The slot of trip `n`: its parity. -/
abbrev par (n : ℕ) : Fin 2 := ⟨n % 2, Nat.mod_lt _ (by decide)⟩

/-! ## The pieces -/

theorem ixSlot_inb : ∀ (s : Fin 2) (a : Fin 3), (![s.val, 0, 0] : Fin 3 → ℕ) a + S1x1x128.size a ≤ S2x1x128.size a := by decide
theorem rowSlot_inb : ∀ (s : Fin 2) (a : Fin 3), (![s.val, 0, 0] : Fin 3 → ℕ) a + S1x128x128.size a ≤ S2x128x128.size a := by decide
theorem sem_inb : ∀ (s : Fin 2) (a : Fin 1), (![s.val] : Fin 1 → ℕ) a + S1.size a ≤ S2.size a := by decide
theorem ixBlk_inb (b : Fin 256) : ∀ a : Fin 2, (![0, 128 * b.val] : Fin 2 → ℕ) a + S1x128.size a ≤ S1x32768.size a := by
  have := b.isLt
  intro a; match a with
  | ⟨0, _⟩ => exact Nat.le_refl 1
  | ⟨1, _⟩ => show 128 * b.val + 128 ≤ 32768; omega
theorem outBlk_inb (b : Fin 256) : ∀ a : Fin 2, (![128 * b.val, 0] : Fin 2 → ℕ) a + S128x128.size a ≤ S32768x128.size a := by
  have := b.isLt
  intro a; match a with
  | ⟨0, _⟩ => show 128 * b.val + 128 ≤ 32768; omega
  | ⟨1, _⟩ => exact Nat.le_refl 128

/-- Slot `s` of the index buffer, one row of 128 words. -/
def ixSlot (s : Fin 2) : Memref sig .scVector .vmem S1x128 .i32 :=
  (sV.slice (Rect.unit (s := S2x1x128) ![s.val, 0, 0] S1x1x128.size (ixSlot_inb s)) (fun _ => rfl)).squeeze S1x128 squeezes_S1x1x128_S1x128
/-- The same words as the list a gather reads. -/
def listSlot (s : Fin 2) : Memref sig .scVector .vmem S128 .i32 :=
  ((ixSlot s).slice (Rect.unit (s := S1x128) ![0, 0] S1x128.size inb_S1x128_S1x128_0_0) (fun _ => rfl)).squeeze S128 squeezes_S1x128_S128
/-- Slot `s` of the row buffer, 128 rows. -/
def rowSlot (s : Fin 2) : Memref sig .scVector .vmem S128x128 .f32 :=
  (rV.slice (Rect.unit (s := S2x128x128) ![s.val, 0, 0] S1x128x128.size (rowSlot_inb s)) (fun _ => rfl)).squeeze S128x128 squeezes_S1x128x128_S128x128
/-- Block `b` of the indices. -/
def ixBlk (b : Fin 256) : Memref sig .scVector .hbm S1x128 .i32 :=
  iV.slice (Rect.unit (s := S1x32768) ![0, 128 * b.val] S1x128.size (ixBlk_inb b)) (fun _ => rfl)
/-- Block `b` of the result's rows. -/
def outBlk (b : Fin 256) : Memref sig .scVector .hbm S128x128 .f32 :=
  oV.slice (Rect.unit (s := S32768x128) ![128 * b.val, 0] S128x128.size (outBlk_inb b)) (fun _ => rfl)
/-- The table as the gather reads it: all of it. -/
def tabAll : Memref sig .scVector .hbm S8192x128 .f32 :=
  tV.slice (Rect.unit (s := S8192x128) ![0, 0] S8192x128.size inb_S8192x128_S8192x128_0_0) (fun _ => rfl)
/-- The semaphore of slot `s` of the index buffer. -/
def semIx (s : Fin 2) : DmaSem sig :=
  ((cc0_scoped1.slice (Rect.unit (s := S2) ![s.val] S1.size (sem_inb s))).squeeze S_ squeezes_S1_S_).sem
/-- The semaphore of slot `s` of the row buffer. -/
def semRow (s : Fin 2) : DmaSem sig :=
  ((cc0_scoped3.slice (Rect.unit (s := S2) ![s.val] S1.size (sem_inb s))).squeeze S_ squeezes_S1_S_).sem
/-- The semaphore of the gather. -/
def semGat : DmaSem sig := cc0_scoped4.sem

/-! ## The printed pieces are the named ones -/

theorem ixSlot_of {off : Fin 3 → ℕ} (s : Fin 2) (h : off = ![s.val, 0, 0]) (p : ∀ a, off a + S1x1x128.size a ≤ S2x1x128.size a) :
    (sV.slice (Rect.unit (s := S2x1x128) off S1x1x128.size p) (fun _ => rfl)).squeeze S1x128 squeezes_S1x1x128_S1x128 = ixSlot s := by
  subst h; rfl
theorem listSlot_of {off : Fin 3 → ℕ} (s : Fin 2) (h : off = ![s.val, 0, 0]) (p : ∀ a, off a + S1x1x128.size a ≤ S2x1x128.size a) :
    (((sV.slice (Rect.unit (s := S2x1x128) off S1x1x128.size p) (fun _ => rfl)).squeeze S1x128 squeezes_S1x1x128_S1x128).slice
      (Rect.unit (s := S1x128) ![0, 0] S1x128.size inb_S1x128_S1x128_0_0) (fun _ => rfl)).squeeze S128 squeezes_S1x128_S128 = listSlot s := by
  subst h; rfl
theorem rowSlot_of {off : Fin 3 → ℕ} (s : Fin 2) (h : off = ![s.val, 0, 0]) (p : ∀ a, off a + S1x128x128.size a ≤ S2x128x128.size a) :
    (rV.slice (Rect.unit (s := S2x128x128) off S1x128x128.size p) (fun _ => rfl)).squeeze S128x128 squeezes_S1x128x128_S128x128 = rowSlot s := by
  subst h; rfl
theorem ixBlk_of {off : Fin 2 → ℕ} (b : Fin 256) (h : off = ![0, 128 * b.val]) (p : ∀ a, off a + S1x128.size a ≤ S1x32768.size a) :
    iV.slice (Rect.unit (s := S1x32768) off S1x128.size p) (fun _ => rfl) = ixBlk b := by
  subst h; rfl
theorem outBlk_of {off : Fin 2 → ℕ} (b : Fin 256) (h : off = ![128 * b.val, 0]) (p : ∀ a, off a + S128x128.size a ≤ S32768x128.size a) :
    oV.slice (Rect.unit (s := S32768x128) off S128x128.size p) (fun _ => rfl) = outBlk b := by
  subst h; rfl
theorem semIx_of {off : Fin 1 → ℕ} (s : Fin 2) (h : off = ![s.val]) (p : ∀ a, off a + S1.size a ≤ S2.size a) :
    ((cc0_scoped1.slice (Rect.unit (s := S2) off S1.size p)).squeeze S_ squeezes_S1_S_).sem = semIx s := by
  subst h; rfl
theorem semRow_of {off : Fin 1 → ℕ} (s : Fin 2) (h : off = ![s.val]) (p : ∀ a, off a + S1.size a ≤ S2.size a) :
    ((cc0_scoped3.slice (Rect.unit (s := S2) off S1.size p)).squeeze S_ squeezes_S1_S_).sem = semRow s := by
  subst h; rfl

/-! ## The values -/

/-- What the call computes of the table `T` and the indices `I`: row `r` is the table's row named by index `r` (an index
    outside the table, which the precondition excludes, is read modulo the table's length). -/
def gathered (T : S8192x128.Idx → Elt F .f32) (I : S1x32768.Idx → Elt F .i32) : S32768x128.Idx → Elt F .f32 :=
  fun x => T (ix2 ⟨(I (ix2 (0 : Fin 1) (x 0))).toNat % 8192, Nat.mod_lt _ (by decide)⟩ (x 1))

/-- Element `(0, c)` of block `b` of the indices is index `128 b + c`. -/
theorem ixBlk_emb (b : Fin 256) (c : Fin 128) :
    (ixBlk b).view.emb (ix2 (0 : Fin 1) c) = ix2 (0 : Fin 1) (⟨128 * b.val + c.val, by omega⟩ : Fin 32768) := by
  funext a; apply Fin.ext
  match a with
  | ⟨0, _⟩ => rfl
  | ⟨1, _⟩ => show 128 * b.val + 1 * c.val = 128 * b.val + c.val; omega

/-- Element `(r, c)` of block `b` of the result is its element `(128 b + r, c)`. -/
theorem outBlk_emb (b : Fin 256) (r c : Fin 128) :
    (outBlk b).view.emb (ix2 r c) = ix2 (⟨128 * b.val + r.val, by omega⟩ : Fin 32768) c := by
  funext a; apply Fin.ext
  match a with
  | ⟨0, _⟩ => show 128 * b.val + 1 * r.val = 128 * b.val + r.val; omega
  | ⟨1, _⟩ => show 0 + 1 * c.val = c.val; omega

/-- The table as the gather reads it is the table, element by element. -/
theorem tabAll_emb (x : S8192x128.Idx) : tabAll.view.emb x = x := by
  funext a; apply Fin.ext
  match a with
  | ⟨0, _⟩ => show 0 + 1 * (x 0).val = (x 0).val; omega
  | ⟨1, _⟩ => show 0 + 1 * (x 1).val = (x 1).val; omega

/-- Word `k` of the list is word `(0, k)` of its slot. -/
theorem listSlot_emb (s : Fin 2) (k : Fin 128) : (listSlot s).view.emb (ix1 k) = (ixSlot s).view.emb (ix2 (0 : Fin 1) k) := by
  show (ixSlot s).view.emb ((Rect.unit (s := S1x128) ![0, 0] S1x128.size inb_S1x128_S1x128_0_0).emb
    (Shape.reshapeEquiv squeezes_S1x128_S128.numel_eq (ix1 k))) = _
  congr 1
  have e : Shape.reshapeEquiv squeezes_S1x128_S128.numel_eq (ix1 k) = (ix2 (0 : Fin 1) k : S1x128.Idx) :=
    Shape.reshapeEquiv_eq_of_rowMajor _ (by
      rw [Shape.rowMajor_val_two, Shape.rowMajor_val_one]
      show 0 * 128 + k.val = k.val
      omega)
  rw [e]
  funext a; apply Fin.ext
  match a with
  | ⟨0, _⟩ => rfl
  | ⟨1, _⟩ => show 0 + 1 * k.val = k.val; omega

/-- A word of a list, a block of indices, the table and a block of rows, read. -/
theorem list_read (s : Fin 2) (f : S2x1x128.Idx → Elt F .i32) (k : Fin 128) :
    (listSlot s).view.read (Elt F) f (ix1 k) = (ixSlot s).view.read (Elt F) f (ix2 (0 : Fin 1) k) := congrArg f (listSlot_emb s k)
theorem ixBlk_read (b : Fin 256) (I : S1x32768.Idx → Elt F .i32) (c : Fin 128) :
    (ixBlk b).view.read (Elt F) I (ix2 (0 : Fin 1) c) = I (ix2 (0 : Fin 1) (⟨128 * b.val + c.val, by omega⟩ : Fin 32768)) :=
  congrArg I (ixBlk_emb b c)
theorem tabAll_read (T : S8192x128.Idx → Elt F .f32) (x : S8192x128.Idx) : tabAll.view.read (Elt F) T x = T x := congrArg T (tabAll_emb x)
theorem outBlk_read (b : Fin 256) (O : S32768x128.Idx → Elt F .f32) (r c : Fin 128) :
    (outBlk b).view.read (Elt F) O (ix2 r c) = O (ix2 (⟨128 * b.val + r.val, by omega⟩ : Fin 32768) c) := congrArg O (outBlk_emb b r c)

/-- A block's list of indices, once its slot holds that block of the index array. -/
theorem list_val (s : Fin 2) (b : Fin 256) (f : S2x1x128.Idx → Elt F .i32) (I : S1x32768.Idx → Elt F .i32)
    (hf : (ixSlot s).view.read (Elt F) f = (ixBlk b).view.read (Elt F) I) (k : Fin 128) :
    (listSlot s).view.read (Elt F) f (ix1 k) = I (ix2 (0 : Fin 1) (⟨128 * b.val + k.val, by omega⟩ : Fin 32768)) :=
  (list_read s f k).trans ((congrFun hf _).trans (ixBlk_read b I k))

/-- Every word of the list names a row of the table, when every index does. -/
theorem list_lt (s : Fin 2) (b : Fin 256) (f : S2x1x128.Idx → Elt F .i32) (I : S1x32768.Idx → Elt F .i32)
    (hI : ∀ j, (I j : BitVec 32).toNat < 8192)
    (hf : (ixSlot s).view.read (Elt F) f = (ixBlk b).view.read (Elt F) I) (x : S128.Idx) :
    ((listSlot s).view.read (Elt F) f x : BitVec 32).toNat < S8192x128.size gathers_S8192x128_S128x128.axis := by
  obtain ⟨k, rfl⟩ : ∃ k : Fin 128, x = ix1 k := ⟨x 0, eq_ix1 x⟩
  exact lt_of_eq_of_lt (congrArg BitVec.toNat (list_val s b f I hf k)) (hI _)

/-- What the gather of one block's list brings is that block of `gathered`. -/
theorem payload_eq (s : Fin 2) (b : Fin 256) (f : S2x1x128.Idx → Elt F .i32) (T : S8192x128.Idx → Elt F .f32)
    (I : S1x32768.Idx → Elt F .i32) (hI : ∀ j, (I j : BitVec 32).toNat < 8192)
    (hf : (ixSlot s).view.read (Elt F) f = (ixBlk b).view.read (Elt F) I)
    (hn : S128.numel = S128x128.size gathers_S8192x128_S128x128.axis')
    (hin : ∀ x, ((listSlot s).view.read (Elt F) f x : BitVec 32).toNat < S8192x128.size gathers_S8192x128_S128x128.axis) :
    SparseCore.gatherPayload gathers_S8192x128_S128x128 (tabAll.view.read (Elt F) T)
      (SparseCore.rows ((listSlot s).view.read (Elt F) f) hn hin) = (outBlk b).view.read (Elt F) (gathered T I) := by
  funext x
  obtain ⟨r, c, rfl⟩ : ∃ (r c : Fin 128), x = ix2 r c := ⟨x 0, x 1, eq_ix2 x⟩
  refine (tabAll_read T _).trans (Eq.trans ?_ (outBlk_read b (gathered T I) r c).symm)
  show T _ = T _
  congr 1
  funext a
  match a with
  | ⟨0, _⟩ =>
    apply Fin.ext
    show ((listSlot s).view.read (Elt F) f (S128.rowMajor.symm (Fin.cast hn.symm r)) : BitVec 32).toNat
      = (I (ix2 (0 : Fin 1) (⟨128 * b.val + r.val, _⟩ : Fin 32768)) : BitVec 32).toNat % 8192
    rw [Nat.mod_eq_of_lt (hI _)]
    have e : S128.rowMajor.symm (Fin.cast hn.symm r) = (ix1 r : S128.Idx) := by
      rw [Equiv.symm_apply_eq]; apply Fin.ext
      rw [Shape.rowMajor_val_one]; rfl
    rw [e]
    exact congrArg BitVec.toNat (list_val s b f I hf r)
  | ⟨1, _⟩ => rfl

end Cert.Proof

end
-- ==== Proof.Steps.lean ====
/-
  The steps of one task of the row gather, each from what the task holds before it to what it holds after it.

  A task holds, of each of the two slots of its index buffer, one of three things: the slot at rest (`IxIdle`), a copy
  of a block of indices on its way into it (`IxBusy`), or the block landed (`IxReady`). Of each slot of its row buffer:
  the slot at rest (`RowIdle`), the rows of a block gathered into it (`RowReady`), or their copy to the result on its
  way (`RowBusy`). The six operations of the loop lead from one to the next.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Slots

@[expose] public section

set_option Elab.async false

noncomputable section

namespace Cert.Proof

open Cert.KernelIdeal Cert.KernelIdeal.Gen Cert.Proof.Offsets
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

abbrev cV (L : grid0.Coords) : Fin τ.nSC := (L 0).castLE hcore0
abbrev jV (L : grid0.Coords) : Fin τ.nSub := (L 1).castLE hsub0
/-- The vector subcore that runs the task at `L`. -/
abbrev at_ (d : Dev nD) (L : grid0.Coords) : Thread nD τ := V d (cV L) (jV L)
abbrev sLoc (d : Dev nD) (L : grid0.Coords) : Loc nD τ sig := (at_ d L).loc cc0_scoped0
abbrev rLoc (d : Dev nD) (L : grid0.Coords) : Loc nD τ sig := (at_ d L).loc cc0_scoped2

/-- The words of a slot's list are the words of the slot. -/
theorem set_listSlot (s : Fin 2) : (listSlot s).view.set = (ixSlot s).view.set := by
  refine (View.set_reshape _ _).trans ?_
  refine Finset.eq_of_subset_of_card_le (View.set_slice_subset (ixSlot s).view _) ?_
  rw [View.card_set, View.card_set]; exact Nat.le_refl _

/-- The gather reads all of the table. -/
theorem set_tabAll : tabAll.view.set = Finset.univ :=
  Finset.eq_univ_iff_forall.mpr fun x => Finset.mem_map.mpr ⟨x, Finset.mem_univ _, tabAll_emb x⟩

/-! ## What a task holds -/

section

variable (d : Dev nD) (L : grid0.Coords) (Tb : Buf (Elt F) (tLoc d)) (Ix : Buf (Elt F) (iLoc d)) (qi : Fin 2 → PosShare TreeShare) (qt : PosShare TreeShare)

/-- Slot `s` of the index buffer, at any contents. -/
def IxAny (s : Fin 2) : sProp 𝕄 := iprop(∃ f : Buf (Elt F) (sLoc d L), sLoc d L ↦[(ixSlot s).view.set]{fullShare} f)
/-- Slot `s` of the index buffer, holding block `b` of the indices. -/
def IxHas (s : Fin 2) (b : Fin 256) : sProp 𝕄 :=
  iprop(∃ f : Buf (Elt F) (sLoc d L), ⌜(ixSlot s).view.read (Elt F) f = (ixBlk b).view.read (Elt F) Ix⌝ ∗ sLoc d L ↦[(ixSlot s).view.set]{fullShare} f)
/-- Slot `s` of the row buffer, at any contents. -/
def RowAny (s : Fin 2) : sProp 𝕄 := iprop(∃ f : Buf (Elt F) (rLoc d L), rLoc d L ↦[(rowSlot s).view.set]{fullShare} f)
/-- Slot `s` of the row buffer, holding the rows of block `b`. -/
def RowHas (s : Fin 2) (b : Fin 256) : sProp 𝕄 :=
  iprop(∃ f : Buf (Elt F) (rLoc d L), ⌜(rowSlot s).view.read (Elt F) f = (outBlk b).view.read (Elt F) (gathered Tb Ix)⌝ ∗ rLoc d L ↦[(rowSlot s).view.set]{fullShare} f)

/-- The share of the index array that slot `s`'s copies read through. -/
def IxArr (s : Fin 2) : sProp 𝕄 := iLoc d ↦{qi s} Ix
/-- The task's share of the table. -/
def Tab : sProp 𝕄 := tLoc d ↦{qt} Tb
/-- Block `b` of the result, at `f`. -/
def Out (b : Fin 256) (f : Buf (Elt F) (oLoc d)) : sProp 𝕄 := oLoc d ↦[(outBlk b).view.set]{fullShare} f

/-- The credits of an index copy, of a gather and of a row copy. -/
abbrev nIx (s : Fin 2) : ℕ := (ixSlot s).view.dmaCredit
abbrev nRow (s : Fin 2) : ℕ := (rowSlot s).view.dmaCredit
abbrev nOut (b : Fin 256) : ℕ := (outBlk b).view.dmaCredit

/-- Slot `s` of the index buffer at rest. -/
def IxIdle (s : Fin 2) : sProp 𝕄 := iprop(IxAny d L s ∗ IxArr d Ix qi s ∗ semVal (at_ d L, .dma (semIx s)) 0)
/-- Block `b` of the indices landed in slot `s`. -/
def IxReady (s : Fin 2) (b : Fin 256) : sProp 𝕄 := iprop(IxHas d L Ix s b ∗ IxArr d Ix qi s ∗ semVal (at_ d L, .dma (semIx s)) 0)
/-- A copy of block `b` of the indices on its way to slot `s`. -/
def IxBusy (s : Fin 2) (b : Fin 256) : sProp 𝕄 :=
  iprop(Flight countersEmb (at_ d L) (.dma (semIx s)) (default : HIx 1) (nIx s)
      iprop(IxHas d L Ix s b ∗ iLoc d ↦[(ixBlk b).view.set]{qi s} Ix)
    ∗ iLoc d ↦[Finset.univ \ (ixBlk b).view.set]{qi s} Ix)
/-- Slot `s` of the row buffer at rest. -/
def RowIdle (s : Fin 2) : sProp 𝕄 := iprop(RowAny d L s ∗ semVal (at_ d L, .dma (semRow s)) 0)
/-- The rows of block `b` gathered into slot `s`. -/
def RowReady (s : Fin 2) (b : Fin 256) : sProp 𝕄 := iprop(RowHas d L Tb Ix s b ∗ semVal (at_ d L, .dma (semRow s)) 0)
/-- The rows of block `b` on their way from slot `s` to the result. -/
def RowBusy (s : Fin 2) (b : Fin 256) : sProp 𝕄 :=
  Flight countersEmb (at_ d L) (.dma (semRow s)) (default : HIx 1) (nOut b) iprop(Out d b (gathered Tb Ix) ∗ RowAny d L s)
/-- A gather of block `b`'s rows on its way. -/
def GatBusy (s r : Fin 2) (b : Fin 256) : sProp 𝕄 :=
  iprop(Flight countersEmb (at_ d L) (.dma semGat) (default : HIx 1) (nRow r)
      iprop(RowHas d L Tb Ix r b ∗ (tLoc d ↦[tabAll.view.set]{qt} Tb) ∗ IxAny d L s)
    ∗ IxArr d Ix qi s ∗ semVal (at_ d L, .dma (semIx s)) 0 ∗ semVal (at_ d L, .dma (semRow r)) 0)
/-- The semaphore of the gather, clear. -/
def GatIdle : sProp 𝕄 := semVal (at_ d L, .dma semGat) 0

/-- The task owes `O` still, and has waited, beyond the waits `W`, on its own transfers only. -/
def Owes (O : CellTallies nD τ sig (HIx 1)) (W : Waits sig (HIx 1)) : sProp 𝕄 :=
  iprop(∃ W', ⌜∀ p ∈ W', p ∈ W ∨ p.2 = none⌝ ∗ owes (at_ d L) O W')

/-- The rest of the task's program, `p`, runs and ends with `Q`. -/
abbrev Runs [FloatOps F] {α : Type} (p : Prog (TpuEff nD τ sig (Elt F) Λ₀ (.scVector (cV L) (jV L))) α) (Q : α → sProp 𝕄) : sProp 𝕄 :=
  wp frame (wpE (defs₀ (F := F)) 𝒱₀ (at_ d L) none) Set.univ p Q

variable {d L Tb Ix qi qt}

theorem owes_insert {O : CellTallies nD τ sig (HIx 1)} {W W' : Waits sig (HIx 1)} (sm : SemLoc sig) (h : ∀ p ∈ W', p ∈ W ∨ p.2 = none) :
    (owes (at_ d L) O (insert (sm, (default : HIx 1)) W') : sProp 𝕄) ⊢ iprop(∃ W', ⌜∀ p ∈ W', p ∈ W ∨ p.2 = none⌝ ∗ owes (at_ d L) O W') := by
  iintro HO
  iexists _; isplitr
  swap; · iexact HO
  ipureintro; intro p hp
  rcases Finset.mem_insert.mp hp with hp | hp
  · exact .inr (hp ▸ rfl)
  · exact h p hp

/-! ## The steps -/

variable [FloatOps F] {α : Type} {Q : α → sProp (MT nD τ sig (HIx 1) (Elt F) ℕ UU ℕ)}
  {O : CellTallies nD τ sig (HIx 1)} {W : Waits sig (HIx 1)}
  {k : PUnit → Prog (TpuEff nD τ sig (Elt F) Λ₀ (.scVector (cV L) (jV L))) α}

/-- A copy of block `b` of the indices to slot `s` starts. -/
theorem fetch_step (s : Fin 2) (b : Fin 256) {src : Memref sig .scVector .hbm S1x128 .i32} {dst : Memref sig .scVector .vmem S1x128 .i32}
    {sm : DmaSem sig} (hs : src = ixBlk b) (hd : dst = ixSlot s) (hm : sm = semIx s) {h1 : src.view.WordExact} {h2 : dst.view.WordExact}
    {h3 : DmaTarget.Typed (nD := nD) (τ := τ) (p := .scVector (cV L) (jV L)) .hbm (.dma sm) (.here dst)} :
    (IxIdle d L Ix qi s : sProp 𝕄)
      ⊢ iprop((IxBusy d L Ix qi s b -∗ Runs d L (k ⟨⟩) Q)
        -∗ Runs d L (.op (.enqueueDma src (.here dst) (.dma sm) h1 h2 h3) k) Q) := by
  subst hs hd hm
  unfold IxIdle IxAny IxArr IxBusy
  iintro ⟨⟨%f, Hf⟩, HI, Hv⟩ Hk
  ihave HI' := (pointsTo_split_subset (ℓ := iLoc d) (q := qi s) (f := Ix) (S := Finset.univ) (Finset.subset_univ (ixBlk b).view.set)).1 $$ HI
  icases HI' with ⟨HI, HIr⟩
  iapply (Transfers.wp_dmaLocal countersEmb 𝒱₀ (at_ d L) none (src := ixBlk b) (dst := ixSlot s) (via := ReadAs.same) (q := qi s) (fs := Ix)
    (Sd := (ixSlot s).view.set) (fd := f) (default : HIx 1) (nIx s) rfl
    (View.dmaCredit_pos _ (by decide)) (Finset.Subset.refl _)) $$ [HI Hf Hv]
  · isplitl [HI]; · iexact HI
    isplitl [Hf]; · iexact Hf
    iexact Hv
  iintro Hfl
  iapply Hk
  isplitl [Hfl]
  · iapply (Transfers.Flight_mono countersEmb (at_ d L) (D := iprop(((ixSlot s).view.loc (at_ d L) ↦[(ixSlot s).view.set]{fullShare}
        (View.write (Elt F) (ixSlot s).view f (ReadAs.same.apply ((ixBlk b).view.read (Elt F) Ix)) Finset.univ)) ∗ ((ixBlk b).view.loc (at_ d L) ↦[(ixBlk b).view.set]{qi s} Ix))) ?_)
    · iintro ⟨Hd, Hs⟩
      isplitl [Hd]
      · unfold IxHas
        iexists _; isplitr
        swap; · iexact Hd
        ipureintro
        exact View.read_write_univ (v := (ixSlot s).view) f _
      · iexact Hs
    · iexact Hfl
  · iexact HIr

/-- The copy of block `b` of the indices to slot `s` is waited for. -/
theorem await_fetch_step (s : Fin 2) (b : Fin 256) {src : Memref sig .scVector .hbm S1x128 .i32} {dst : Memref sig .scVector .vmem S1x128 .i32}
    {sm : DmaSem sig} (hd : dst = ixSlot s) (hm : sm = semIx s) {h1 : src.view.WordExact} {h2 : dst.view.WordExact} :
    (iprop(IxBusy d L Ix qi s b ∗ Owes d L O W ∗ MayWaits (at_ d L) (default : HIx 1) O) : sProp 𝕄)
      ⊢ iprop((iprop(IxReady d L Ix qi s b ∗ Owes d L O W) -∗ Runs d L (k ⟨⟩) Q)
        -∗ Runs d L (.op (.waitDma2 sm src dst h1 h2) k) Q) := by
  subst hd hm
  unfold IxBusy Owes
  iintro ⟨⟨Hfl, HIr⟩, ⟨%W', %hW, HO⟩, Hmw⟩ Hk
  iapply (Transfers.wp_waitLocalO countersEmb 𝒱₀ (at_ d L) none (default : HIx 1) (N := nIx s) rfl) $$ [Hfl HO Hmw]
  · isplitl [Hfl]; · iexact Hfl
    isplitl [HO]; · iexact HO
    iapply (Transfers.MayWaits.elim (SemLoc.dma (semIx s))) $$ Hmw
  iintro ⟨⟨Hd, HI⟩, Hv, HO⟩
  iapply Hk
  isplitr [HO]
  · unfold IxReady IxArr
    isplitl [Hd]; · iexact Hd
    isplitl [HI HIr]
    · iapply (pointsTo_split_subset (ℓ := iLoc d) (q := qi s) (f := Ix) (S := Finset.univ) (Finset.subset_univ (ixBlk b).view.set)).2
      isplitl [HI] <;> iassumption
    iexact Hv
  · iapply (owes_insert (F := F) (SemLoc.dma (semIx s)) hW); iexact HO

/-- The credits of a gather's rows are its slot's. -/
theorem gather_credit : ∀ (r : Fin 2) (h : S8192x128.Gathers 0 S128x128),
    ∑ j, ((rowSlot r).slice (S128x128.rowRect h.axis' j) (S128x128.stride_rowRect h.axis' j)).view.dmaCredit = nRow r := by decide +kernel

/-- The gather of block `b`'s rows into slot `r` starts, by the indices landed in slot `s`. -/
theorem gather_step (s r : Fin 2) (b : Fin 256) (hI : ∀ j : S1x32768.Idx, (Ix j : BitVec 32).toNat < 8192)
    {src : Memref sig .scVector .hbm S8192x128 .f32} {dst : Memref sig .scVector .vmem S128x128 .f32} {offs : Memref sig .scVector .vmem S128 .i32}
    {sm : DmaSem sig} (hs : src = tabAll) (hd : dst = rowSlot r) (ho : offs = listSlot s) (hm : sm = semGat)
    {hp : Kind.scVector = .scVector} {hn : S128.numel = S128x128.size gathers_S8192x128_S128x128.axis'}
    {h1 : src.view.WordExact} {he : EltTy.f32.bits = 32} {h2 : Space.hbm = .hbm ∨ Space.hbm = .shared} {h3 : S8192x128.StreamRows 0} :
    (iprop(IxReady d L Ix qi s b ∗ RowIdle d L r ∗ Tab d Tb qt ∗ GatIdle d L) : sProp 𝕄)
      ⊢ iprop((GatBusy d L Tb Ix qi qt s r b -∗ Runs d L (k ⟨⟩) Q)
        -∗ Runs d L (SparseCore.enqueueIndirectGather hp src dst gathers_S8192x128_S128x128 offs hn sm h1 he h2 h3 >>= k) Q) := by
  subst hs hd ho hm
  unfold IxReady IxHas RowIdle RowAny Tab GatIdle GatBusy
  iintro ⟨⟨⟨%fo, %hfo, Hfo⟩, HI, Hvi⟩, ⟨⟨%fd, Hfd⟩, Hvr⟩, HT, Hv⟩ Hk
  iapply (SparseCore.wp_indirectGatherLocal countersEmb 𝒱₀ (at_ d L) none (src := tabAll) (dst := rowSlot r) (offs := listSlot s)
    (hg := gathers_S8192x128_S128x128) (q := qt) (qo := fullShare) (fs := Tb) (fd := fd) (fo := fo) (default : HIx 1)
      (nRow r) (gather_credit r _) (by decide) (list_lt s b fo Ix hI hfo)) $$ [HT Hfd Hfo Hv]
  · isplitl [HT]; · rw [set_tabAll]; iexact HT
    isplitl [Hfd]; · iexact Hfd
    isplitl [Hfo]; · rw [set_listSlot]; iexact Hfo
    iexact Hv
  iintro Hfl
  iapply Hk
  isplitl [Hfl]
  · iapply (Transfers.Flight_mono countersEmb (at_ d L) (D := iprop(((rowSlot r).view.loc (at_ d L) ↦[(rowSlot r).view.set]{fullShare}
        (View.write (Elt F) (rowSlot r).view fd (SparseCore.gatherPayload gathers_S8192x128_S128x128 (tabAll.view.read (Elt F) Tb)
          (SparseCore.rows ((listSlot s).view.read (Elt F) fo) hn (list_lt s b fo Ix hI hfo))) Finset.univ))
        ∗ (tabAll.view.loc (at_ d L) ↦[tabAll.view.set]{qt} Tb) ∗ ((listSlot s).view.loc (at_ d L) ↦[(listSlot s).view.set]{fullShare} fo))) ?_)
    · iintro ⟨Hd, HT, Ho⟩
      isplitl [Hd]
      · unfold RowHas
        iexists _; isplitr
        swap; · iexact Hd
        ipureintro
        exact (View.read_write_univ (v := (rowSlot r).view) fd _).trans (payload_eq s b fo Tb Ix hI hfo hn _)
      isplitl [HT]; · iexact HT
      unfold IxAny
      iexists fo; rw [← set_listSlot]; iexact Ho
    · iexact Hfl
  isplitl [HI]; · iexact HI
  isplitl [Hvi]; · iexact Hvi
  iexact Hvr

/-- The gather of block `b`'s rows is waited for. -/
theorem await_gather_step (s r : Fin 2) (b : Fin 256) {src : Memref sig .scVector .hbm S8192x128 .f32} {dst : Memref sig .scVector .vmem S128x128 .f32}
    {sm : DmaSem sig} (hd : dst = rowSlot r) (hm : sm = semGat) {h1 : src.view.WordExact} {h2 : dst.view.WordExact} :
    (iprop(GatBusy d L Tb Ix qi qt s r b ∗ Owes d L O W ∗ MayWaits (at_ d L) (default : HIx 1) O) : sProp 𝕄)
      ⊢ iprop((iprop(IxIdle d L Ix qi s ∗ RowReady d L Tb Ix r b ∗ Tab d Tb qt ∗ GatIdle d L ∗ Owes d L O W) -∗ Runs d L (k ⟨⟩) Q)
        -∗ Runs d L (.op (.waitDma2 sm src dst h1 h2) k) Q) := by
  subst hd hm
  unfold GatBusy Owes
  iintro ⟨⟨Hfl, HI, Hvi, Hvr⟩, ⟨%W', %hW, HO⟩, Hmw⟩ Hk
  iapply (Transfers.wp_waitLocalO countersEmb 𝒱₀ (at_ d L) none (default : HIx 1) (N := nRow r) rfl) $$ [Hfl HO Hmw]
  · isplitl [Hfl]; · iexact Hfl
    isplitl [HO]; · iexact HO
    iapply (Transfers.MayWaits.elim (SemLoc.dma semGat)) $$ Hmw
  iintro ⟨⟨Hd, HT, Ho⟩, Hv, HO⟩
  iapply Hk
  unfold IxIdle RowReady Tab GatIdle
  isplitl [Ho HI Hvi]
  · isplitl [Ho]; · iexact Ho
    isplitl [HI]; · iexact HI
    iexact Hvi
  isplitl [Hd Hvr]
  · isplitl [Hd]; · iexact Hd
    iexact Hvr
  isplitl [HT]; · rw [set_tabAll]; iexact HT
  isplitl [Hv]; · iexact Hv
  iapply (owes_insert (F := F) (SemLoc.dma semGat) hW); iexact HO

/-- The copy of block `b`'s rows from slot `r` to the result starts. -/
theorem send_step (r : Fin 2) (b : Fin 256) {f₀ : Buf (Elt F) (oLoc d)} {src : Memref sig .scVector .vmem S128x128 .f32} {dst : Memref sig .scVector .hbm S128x128 .f32}
    {sm : DmaSem sig} (hs : src = rowSlot r) (hd : dst = outBlk b) (hm : sm = semRow r) {h1 : src.view.WordExact} {h2 : dst.view.WordExact}
    {h3 : DmaTarget.Typed (nD := nD) (τ := τ) (p := .scVector (cV L) (jV L)) .vmem (.dma sm) (.here dst)} :
    (iprop(RowReady d L Tb Ix r b ∗ Out d b f₀) : sProp 𝕄)
      ⊢ iprop((RowBusy d L Tb Ix r b -∗ Runs d L (k ⟨⟩) Q)
        -∗ Runs d L (.op (.enqueueDma src (.here dst) (.dma sm) h1 h2 h3) k) Q) := by
  subst hs hd hm
  unfold RowReady RowHas RowBusy Out
  iintro ⟨⟨⟨%f, %hf, Hf⟩, Hv⟩, Ho⟩ Hk
  iapply (Transfers.wp_dmaLocal countersEmb 𝒱₀ (at_ d L) none (src := rowSlot r) (dst := outBlk b) (via := ReadAs.same) (q := fullShare) (fs := f)
    (Sd := (outBlk b).view.set) (fd := f₀) (default : HIx 1) (nOut b) rfl
    (View.dmaCredit_pos _ (by decide)) (Finset.Subset.refl _)) $$ [Hf Ho Hv]
  · isplitl [Hf]; · iexact Hf
    isplitl [Ho]; · iexact Ho
    iexact Hv
  iintro Hfl
  iapply Hk
  iapply (Transfers.Flight_mono countersEmb (at_ d L) (D := iprop(((outBlk b).view.loc (at_ d L) ↦[(outBlk b).view.set]{fullShare}
        (View.write (Elt F) (outBlk b).view f₀ (ReadAs.same.apply ((rowSlot r).view.read (Elt F) f)) Finset.univ))
        ∗ ((rowSlot r).view.loc (at_ d L) ↦[(rowSlot r).view.set]{fullShare} f))) ?_)
  · iintro ⟨Hd, Hs⟩
    isplitl [Hd]
    · iapply (Entails.of_eq (pointsTo_congr (ℓ := oLoc d) (q := fullShare) (I := (outBlk b).view.set)
        (f := View.write (Elt F) (outBlk b).view f₀ (ReadAs.same.apply ((rowSlot r).view.read (Elt F) f)) Finset.univ) (g := gathered Tb Ix) (by
          intro i hi
          obtain ⟨x, -, rfl⟩ := Finset.mem_map.mp hi
          exact (View.write_emb_of_mem (v := (outBlk b).view) f₀ _ (Finset.mem_univ x)).trans (congrFun hf x))))
      iexact Hd
    · unfold RowAny
      iexists f; iexact Hs
  · iexact Hfl

/-- The copy of block `b`'s rows to the result is waited for. -/
theorem await_send_step (r : Fin 2) (b : Fin 256) {src : Memref sig .scVector .vmem S128x128 .f32} {dst : Memref sig .scVector .hbm S128x128 .f32}
    {sm : DmaSem sig} (hm : sm = semRow r) (hN : dst.view.dmaCredit = nOut b) {h1 : src.view.WordExact} {h2 : dst.view.WordExact} :
    (iprop(RowBusy d L Tb Ix r b ∗ Owes d L O W ∗ MayWaits (at_ d L) (default : HIx 1) O) : sProp 𝕄)
      ⊢ iprop((iprop(RowIdle d L r ∗ Out d b (gathered Tb Ix) ∗ Owes d L O W) -∗ Runs d L (k ⟨⟩) Q)
        -∗ Runs d L (.op (.waitDma2 sm src dst h1 h2) k) Q) := by
  subst hm
  unfold RowBusy Owes
  iintro ⟨Hfl, ⟨%W', %hW, HO⟩, Hmw⟩ Hk
  iapply (Transfers.wp_waitLocalO countersEmb 𝒱₀ (at_ d L) none (default : HIx 1) hN) $$ [Hfl HO Hmw]
  · isplitl [Hfl]; · iexact Hfl
    isplitl [HO]; · iexact HO
    iapply (Transfers.MayWaits.elim (SemLoc.dma (semRow r))) $$ Hmw
  iintro ⟨⟨Ho, Hd⟩, Hv, HO⟩
  iapply Hk
  unfold RowIdle
  isplitl [Hd Hv]
  · isplitl [Hd]; · iexact Hd
    iexact Hv
  isplitl [Ho]; · iexact Ho
  iapply (owes_insert (F := F) (SemLoc.dma (semRow r)) hW); iexact HO

end

end Cert.Proof

end
-- ==== Proof.Tile.lean ====
/-
  One task of the row gather, run.

  Before trip `t` of the task's loop (`LoopAt`): block `t` of the task's indices is on its way into slot `t mod 2` of the
  index buffer (after the last trip that slot is at rest) and the other slot is at rest; the rows of block `t - 1` are on their
  way from slot `t - 1 mod 2` of the row buffer to the result (before the first trip that slot is at rest) and the other
  slot is at rest; the blocks of the result below `t - 1` are the gathered rows, and those from `t` on are as they were.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Slots
public import proofs.«01_k».proof.Proof.Steps

@[expose] public section

set_option Elab.async false

noncomputable section

namespace Cert.Proof

open Cert.KernelIdeal Cert.KernelIdeal.Gen Cert.Proof.Offsets
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type}

local notation "𝕄" => MT nD τ sig (HIx 1) (Elt F) ℕ UU ℕ

/-- Block `n` of the task at `L`, among all blocks. -/
def blkN (L : grid0.Coords) (n : ℕ) : Fin 256 := ⟨(base L + n) % 256, Nat.mod_lt _ (by decide)⟩

theorem blkN_val (L : grid0.Coords) {n : ℕ} (h : n < 8) : (blkN L n).val = base L + n := by
  have := base_lt L
  exact Nat.mod_eq_of_lt (by omega)

/-- The word that names the task's first block. -/
abbrev first (i : grid0.Coords) : BitVec 32 :=
  Scalar.muli (Scalar.addi (Scalar.addi 0#32 (Scalar.muli (BitVec.ofNat 32 (i 1).val) 1#32)) (Scalar.muli (BitVec.ofNat 32 (i 0).val) 16#32)) 8#32

/-- The five words one trip of the printed loop computes from the five it was handed. -/
def nextWords (v4 arg5 arg6 arg7 arg8 arg9 arg10 : BitVec 32) : BitVec 32 × BitVec 32 × BitVec 32 × BitVec 32 × BitVec 32 :=
  let v64 : BitVec 1 := Scalar.cmpi .eq arg5 0#32
  let v65 : BitVec 1 := Scalar.cmpi .eq arg5 7#32
  let v66 : BitVec 32 := Scalar.addi arg10 v4
  let v68 : BitVec 32 := Scalar.select 1#1 (Scalar.subi arg10 1#32) arg10
  let v71 : BitVec 32 := Scalar.addi (Scalar.select (Scalar.cmpi .eq v68 4294967295#32) 7#32 v68) v4
  let v73 : BitVec 32 := Scalar.select 1#1 (Scalar.addi arg10 1#32) arg10
  let v76 : BitVec 32 := Scalar.addi (Scalar.select (Scalar.cmpi .eq v73 8#32) 0#32 v73) v4
  let v85 : BitVec 1 := Scalar.andi (Scalar.cmpi .ne v66 v76) (Scalar.xori (Scalar.cmpi .sge arg5 7#32) 1#1)
  let v116 : BitVec 1 := Scalar.ori (Scalar.cmpi .ne v66 v76) v65
  let v130 : BitVec 1 := Scalar.andi (Scalar.cmpi .ne v66 v71) (Scalar.xori v64 1#1)
  (Scalar.select (Scalar.andi v85 1#1) (Scalar.addi arg6 1#32) arg6,
    Scalar.select v116 (Scalar.addi arg7 1#32) arg7,
    Scalar.select (Scalar.andi v116 1#1) (Scalar.addi arg8 1#32) arg8,
    Scalar.select (Scalar.andi v130 1#1) (Scalar.addi arg9 1#32) arg9,
    Scalar.select (Scalar.cmpi .eq v73 8#32) 0#32 v73)

/-- They are the counters of the next trip. -/
theorem nextWords_eq : ∀ (i : grid0.Coords) (t : Fin k0_t1_loop.trips),
    nextWords (first i) (Scf.iv 0#32 1#32 t) (w (min (t.val + 1) 8)) (w t.val) (w t.val) (w (t.val - 1)) (w (t.val % 8)) = carried (t.val + 1) := by
  decide +kernel

section

variable (d : Dev nD) (L : grid0.Coords) (Tb : Buf (Elt F) (tLoc d)) (Ix : Buf (Elt F) (iLoc d)) (qi : Fin 2 → PosShare TreeShare) (qt : PosShare TreeShare)
  (f₀ : Buf (Elt F) (oLoc d))

/-- The slot of trip `t` before it: a block of indices on its way, or at rest after the last trip. -/
def IxNext (t : ℕ) : sProp 𝕄 := if t < 8 then IxBusy d L Ix qi (par t) (blkN L t) else IxIdle d L Ix qi (par t)
/-- The other slot of the row buffer before trip `t`: the rows of the block before on their way out, or at rest before the
    first trip. -/
def RowPrev (t : ℕ) : sProp 𝕄 := if 0 < t then RowBusy d L Tb Ix (par (t - 1)) (blkN L (t - 1)) else RowIdle d L (par (t + 1))
/-- The blocks of the result that have landed before trip `t`. -/
def Done (t : ℕ) : sProp 𝕄 := bigSep (Finset.range (t - 1)) fun n => Out d (blkN L n) (gathered Tb Ix)
/-- The blocks of the result not started before trip `t`. -/
def Todo (t : ℕ) : sProp 𝕄 := bigSep (Finset.Ico t 8) fun n => Out d (blkN L n) f₀

/-- What the task holds before trip `t`. -/
def LoopAt (O : CellTallies nD τ sig (HIx 1)) (W : Waits sig (HIx 1)) (t : ℕ)
    (acc : BitVec 32 × BitVec 32 × BitVec 32 × BitVec 32 × BitVec 32) : sProp 𝕄 :=
  iprop(⌜acc = carried t⌝ ∗ MayWaits (at_ d L) (default : HIx 1) O ∗ Owes d L O W ∗ IxNext d L Ix qi t ∗ IxIdle d L Ix qi (par (t + 1))
    ∗ RowPrev d L Tb Ix t ∗ RowIdle d L (par t) ∗ Tab d Tb qt ∗ GatIdle d L ∗ Done d L Tb Ix t ∗ Todo d L f₀ t)

variable {d L Tb Ix qi qt f₀}

theorem par_add_two (t : ℕ) : par (t + 1 + 1) = par t := Fin.ext (Nat.add_mod_right t 2)
theorem par_pred {t : ℕ} (h : 0 < t) : par (t - 1) = par (t + 1) := Fin.ext (show (t - 1) % 2 = (t + 1) % 2 by omega)

theorem ixNext_lt {t : ℕ} (h : t < 8) : (IxNext d L Ix qi t : sProp 𝕄) = IxBusy d L Ix qi (par t) (blkN L t) := if_pos h
theorem ixNext_eight : (IxNext d L Ix qi 8 : sProp 𝕄) = IxIdle d L Ix qi (par 8) := if_neg (by omega)
theorem rowPrev_zero : (RowPrev d L Tb Ix 0 : sProp 𝕄) = RowIdle d L (par 1) := if_neg (by omega)
theorem rowPrev_succ (t : ℕ) : (RowPrev d L Tb Ix (t + 1) : sProp 𝕄) = RowBusy d L Tb Ix (par t) (blkN L t) := if_pos (Nat.succ_pos t)

theorem todo_succ {t : ℕ} (h : t < 8) : (Todo d L f₀ t : sProp 𝕄) = iprop(Out d (blkN L t) f₀ ∗ Todo d L f₀ (t + 1)) := by
  unfold Todo
  rw [show Finset.Ico t 8 = insert t (Finset.Ico (t + 1) 8) by ext n; simp only [Finset.mem_Ico, Finset.mem_insert]; omega,
    SparseCore.bigSep_insert' (by simp)]

theorem done_succ {t : ℕ} (h : 0 < t) :
    (Done d L Tb Ix (t + 1) : sProp 𝕄) = iprop(Out d (blkN L (t - 1)) (gathered Tb Ix) ∗ Done d L Tb Ix t) := by
  unfold Done
  rw [show Finset.range (t + 1 - 1) = insert (t - 1) (Finset.range (t - 1)) by ext n; simp only [Finset.mem_range, Finset.mem_insert]; omega,
    SparseCore.bigSep_insert' (by simp)]

theorem done_one : (Done d L Tb Ix (0 + 1) : sProp 𝕄) = Done d L Tb Ix 0 := rfl

variable [FloatOps F] {α : Type} {Q : α → sProp (MT nD τ sig (HIx 1) (Elt F) ℕ UU ℕ)}
  {O : CellTallies nD τ sig (HIx 1)} {W : Waits sig (HIx 1)}
  {k : PUnit → Prog (TpuEff nD τ sig (Elt F) Λ₀ (.scVector (cV L) (jV L))) α}

/-- The guarded copy of the next block's indices: in every trip but the last it starts; in the last the slot stays at rest. -/
theorem fetch_region {β : Type} {j : PUnit → Prog (TpuEff nD τ sig (Elt F) Λ₀ (.scVector (cV L) (jV L))) β}
    {k : β → Prog (TpuEff nD τ sig (Elt F) Λ₀ (.scVector (cV L) (jV L))) α} {t : ℕ} {c : Prop} [Decidable c] (hc : c ↔ t < 7) (ht : t < 8) {src : c → Memref sig .scVector .hbm S1x128 .i32}
    {dst : c → Memref sig .scVector .vmem S1x128 .i32} {sm : c → DmaSem sig} (hs : ∀ h, src h = ixBlk (blkN L (t + 1)))
    (hd : ∀ h, dst h = ixSlot (par (t + 1))) (hm : ∀ h, sm h = semIx (par (t + 1)))
    {h1 : ∀ h, (src h).view.WordExact} {h2 : ∀ h, (dst h).view.WordExact}
    {h3 : ∀ h, DmaTarget.Typed (nD := nD) (τ := τ) (p := .scVector (cV L) (jV L)) .hbm (.dma (sm h)) (.here (dst h))} :
    (IxIdle d L Ix qi (par (t + 1)) : sProp 𝕄)
      ⊢ iprop((IxNext d L Ix qi (t + 1) -∗ Runs d L (j ⟨⟩ >>= k) Q)
        -∗ Runs d L ((if h : c then Prog.op (.enqueueDma (src h) (.here (dst h)) (.dma (sm h)) (h1 h) (h2 h) (h3 h)) j else j ⟨⟩) >>= k) Q) := by
  unfold IxNext
  by_cases h : c
  · rw [dif_pos h, if_pos (by have := hc.1 h; omega)]
    simp only [Prog.bind_op]
    exact fetch_step (k := fun x => j x >>= k) (par (t + 1)) (blkN L (t + 1)) (hs h) (hd h) (hm h)
  · rw [dif_neg h, if_neg (by have := mt hc.2 h; omega)]
    iintro H Hk
    iapply Hk; iexact H

/-- The guarded wait for the rows of the block before: in every trip but the first. -/
theorem await_send_region {t : ℕ} {c : Prop} [Decidable c] (hc : c ↔ 0 < t) {src : c → Memref sig .scVector .vmem S128x128 .f32}
    {dst : c → Memref sig .scVector .hbm S128x128 .f32} {sm : c → DmaSem sig} (hm : ∀ h, sm h = semRow (par (t - 1)))
    (hN : ∀ h, (dst h).view.dmaCredit = nOut (blkN L (t - 1)))
    {h1 : ∀ h, (src h).view.WordExact} {h2 : ∀ h, (dst h).view.WordExact} :
    (iprop(RowPrev d L Tb Ix t ∗ Done d L Tb Ix t ∗ Owes d L O W ∗ MayWaits (at_ d L) (default : HIx 1) O) : sProp 𝕄)
      ⊢ iprop((iprop(RowIdle d L (par (t + 1)) ∗ Done d L Tb Ix (t + 1) ∗ Owes d L O W) -∗ Runs d L (k ⟨⟩) Q)
        -∗ Runs d L ((if h : c then Prog.op (.waitDma2 (sm h) (src h) (dst h) (h1 h) (h2 h)) k else k ⟨⟩)) Q) := by
  unfold RowPrev
  by_cases h : c
  · have h0 := hc.1 h
    rw [dif_pos h, if_pos h0, done_succ h0, ← par_pred h0]
    iintro ⟨Hr, Hd, HO, Hmw⟩ Hk
    iapply (await_send_step (par (t - 1)) (blkN L (t - 1)) (hm h) (hN h)) $$ [Hr HO Hmw]
    · isplitl [Hr]; · iexact Hr
      isplitl [HO]; · iexact HO
      iexact Hmw
    iintro ⟨Hr, Ho, HO⟩
    iapply Hk
    isplitl [Hr]; · iexact Hr
    isplitl [Ho Hd]
    · isplitl [Ho]; · iexact Ho
      iexact Hd
    iexact HO
  · have h0 : t = 0 := by have := mt hc.2 h; omega
    subst h0
    rw [dif_neg h, if_neg (by omega), done_one]
    iintro ⟨Hr, Hd, HO, -⟩ Hk
    iapply Hk
    isplitl [Hr]; · iexact Hr
    isplitl [Hd]; · iexact Hd
    iexact HO

/-- The printed credit of a block of the result does not depend on the block. -/
theorem outBlk_credit (b : Fin 256) (off : Fin 2 → ℕ) (p : ∀ a, off a + S128x128.size a ≤ S32768x128.size a) :
    (oV.slice (Rect.unit (s := S32768x128) off S128x128.size p) (fun _ => rfl)).view.dmaCredit = nOut b := rfl

set_option maxHeartbeats 4000000 in
/-- One trip of the loop. -/
theorem trip (hI : ∀ j : S1x32768.Idx, (Ix j : BitVec 32).toNat < 8192) (t : Fin k0_t1_loop.trips) (acc : BitVec 32 × BitVec 32 × BitVec 32 × BitVec 32 × BitVec 32) :
    LoopAt d L Tb Ix qi qt f₀ O W t.val acc
      ⊢ Runs d L (k0_t1_body L tV (Memref.isWhole_whole _) iV (Memref.isWhole_whole _) oV (Memref.isWhole_whole _) sV (Memref.isWhole_whole _) cc0_scoped1
          rV (Memref.isWhole_whole _) cc0_scoped3 cc0_scoped4 (first L) t acc) fun acc' => LoopAt d L Tb Ix qi qt f₀ O W (t.val + 1) acc' := by
  have ht : t.val < 8 := trips_eq ▸ t.isLt
  have hb : (blkN L t.val).val = base L + t.val := blkN_val L ht
  unfold LoopAt
  iintro ⟨%hacc, #Hmw, HO, Hin, Hii, Hrp, Hri, HT, HG, Hdone, Htodo⟩
  subst hacc
  unfold k0_t1_body
  simp only [k0_part1_eq_skeleton, k0_part2_eq_skeleton]
  unfold k0_part1_skel k0_part2_skel
  simp only [Prog.lift, Prog.bind_op, Prog.bind_ret, Prog.pure_eq_ret, Prog.bind_assoc, ite_self]
  iapply (wp_assume 𝒱₀ (at_ d L) none Set.univ (chk3 t))
  iapply (wp_assume 𝒱₀ (at_ d L) none Set.univ (chk2 t))
  iapply (wp_assume 𝒱₀ (at_ d L) none Set.univ (chk1 L t))
  iapply (fetch_region (t := t.val) (fetch_iff L t) ht
    (fun h => ixBlk_of (blkN L (t.val + 1)) ((off5 L t ((fetch_iff L t).1 h)).trans (by rw [blkN_val L (by have := (fetch_iff L t).1 h; omega)])) _)
    (fun h => ixSlot_of (par (t.val + 1)) (off4 t ((fetch_iff L t).1 h)) _)
    (fun h => semIx_of (par (t.val + 1)) (off6 t ((fetch_iff L t).1 h)) _)) $$ Hii
  iintro Hnext
  simp only [Prog.bind_ret]
  rw [dif_pos (await_ix L t)]
  simp only [Prog.bind_op, Prog.bind_ret, Prog.bind_assoc]
  ihave Hin' := (Entails.of_eq (ixNext_lt ht)) $$ Hin
  iapply (await_fetch_step (par t.val) (blkN L t.val) (ixSlot_of (par t.val) (off7 t) _) (semIx_of (par t.val) (off9 t) _)) $$ [Hin' HO]
  · isplitl [Hin']; · iexact Hin'
    isplitl [HO]; · iexact HO
    iexact Hmw
  iintro ⟨Hin, HO⟩
  iapply (gather_step (par t.val) (par t.val) (blkN L t.val) hI rfl (rowSlot_of (par t.val) (off10 t) _) (listSlot_of (par t.val) (off11 t) _) rfl) $$ [Hin Hri HT HG]
  · isplitl [Hin]; · iexact Hin
    isplitl [Hri]; · iexact Hri
    isplitl [HT]; · iexact HT
    iexact HG
  iintro HG
  simp only [SparseCore.waitIndirectGather, Prog.bind_op, Prog.bind_ret]
  iapply (await_gather_step (par t.val) (par t.val) (blkN L t.val) (rowSlot_of (par t.val) (off10 t) _) rfl) $$ [HG HO]
  · isplitl [HG]; · iexact HG
    isplitl [HO]; · iexact HO
    iexact Hmw
  iintro ⟨Hii, Hrow, HT, HG, HO⟩
  rw [dif_pos (send_rows L t)]
  ihave Htodo' := (Entails.of_eq (todo_succ ht)) $$ Htodo
  icases Htodo' with ⟨Ho, Htodo⟩
  iapply (send_step (par t.val) (blkN L t.val) (rowSlot_of (par t.val) (off12 t) _) (outBlk_of (blkN L t.val) ((off13 L t).trans (by rw [hb])) _)
    (semRow_of (par t.val) (off14 t) _)) $$ [Hrow Ho]
  · isplitl [Hrow]; · iexact Hrow
    iexact Ho
  iintro Hbusy
  iapply (await_send_region (t := t.val) (await_rows_iff L t) (fun h => semRow_of (par (t.val - 1)) (off17 t ((await_rows_iff L t).1 h)) _)
    (fun h => outBlk_credit _ _ _)) $$ [Hrp Hdone HO]
  · isplitl [Hrp]; · iexact Hrp
    isplitl [Hdone]; · iexact Hdone
    isplitl [HO]; · iexact HO
    iexact Hmw
  iintro ⟨Hri, Hdone, HO⟩
  unfold Runs; rw [wp_ret]; imodintro
  isplitr; · ipureintro; exact nextWords_eq L t
  isplitr; · iexact Hmw
  isplitl [HO]; · iexact HO
  isplitl [Hnext]; · iexact Hnext
  isplitl [Hii]; · rw [par_add_two]; iexact Hii
  isplitl [Hbusy]; · rw [rowPrev_succ]; iexact Hbusy
  isplitl [Hri]; · iexact Hri
  isplitl [HT]; · iexact HT
  isplitl [HG]; · iexact HG
  isplitl [Hdone]; · iexact Hdone
  iexact Htodo

/-! ## The two slots of a buffer are the buffer -/

/-- The words of slot `s` of the index buffer, and of the row buffer. -/
def ixWords (s : Fin 2) : Finset S2x1x128.Idx := (ixSlot s).view.set
def rowWords (s : Fin 2) : Finset S2x128x128.Idx := (rowSlot s).view.set

theorem mem_ixWords (s : Fin 2) (x : S2x1x128.Idx) : x ∈ ixWords s ↔ (x 0).val = s.val := by
  have e : ixWords s = (Rect.unit (s := S2x1x128) ![s.val, 0, 0] S1x1x128.size (ixSlot_inb s)).set :=
    (View.set_reshape _ _).trans (View.set_slice_whole _ _)
  have h1 : (x 1).val < 1 := (x 1).isLt
  have h2 : (x 2).val < 128 := (x 2).isLt
  rw [e, Rect.mem_set_unit]
  constructor
  · intro h
    have h0 : s.val ≤ (x 0).val ∧ (x 0).val < s.val + 1 := h 0
    omega
  · intro h a
    match a with
    | ⟨0, _⟩ => show s.val ≤ (x 0).val ∧ (x 0).val < s.val + 1; omega
    | ⟨1, _⟩ => show 0 ≤ (x 1).val ∧ (x 1).val < 0 + 1; omega
    | ⟨2, _⟩ => show 0 ≤ (x 2).val ∧ (x 2).val < 0 + 128; omega

theorem mem_rowWords (s : Fin 2) (x : S2x128x128.Idx) : x ∈ rowWords s ↔ (x 0).val = s.val := by
  have e : rowWords s = (Rect.unit (s := S2x128x128) ![s.val, 0, 0] S1x128x128.size (rowSlot_inb s)).set :=
    (View.set_reshape _ _).trans (View.set_slice_whole _ _)
  have h1 : (x 1).val < 128 := (x 1).isLt
  have h2 : (x 2).val < 128 := (x 2).isLt
  rw [e, Rect.mem_set_unit]
  constructor
  · intro h
    have h0 : s.val ≤ (x 0).val ∧ (x 0).val < s.val + 1 := h 0
    omega
  · intro h a
    match a with
    | ⟨0, _⟩ => show s.val ≤ (x 0).val ∧ (x 0).val < s.val + 1; omega
    | ⟨1, _⟩ => show 0 ≤ (x 1).val ∧ (x 1).val < 0 + 128; omega
    | ⟨2, _⟩ => show 0 ≤ (x 2).val ∧ (x 2).val < 0 + 128; omega

theorem ixSlots_disjoint : Disjoint (ixWords 0) (ixWords 1) :=
  Finset.disjoint_left.mpr fun x h0 h1 => absurd (((mem_ixWords 0 x).1 h0).symm.trans ((mem_ixWords 1 x).1 h1)) (by decide)
theorem rowSlots_disjoint : Disjoint (rowWords 0) (rowWords 1) :=
  Finset.disjoint_left.mpr fun x h0 h1 => absurd (((mem_rowWords 0 x).1 h0).symm.trans ((mem_rowWords 1 x).1 h1)) (by decide)
theorem ixSlots_cover : ixWords 0 ∪ ixWords 1 = Finset.univ :=
  Finset.eq_univ_iff_forall.mpr fun x => Finset.mem_union.mpr
    ((show (x 0).val = 0 ∨ (x 0).val = 1 by have h : (x 0).val < 2 := (x 0).isLt; omega).imp (mem_ixWords 0 x).2 (mem_ixWords 1 x).2)
theorem rowSlots_cover : rowWords 0 ∪ rowWords 1 = Finset.univ :=
  Finset.eq_univ_iff_forall.mpr fun x => Finset.mem_union.mpr
    ((show (x 0).val = 0 ∨ (x 0).val = 1 by have h : (x 0).val < 2 := (x 0).isLt; omega).imp (mem_rowWords 0 x).2 (mem_rowWords 1 x).2)

omit [FloatOps F] in
/-- A buffer whole, at any contents, is two parts of it that cover it. -/
theorem parts_split {ℓ : Loc nD τ sig} {I J : Finset (Idx ℓ)} (hd : Disjoint I J) (hc : I ∪ J = Finset.univ) (f : Buf (Elt F) ℓ) :
    (ℓ ↦{fullShare} f : sProp 𝕄) ⊢ iprop((∃ f, ℓ ↦[I]{fullShare} f) ∗ ∃ f, ℓ ↦[J]{fullShare} f) := by
  rw [← hc]
  iintro H
  ihave H' := (pointsTo_union (ℓ := ℓ) (q := fullShare) (f := f) hd).1 $$ H
  icases H' with ⟨H0, H1⟩
  isplitl [H0]
  · iexists f; iexact H0
  · iexists f; iexact H1
omit [FloatOps F] in
theorem parts_join {ℓ : Loc nD τ sig} {I J : Finset (Idx ℓ)} (hd : Disjoint I J) (hc : I ∪ J = Finset.univ) :
    (iprop((∃ f, ℓ ↦[I]{fullShare} f) ∗ ∃ f, ℓ ↦[J]{fullShare} f) : sProp 𝕄) ⊢ iprop(∃ f, ℓ ↦{fullShare} f) := by
  rw [← hc]
  iintro ⟨⟨%f, Hf⟩, ⟨%g, Hg⟩⟩
  iexists _
  iapply (pointsTo_join (ℓ := ℓ) (q := fullShare) (f := f) (g := g) hd)
  isplitl [Hf] <;> iassumption

omit [FloatOps F] in
/-- The index buffer whole is its two slots, at any contents. -/
theorem ixSlots_split (f : Buf (Elt F) (sLoc d L)) : (sLoc d L ↦{fullShare} f : sProp 𝕄) ⊢ iprop(IxAny d L 0 ∗ IxAny d L 1) :=
  parts_split (ℓ := sLoc d L) ixSlots_disjoint ixSlots_cover f
omit [FloatOps F] in
theorem ixSlots_join : (iprop(IxAny d L 0 ∗ IxAny d L 1) : sProp 𝕄) ⊢ iprop(∃ f, sLoc d L ↦{fullShare} f) :=
  parts_join (ℓ := sLoc d L) ixSlots_disjoint ixSlots_cover
omit [FloatOps F] in
/-- The row buffer whole is its two slots, at any contents. -/
theorem rowSlots_split (f : Buf (Elt F) (rLoc d L)) : (rLoc d L ↦{fullShare} f : sProp 𝕄) ⊢ iprop(RowAny d L 0 ∗ RowAny d L 1) :=
  parts_split (ℓ := rLoc d L) rowSlots_disjoint rowSlots_cover f
omit [FloatOps F] in
theorem rowSlots_join : (iprop(RowAny d L 0 ∗ RowAny d L 1) : sProp 𝕄) ⊢ iprop(∃ f, rLoc d L ↦{fullShare} f) :=
  parts_join (ℓ := rLoc d L) rowSlots_disjoint rowSlots_cover

/-! ## The subcore's own semaphores and buffers -/

/-- A DMA semaphore of the task's subcore. -/
abbrev cell (d : Dev nD) (L : grid0.Coords) (s : DmaSem sig) : GSem nD τ sig := (at_ d L, .dma s)

theorem cell_ne {s s' : DmaSem sig} (h : s ≠ s') : cell d L s ≠ cell d L s' := fun e => h (SemLoc.dma.inj (congrArg Prod.snd e))

omit [FloatOps F] in
/-- The five semaphores the task uses are among the subcore's own. -/
theorem ownSems0_V :
    (ownSems0 (at_ d L) : sProp 𝕄)
      = iprop(semVal (cell d L (semIx 0)) 0 ∗ semVal (cell d L (semIx 1)) 0 ∗ semVal (cell d L (semRow 0)) 0 ∗ semVal (cell d L (semRow 1)) 0
          ∗ semVal (cell d L semGat) 0
          ∗ bigSep ((((((ownCells (at_ d L)).erase (cell d L (semIx 0))).erase (cell d L (semIx 1))).erase (cell d L (semRow 0))).erase (cell d L (semRow 1))).erase
              (cell d L semGat)) fun g => semVal g 0) := by
  unfold SparseCore.Cfg.ownSems0
  have own : ∀ s : DmaSem sig, (SemLoc.dma s : SemLoc sig).isScoped .scVector = true → cell d L s ∈ ownCells (at_ d L) :=
    fun s h => mem_ownCells.mpr ⟨rfl, h⟩
  rw [SparseCore.bigSep_erase' (own (semIx 0) (by decide)),
    SparseCore.bigSep_erase' (Finset.mem_erase.mpr ⟨cell_ne (by decide), own (semIx 1) (by decide)⟩),
    SparseCore.bigSep_erase' (Finset.mem_erase.mpr ⟨cell_ne (by decide), Finset.mem_erase.mpr ⟨cell_ne (by decide), own (semRow 0) (by decide)⟩⟩),
    SparseCore.bigSep_erase' (Finset.mem_erase.mpr ⟨cell_ne (by decide), Finset.mem_erase.mpr ⟨cell_ne (by decide), Finset.mem_erase.mpr ⟨cell_ne (by decide),
      own (semRow 1) (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), own semGat (by decide)⟩⟩⟩⟩)]

omit [FloatOps F] in
/-- So are its two buffers. -/
theorem ownBufs_V :
    (ownBufs (at_ d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

/-- What a task is handed, with `f` the launch contents of the result, and what it hands back, with `f` the gathered rows:
    a share of the indices, a share of the table, and its eight blocks of the result at `f`. -/
def Handed (d : Dev nD) (L : grid0.Coords) (Tb : Buf (Elt F) (tLoc d)) (Ix : Buf (Elt F) (iLoc d)) (q qt : PosShare TreeShare)
    (f : Buf (Elt F) (oLoc d)) : sProp 𝕄 :=
  iprop((iLoc d ↦{q} Ix) ∗ Tab d Tb qt ∗ bigSep (Finset.range 8) fun n => Out d (blkN L n) f)

omit [FloatOps F] in
theorem todo_zero (f : Buf (Elt F) (oLoc d)) : (Todo d L f 0 : sProp 𝕄) = bigSep (Finset.range 8) fun n => Out d (blkN L n) f := by
  unfold Todo; rw [Finset.range_eq_Ico]
omit [FloatOps F] in
theorem done_all : (Done d L Tb Ix (8 + 1) : sProp 𝕄) = bigSep (Finset.range 8) fun n => Out d (blkN L n) (gathered Tb Ix) := rfl
omit [FloatOps F] in
theorem done_none : (Done d L Tb Ix 0 : sProp 𝕄) = iprop(emp) := bigSep_empty

omit [FloatOps F] in
/-- What the task holds after the last trip. -/
theorem loopAt_end (acc : BitVec 32 × BitVec 32 × BitVec 32 × BitVec 32 × BitVec 32) :
    LoopAt d L Tb Ix qi qt f₀ O W k0_t1_loop.trips acc
      ⊢ iprop(⌜acc = carried 8⌝ ∗ MayWaits (at_ d L) (default : HIx 1) O ∗ Owes d L O W ∗ IxIdle d L Ix qi 0 ∗ IxIdle d L Ix qi 1
          ∗ RowBusy d L Tb Ix (par 7) (blkN L 7) ∗ RowIdle d L 0 ∗ Tab d Tb qt ∗ GatIdle d L ∗ Done d L Tb Ix 8 ∗ Todo d L f₀ 8) := by
  rw [trips_eq]; unfold LoopAt
  rw [ixNext_eight, rowPrev_succ 7]
  exact .rfl

/-- The halves of a share, one for each slot. -/
def halves (q : PosShare TreeShare) (s : Fin 2) : PosShare TreeShare := if s = 0 then q.left else q.right

omit [FloatOps F] in
theorem ixArr_halves (q : PosShare TreeShare) :
    (iLoc d ↦{q} Ix : sProp 𝕄) ⊣⊢ iprop(IxArr d Ix (halves q) 0 ∗ IxArr d Ix (halves q) 1) :=
  pointsTo_share (PosShare.mem_left_op_right q)

set_option maxHeartbeats 4000000 in
/-- The task at `L`: its first index copy, the eight trips, the last wait; then the result's blocks are the gathered rows, and
    everything else it was handed is back. -/
theorem tile_body (hI : ∀ j : S1x32768.Idx, (Ix j : BitVec 32).toNat < 8192) (q : PosShare TreeShare) (hO : ∀ g, O g none = 0) :
    iprop(levAts (K (F := F)).L (K (F := F)).lev ∗ emp ∗ Handed d L Tb Ix q qt f₀
        ∗ scopedBufs (at_ d L) ∗ scopedSems0 (at_ d L) ∗ owes (at_ d L) O W)
      ⊢ Runs d L (cc0_k L tV (Memref.isWhole_whole _) iV (Memref.isWhole_whole _) oV (Memref.isWhole_whole _) sV (Memref.isWhole_whole _) cc0_scoped1
            rV (Memref.isWhole_whole _) cc0_scoped3 cc0_scoped4)
          fun _ => iprop(Handed d L Tb Ix q qt (gathered Tb Ix)
            ∗ scopedBufs (at_ d L) ∗ scopedSems0 (at_ d L) ∗ ∃ W', ⌜∀ p ∈ W', p ∈ W ∨ p.2 = none⌝ ∗ owes (at_ d L) O W') := by
  simp only [cc0_k_eq_skeleton]; unfold cc0_k_skel
  simp only [k0_part3_eq_skeleton, k0_part4_eq_skeleton]; unfold k0_part3_skel k0_part4_skel
  simp only [Prog.lift, Prog.bind_op, Prog.bind_ret, Prog.pure_eq_ret, Prog.bind_assoc]
  rw [(K (F := F)).scopedBufs_V facts d (cV L) (jV L), SparseCore.Cfg.scopedSems0_V (Val := Elt F) d (cV L) (jV L), ownSems0_V, ownBufs_V]
  unfold Handed
  iintro ⟨#Hlv, -, ⟨Hi, HT, Ho⟩, ⟨⟨%fs, Hs⟩, ⟨%fr, Hr⟩, Hbufs⟩, ⟨Hi0, Hi1, Hr0, Hr1, HG, Hsems⟩, HO⟩
  ihave #Hmw := (show levAts (K (F := F)).L (K (F := F)).lev ⊢ Transfers.MayWaits (at_ d L) (default : HIx 1) O from
    (K (F := F)).mayWaits_none (thr := at_ d L) hO) $$ Hlv
  ihave Hi' := (ixArr_halves q).1 $$ Hi
  icases Hi' with ⟨Ha0, Ha1⟩
  ihave Hs' := (ixSlots_split fs) $$ Hs
  icases Hs' with ⟨Hs0, Hs1⟩
  ihave Hr' := (rowSlots_split fr) $$ Hr
  icases Hr' with ⟨Hb0, Hb1⟩
  iapply (fetch_step (qi := halves q) (par 0) (blkN L 0) (ixBlk_of (blkN L 0) ((off2 L).trans (by rw [blkN_val L (by omega)])) _)
    (ixSlot_of (par 0) k0_off1_eq _) (semIx_of (par 0) k0_off3_eq _)) $$ [Hs0 Ha0 Hi0]
  · unfold IxIdle
    isplitl [Hs0]; · iexact Hs0
    isplitl [Ha0]; · iexact Ha0
    iexact Hi0
  iintro Hbusy
  unfold Runs
  sl_for (LoopAt d L Tb Ix (halves q) qt f₀ O W) $$ [HO Hbusy Hs1 Ha1 Hi1 Hb0 Hb1 Hr0 Hr1 HT HG Ho]
  · intro t acc
    exact trip hI t acc
  · unfold LoopAt
    isplitr; · ipureintro; rfl
    isplitr; · iexact Hmw
    isplitl [HO]
    · unfold Owes
      iexists W; isplitr
      · ipureintro; exact fun p hp => .inl hp
      · iexact HO
    isplitl [Hbusy]; · rw [ixNext_lt (by omega)]; iexact Hbusy
    isplitl [Hs1 Ha1 Hi1]
    · unfold IxIdle
      isplitl [Hs1]; · iexact Hs1
      isplitl [Ha1]; · iexact Ha1
      iexact Hi1
    isplitl [Hb1 Hr1]
    · rw [rowPrev_zero]; unfold RowIdle
      isplitl [Hb1]; · iexact Hb1
      iexact Hr1
    isplitl [Hb0 Hr0]
    · unfold RowIdle
      isplitl [Hb0]; · iexact Hb0
      iexact Hr0
    isplitl [HT]; · iexact HT
    isplitl [HG]; · unfold GatIdle; iexact HG
    isplitr; · rw [done_none]; iempintro
    rw [todo_zero]; iexact Ho
  · iintro %acc HL
    ihave HL' := (loopAt_end acc) $$ HL
    icases HL' with ⟨%hacc, -, HO, Hix0, Hix1, Hbusy, Hrow0, HT, HG, Hdone, -⟩
    subst hacc
    simp only [Prog.bind_op, Prog.bind_ret, Prog.bind_assoc]
    iapply (wp_assume 𝒱₀ (at_ d L) none Set.univ (chk5 L))
    iapply (wp_assume 𝒱₀ (at_ d L) none Set.univ chk4)
    simp only [Prog.bind_ret]
    iapply (await_send_step (par 7) (blkN L 7) (semRow_of (par 7) off20 _) (outBlk_credit _ _ _)) $$ [Hbusy HO]
    · isplitl [Hbusy]; · iexact Hbusy
      isplitl [HO]; · iexact HO
      iexact Hmw
    iintro ⟨Hrow1, Ho, HO⟩
    unfold Runs; rw [wp_ret]; imodintro
    unfold IxIdle RowIdle
    icases Hix0 with ⟨Hs0, Ha0, Hi0⟩
    icases Hix1 with ⟨Hs1, Ha1, Hi1⟩
    icases Hrow0 with ⟨Hb0, Hr0⟩
    icases Hrow1 with ⟨Hb1, Hr1⟩
    isplitl [Ha0 Ha1 HT Ho Hdone]
    · isplitl [Ha0 Ha1]
      · iapply (ixArr_halves q).2
        isplitl [Ha0]; · iexact Ha0
        iexact Ha1
      isplitl [HT]; · iexact HT
      rw [← done_all, done_succ (by omega : 0 < 8)]
      isplitl [Ho]; · iexact Ho
      iexact Hdone
    isplitl [Hs0 Hs1 Hb0 Hb1 Hbufs]
    · isplitl [Hs0 Hs1]
      · iapply ixSlots_join
        isplitl [Hs0]; · iexact Hs0
        iexact Hs1
      isplitl [Hb0 Hb1]
      · iapply rowSlots_join
        isplitl [Hb0]; · iexact Hb0
        iexact Hb1
      iexact Hbufs
    isplitl [Hi0 Hi1 Hr0 Hr1 HG Hsems]
    · isplitl [Hi0]; · iexact Hi0
      isplitl [Hi1]; · iexact Hi1
      isplitl [Hr0]; · iexact Hr0
      isplitl [Hr1]; · iexact Hr1
      isplitl [HG]; · unfold GatIdle; iexact HG
      iexact Hsems
    unfold Owes; iexact HO

end

end Cert.Proof

end
-- ==== Proof.Deal.lean ====
/-
  The three arrays of the call, dealt out among the thirty-two tasks: each task a share of the table and of the index
  array, and its own eight blocks of 128 rows of the result. Task `(c, s)` is number `s + 16 c`, and block `n` of it is
  block `n + 8 (s + 16 c)` of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Slots
public import proofs.«01_k».proof.Proof.Steps
public import proofs.«01_k».proof.Proof.Tile
public import Idealize.ShloMosaic.Lib.ShareLeaves

@[expose] public section

set_option Elab.async false

noncomputable section

namespace Cert.Proof

open Cert.KernelIdeal Cert.KernelIdeal.Gen Cert.Proof.Offsets
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

open Idealize.ShloMosaic.ShareLeaves (leaf pointsTo_leaves)

variable {F : FTy → Type}

local notation "𝕄" => MT nD τ sig (HIx 1) (Elt F) ℕ UU ℕ

/-- The task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of a task. -/
def taskNo : Fin 2 × Fin 16 ≃ Fin 32 := finProdFinEquiv

theorem taskNo_val (c : Fin 2) (s : Fin 16) : (taskNo (c, s)).val = s.val + 16 * c.val := rfl

/-- The number of a task's block. -/
def blockNo : Fin 32 × Fin 8 ≃ Fin 256 := finProdFinEquiv

theorem blockNo_val (w : Fin 32) (n : Fin 8) : (blockNo (w, n)).val = n.val + 8 * w.val := rfl

/-- Block `n` of a task, by its number. -/
theorem blkN_coordsV (c : Fin 2) (s : Fin 16) (n : Fin 8) : blkN (coordsV c s) n.val = blockNo (taskNo (c, s), n) := by
  apply Fin.ext
  rw [blkN_val _ n.isLt, blockNo_val, taskNo_val]
  show 8 * (s.val + 16 * c.val) + n.val = n.val + 8 * (s.val + 16 * c.val)
  omega

/-- A task's share of an array that every task reads. -/
def taskShare (c : Fin 2) (s : Fin 16) : PosShare TreeShare := leaf 5 fullShare (taskNo (c, s))

/-- The words of block `b` of the result. -/
def outWords (b : Fin 256) : Finset S32768x128.Idx := (outBlk b).view.set

/-- Block `b` holds the rows `128 b`, …, `128 b + 127`. -/
theorem mem_outWords (b : Fin 256) (x : S32768x128.Idx) : x ∈ outWords b ↔ (x 0).val / 128 = b.val := by
  have hx : (x 0).val < 32768 := (x 0).isLt
  constructor
  · intro h
    obtain ⟨y, -, hy⟩ := Finset.mem_map.mp h
    obtain ⟨r, c, rfl⟩ : ∃ (r c : Fin 128), y = ix2 r c := ⟨y 0, y 1, eq_ix2 y⟩
    have e : x = ix2 (⟨128 * b.val + r.val, by omega⟩ : Fin 32768) c := hy.symm.trans (outBlk_emb b r c)
    have e0 : (x 0).val = 128 * b.val + r.val := by rw [e]
    have := r.isLt
    omega
  · intro h
    refine Finset.mem_map.mpr ⟨ix2 (⟨(x 0).val % 128, Nat.mod_lt _ (by decide)⟩ : Fin 128) (x 1), Finset.mem_univ _, ?_⟩
    refine (outBlk_emb b _ _).trans ?_
    refine Eq.trans ?_ (eq_ix2 x).symm
    congr 1
    apply Fin.ext
    show 128 * b.val + (x 0).val % 128 = (x 0).val
    omega

theorem outWords_disjoint : ∀ b ∈ (Finset.univ : Finset (Fin 256)), ∀ b' ∈ (Finset.univ : Finset (Fin 256)), b ≠ b' → Disjoint (outWords b) (outWords b') :=
  fun b _ b' _ h => Finset.disjoint_left.mpr fun x hx hx' => h (Fin.ext (((mem_outWords b x).mp hx).symm.trans ((mem_outWords b' x).mp hx')))

theorem outWords_cover : (Finset.univ : Finset (Fin 256)).biUnion outWords = Finset.univ :=
  Finset.eq_univ_iff_forall.mpr fun x => Finset.mem_biUnion.mpr
    ⟨⟨(x 0).val / 128, by have : (x 0).val < 32768 := (x 0).isLt; omega⟩, Finset.mem_univ _, (mem_outWords _ x).mpr rfl⟩

/-- A run over the numbers below `k` is one over `Fin k`. -/
theorem bigSep_range_fin (k : ℕ) (Φ : ℕ → sProp 𝕄) : bigSep (Finset.range k) Φ = bigSep Finset.univ fun n : Fin k => Φ n.val := by
  rw [show Finset.range k = (Finset.univ : Finset (Fin k)).map Fin.valEmbedding from by
    ext x; simp only [Finset.mem_range, Finset.mem_map, Finset.mem_univ, true_and, Fin.valEmbedding_apply]
    exact ⟨fun h => ⟨⟨x, h⟩, rfl⟩, fun ⟨y, hy⟩ => hy ▸ y.isLt⟩, bigSep_map]
  rfl

/-- The result is all its blocks. -/
theorem out_blocks (d : Dev nD) (f : Buf (Elt F) (oLoc d)) :
    (oLoc d ↦{fullShare} f : sProp 𝕄) = bigSep Finset.univ fun b : Fin 256 => Out d b f := by
  have h := pointsTo_biUnion (Val := Elt F) (Name := ℕ) (U := UU) (Lvl := ℕ) (Ix := HIx 1) (ℓ := oLoc d) (q := fullShare) (f := f) Finset.univ outWords outWords_disjoint
  rw [outWords_cover] at h
  exact h

/-- The result is every task's blocks of it. -/
theorem out_tasks (d : Dev nD) (f : Buf (Elt F) (oLoc d)) :
    (oLoc d ↦{fullShare} f : sProp 𝕄)
      = bigSep Finset.univ fun c : Fin 2 => bigSep Finset.univ fun s : Fin 16 => bigSep (Finset.range 8) fun n => Out d (blkN (coordsV c s) n) f := by
  rw [out_blocks, bigSep_univ_equiv blockNo, bigSep_univ_prod, bigSep_univ_equiv taskNo, bigSep_univ_prod]
  refine bigSep_congr fun c _ => bigSep_congr fun s _ => ?_
  rw [bigSep_range_fin]
  exact bigSep_congr fun n _ => by rw [blkN_coordsV]

/-- An array that every task reads is every task's share of it. -/
theorem share_tasks (ℓ : Loc nD τ sig) (f : Buf (Elt F) ℓ) :
    (ℓ ↦{fullShare} f : sProp 𝕄) = bigSep Finset.univ fun c : Fin 2 => bigSep Finset.univ fun s : Fin 16 => ℓ ↦{taskShare c s} f := by
  have h := pointsTo_leaves (Ix := HIx 1) (Name := ℕ) (U := UU) (Lvl := ℕ) (ℓ := ℓ) Finset.univ f 5 fullShare
  refine h.trans ?_
  rw [bigSep_univ_equiv (taskNo : Fin 2 × Fin 16 ≃ Fin (2 ^ 5)), bigSep_univ_prod]
  rfl

/-- What the task on subcore `s` of core `c` is handed, at contents `f` of the result. -/
def Task (d : Dev nD) (Tb : Buf (Elt F) (tLoc d)) (Ix : Buf (Elt F) (iLoc d)) (f : Buf (Elt F) (oLoc d)) (c : Fin 2) (s : Fin 16) : sProp 𝕄 :=
  Handed d (coordsV c s) Tb Ix (taskShare c s) (taskShare c s) f

/-- The index array, the table and the result are what the thirty-two tasks are handed. -/
theorem deal (d : Dev nD) (Tb : Buf (Elt F) (tLoc d)) (Ix : Buf (Elt F) (iLoc d)) (f : Buf (Elt F) (oLoc d)) :
    (iprop((iLoc d ↦{fullShare} Ix) ∗ (tLoc d ↦{fullShare} Tb) ∗ oLoc d ↦{fullShare} f) : sProp 𝕄)
      = bigSep Finset.univ fun c : Fin 2 => bigSep Finset.univ fun s : Fin 16 => Task d Tb Ix f c s := by
  rw [share_tasks (iLoc d), share_tasks (tLoc d), out_tasks]
  unfold Task Handed Tab
  simp only [bigSep_sep']

end Cert.Proof

end
-- ==== Proof.Launch.lean ====
/-
  The whole program: @main on the TensorCore reshapes the table and the indices, starts the SparseCore call, waits for it,
  and reshapes what it left. Started from a memory whose indices name rows of the table, every execution terminates with
  the result at the gathered rows, reshaped, the two arguments unchanged and every semaphore counter at zero
  (`run_main`), whatever the float values are.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Slots
public import proofs.«01_k».proof.Proof.Steps
public import proofs.«01_k».proof.Proof.Tile
public import proofs.«01_k».proof.Proof.Deal
public import Idealize.ShloMosaic.Lib.ShareLeaves

@[expose] public section

set_option Elab.async false

noncomputable section

namespace Cert.Proof

open Cert.KernelIdeal Cert.KernelIdeal.Gen Cert.Proof.Offsets
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## @main's operations and what they leave -/

abbrev pLoc (d : Dev nD) : Loc nD τ sig := (SparseCore.T d).loc main_arg0
abbrev gLoc (d : Dev nD) : Loc nD τ sig := (SparseCore.T d).loc main_arg1
abbrev wLoc (d : Dev nD) : Loc nD τ sig := (SparseCore.T d).loc main_v4

abbrev p' : DevRef τ sig := Proc.devRef .tc (main_arg0 : Ref sig .tc)
abbrev g' : DevRef τ sig := Proc.devRef .tc (main_arg1 : Ref sig .tc)
abbrev t' : DevRef τ sig := Proc.devRef .tc (main_v0 : Ref sig .tc)
abbrev f' : DevRef τ sig := Proc.devRef .tc (main_v1 : Ref sig .tc)
abbrev i' : DevRef τ sig := Proc.devRef .tc (main_v2 : Ref sig .tc)
abbrev o' : DevRef τ sig := Proc.devRef .tc (main_v3 : Ref sig .tc)
abbrev w' : DevRef τ sig := Proc.devRef .tc (main_v4 : Ref sig .tc)

abbrev opT : HloOp τ sig (Elt F) := StableHlo.reshape main_arg0 main_v0 (rfl : (.f32 : EltTy) = .f32) shapeCasts_S8x1024x128_S8192x128
abbrev opF : HloOp τ sig (Elt F) := StableHlo.reshape main_arg1 main_v1 (rfl : (.i32 : EltTy) = .i32) shapeCasts_S8x256x16_S32768
abbrev opI : HloOp τ sig (Elt F) := StableHlo.reshape main_v1 main_v2 (rfl : (.i32 : EltTy) = .i32) shapeCasts_S32768_S1x32768
abbrev opW : HloOp τ sig (Elt F) := StableHlo.reshape main_v3 main_v4 (rfl : (.f32 : EltTy) = .f32) shapeCasts_S32768x128_S8x4096x128

/-- @main's seven arrays. -/
abbrev S7 : Finset (DevRef τ sig) := {p', g', t', f', i', o', w'}

/-- The table as one list of rows, the indices as one list, then as one row. -/
def tabOf (p : S8x1024x128.Idx → Elt F .f32) : S8192x128.Idx → Elt F .f32 := shapeCast S8192x128 p shapeCasts_S8x1024x128_S8192x128
def listOf (g : S8x256x16.Idx → Elt F .i32) : S32768.Idx → Elt F .i32 := shapeCast S32768 g shapeCasts_S8x256x16_S32768
def ixOf (g : S8x256x16.Idx → Elt F .i32) : S1x32768.Idx → Elt F .i32 := shapeCast S1x32768 (listOf g) shapeCasts_S32768_S1x32768
/-- What the program returns of the table `p` and the indices `g`. -/
def resultOf (p : S8x1024x128.Idx → Elt F .f32) (g : S8x256x16.Idx → Elt F .i32) : S8x4096x128.Idx → Elt F .f32 :=
  shapeCast S8x4096x128 (gathered (tabOf p) (ixOf g)) shapeCasts_S32768x128_S8x4096x128

/-- The contents at the launch, before the call, after it, and at the end. -/
def V0 (d : Dev nD) : Valuation τ sig (Elt F) := fun b => m (d, b)
def V3 (d : Dev nD) : Valuation τ sig (Elt F) := (opI (F := F)).result ((opF (F := F)).result ((opT (F := F)).result (V0 m d)))
def V4 (d : Dev nD) : Valuation τ sig (Elt F) := Function.update (V3 m d) o' (gathered (tabOf (m (pLoc d))) (ixOf (m (gLoc d))))
def V5 (d : Dev nD) : Valuation τ sig (Elt F) := (opW (F := F)).result (V4 m d)

theorem V3_p (d : Dev nD) : V3 m d p' = m (pLoc d) := by
  unfold V3
  rw [(opI (F := F)).result_of_not_mem _ (show p' ∉ ({i'} : Finset (DevRef τ sig)) by decide),
    (opF (F := F)).result_of_not_mem _ (show p' ∉ ({f'} : Finset (DevRef τ sig)) by decide),
    (opT (F := F)).result_of_not_mem _ (show p' ∉ ({t'} : Finset (DevRef τ sig)) by decide)]
  rfl
theorem V3_g (d : Dev nD) : V3 m d g' = m (gLoc d) := by
  unfold V3
  rw [(opI (F := F)).result_of_not_mem _ (show g' ∉ ({i'} : Finset (DevRef τ sig)) by decide),
    (opF (F := F)).result_of_not_mem _ (show g' ∉ ({f'} : Finset (DevRef τ sig)) by decide),
    (opT (F := F)).result_of_not_mem _ (show g' ∉ ({t'} : Finset (DevRef τ sig)) by decide)]
  rfl
theorem V3_o (d : Dev nD) : V3 m d o' = m (oLoc d) := by
  unfold V3
  rw [(opI (F := F)).result_of_not_mem _ (show o' ∉ ({i'} : Finset (DevRef τ sig)) by decide),
    (opF (F := F)).result_of_not_mem _ (show o' ∉ ({f'} : Finset (DevRef τ sig)) by decide),
    (opT (F := F)).result_of_not_mem _ (show o' ∉ ({t'} : Finset (DevRef τ sig)) by decide)]
  rfl
/-- The call's table is the argument's rows. -/
theorem V3_t (d : Dev nD) : V3 m d t' = tabOf (m (pLoc d)) := by
  unfold V3
  rw [(opI (F := F)).result_of_not_mem _ (show t' ∉ ({i'} : Finset (DevRef τ sig)) by decide),
    (opF (F := F)).result_of_not_mem _ (show t' ∉ ({f'} : Finset (DevRef τ sig)) by decide)]
  exact StableHlo.reshape_result _ _ _ _ _ _ _
/-- The call's indices are the argument's. -/
theorem V3_i (d : Dev nD) : V3 m d i' = ixOf (m (gLoc d)) := by
  unfold V3
  refine (StableHlo.reshape_result _ _ _ _ _ _ _).trans ?_
  show shapeCast S1x32768 ((opF (F := F)).result ((opT (F := F)).result (V0 m d)) f') shapeCasts_S32768_S1x32768 = _
  rw [show (opF (F := F)).result ((opT (F := F)).result (V0 m d)) f'
      = shapeCast S32768 ((opT (F := F)).result (V0 m d) g') shapeCasts_S8x256x16_S32768 from StableHlo.reshape_result _ _ _ _ _ _ _,
    (opT (F := F)).result_of_not_mem _ (show g' ∉ ({t'} : Finset (DevRef τ sig)) by decide)]
  rfl
theorem V4_o (d : Dev nD) : V4 m d o' = gathered (tabOf (m (pLoc d))) (ixOf (m (gLoc d))) := Function.update_self _ _ _
theorem V4_ne (d : Dev nD) {b : DevRef τ sig} (h : b ≠ o') : V4 m d b = V3 m d b := Function.update_of_ne h _ _
theorem V5_p (d : Dev nD) : V5 m d p' = m (pLoc d) :=
  ((opW (F := F)).result_of_not_mem _ (show p' ∉ ({w'} : Finset (DevRef τ sig)) by decide)).trans
    ((V4_ne m d (show p' ≠ o' by decide)).trans (V3_p m d))
theorem V5_g (d : Dev nD) : V5 m d g' = m (gLoc d) :=
  ((opW (F := F)).result_of_not_mem _ (show g' ∉ ({w'} : Finset (DevRef τ sig)) by decide)).trans
    ((V4_ne m d (show g' ≠ o' by decide)).trans (V3_g m d))
/-- The result is the gathered rows, reshaped. -/
theorem V5_w (d : Dev nD) : V5 m d w' = resultOf (m (pLoc d)) (m (gLoc d)) := by
  unfold V5
  refine (StableHlo.reshape_result _ _ _ _ _ _ _).trans ?_
  show shapeCast S8x4096x128 (V4 m d o') shapeCasts_S32768x128_S8x4096x128 = _
  rw [V4_o]; rfl

/-! ## What the handshakes carry -/

/-- The task's part before the call and after it. -/
abbrev before (d : Dev nD) (c : Fin 2) (s : Fin 16) : sProp 𝕄 := Task d (tabOf (m (pLoc d))) (ixOf (m (gLoc d))) (m (oLoc d)) c s
abbrev behind (d : Dev nD) (c : Fin 2) (s : Fin 16) : sProp 𝕄 :=
  Task d (tabOf (m (pLoc d))) (ixOf (m (gLoc d))) (gathered (tabOf (m (pLoc d))) (ixOf (m (gLoc d)))) c s

instance storable_out (d : Dev nD) (b : Fin 256) (f : Buf (Elt F) (oLoc d)) : BI.Storable (upEmb : UEmb _ 𝕄) (Out d b f) :=
  (inferInstance : BI.Storable (upEmb : UEmb _ 𝕄) (oLoc d ↦[outWords b]{fullShare} f))

instance storable_task (d : Dev nD) (Tb : Buf (Elt F) (tLoc d)) (Ix : Buf (Elt F) (iLoc d)) (f : Buf (Elt F) (oLoc d)) (c : Fin 2) (s : Fin 16) :
    BI.Storable (upEmb : UEmb _ 𝕄) (Task d Tb Ix f c s) := by
  unfold Task Handed Tab; infer_instance

/-- Each core takes what its sixteen tasks need and brings back what they bring back. -/
def P : (K (F := F)).Pay (nD := nD) (Val := Elt F) (Name := ℕ) (U := UU) where
  st := fun q d c => match q with | 0 => bigSep Finset.univ fun s : Fin 16 => before m d c s
  dn := fun q d c => match q with | 0 => bigSep Finset.univ fun s : Fin 16 => behind m d c s
  go := fun q d c i => match q with | 0 => before m d c i
  td := fun q d c i => match q with | 0 => behind m d c i
  x := fun _ _ => iprop(emp)

instance P_storable : (P (F := F) m).IsStorable where
  st q d c := match q with
    | 0 => (inferInstance : BI.Storable (upEmb : UEmb _ 𝕄) (bigSep Finset.univ fun s : Fin 16 => before m d c s))
  dn q d c := match q with
    | 0 => (inferInstance : BI.Storable (upEmb : UEmb _ 𝕄) (bigSep Finset.univ fun s : Fin 16 => behind m d c s))
  go q d c i := match q with
    | 0 => (inferInstance : BI.Storable (upEmb : UEmb _ 𝕄) (before m d c i))
  td q d c i := match q with
    | 0 => (inferInstance : BI.Storable (upEmb : UEmb _ 𝕄) (behind m d c i))

/-- Every index names a row of the table. -/
def InRange (g : S8x256x16.Idx → Elt F .i32) : Prop := ∀ j, (g j : BitVec 32).toNat < 8192

theorem ixOf_lt {g : S8x256x16.Idx → Elt F .i32} (h : InRange g) (j : S1x32768.Idx) : (ixOf g j : BitVec 32).toNat < 8192 := h _

variable [FloatOps F]

/-! ## The tasks -/

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
          sV (Memref.isWhole_whole _) cc0_scoped1 rV (Memref.isWhole_whole _) cc0_scoped3 cc0_scoped4) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task keeps its bargain: `tile_body` at its own core and subcore. -/
theorem tileObl (hm : ∀ d, InRange (F := F) (m (gLoc d))) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (L := coordsV ⟨_, hci.1⟩ ⟨_, hci.2⟩) (f₀ := m (oLoc d)) (ixOf_lt (hm d)) _ hO).trans
    (wp_mono frame _ _ fun _ => waits_weaken)

omit [FloatOps F] in
/-- A core's part is its tasks' parts. -/
theorem vecSplit : (K (F := F)).VecSplit' (P m) 0 := by
  intro d c
  show (bigSep Finset.univ fun s : Fin 16 => before m d c s) ⊢ |={Set.univ}=> iprop(
      (bigSep Finset.univ fun s : Fin 16 => before m d c s)
      ∗ ((bigSep Finset.univ fun s : Fin 16 => behind m d c s) -∗ (bigSep Finset.univ fun s : Fin 16 => behind m d c s)))
  iintro H; imodintro
  isplitl [H]; · iexact H
  iintro H; iexact H

/-! ## The launch -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have he {I : Type} (s : Finset I) : (bigSep s fun _ => iprop(emp)) = (iprop(emp) : sProp 𝕄) := bigSep_emp_const s
  iintro Hu
  ihave H := (ownU_pair (initOf (K (F := F)).hsCells (K (F := F)).hsToks) (1 : Counters)) $$ Hu
  icases H with ⟨HH, -⟩
  imodintro
  isplitl [HH]; · iexact HH
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## @main on the TensorCore -/

omit [FloatOps F] in
theorem held_S7 (d : Dev nD) (W : Valuation τ sig (Elt F)) :
    (held (T d) S7 W : sProp 𝕄)
      = iprop((pLoc d ↦{fullShare} W p') ∗ (gLoc d ↦{fullShare} W g') ∗ (tLoc d ↦{fullShare} W t') ∗ ((SparseCore.T d).loc main_v1 ↦{fullShare} W f')
          ∗ (iLoc d ↦{fullShare} W i') ∗ (oLoc d ↦{fullShare} W o') ∗ wLoc d ↦{fullShare} W w') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- What the call takes is the index array, the table and the result. -/
theorem st0_eq (d : Dev nD) : (bigSep Finset.univ fun c : Fin ((K (F := F)).nCore 0) => (P m).st 0 d c)
    = iprop((iLoc d ↦{fullShare} ixOf (m (gLoc d))) ∗ (tLoc d ↦{fullShare} tabOf (m (pLoc d))) ∗ oLoc d ↦{fullShare} m (oLoc d)) :=
  (deal d (tabOf (m (pLoc d))) (ixOf (m (gLoc d))) (m (oLoc d))).symm
omit [FloatOps F] in
/-- What it brings back is they, the result at the gathered rows. -/
theorem dn0_eq (d : Dev nD) : (bigSep Finset.univ fun c : Fin ((K (F := F)).nCore 0) => (P m).dn 0 d c)
    = iprop((iLoc d ↦{fullShare} ixOf (m (gLoc d))) ∗ (tLoc d ↦{fullShare} tabOf (m (pLoc d)))
        ∗ oLoc d ↦{fullShare} gathered (tabOf (m (pLoc d))) (ixOf (m (gLoc d)))) :=
  (deal d (tabOf (m (pLoc d))) (ixOf (m (gLoc d))) (gathered (tabOf (m (pLoc d))) (ixOf (m (gLoc d))))).symm

omit [FloatOps F] in
theorem hT : (opT (F := F)).bufs ⊆ S7 := show ({p', t'} : Finset (DevRef τ sig)) ⊆ S7 by decide
omit [FloatOps F] in
theorem hF : (opF (F := F)).bufs ⊆ S7 := show ({g', f'} : Finset (DevRef τ sig)) ⊆ S7 by decide
omit [FloatOps F] in
theorem hI : (opI (F := F)).bufs ⊆ S7 := show ({f', i'} : Finset (DevRef τ sig)) ⊆ S7 by decide
omit [FloatOps F] in
theorem hW : (opW (F := F)).bufs ⊆ S7 := show ({o', w'} : Finset (DevRef τ sig)) ⊆ S7 by decide

omit [FloatOps F] in
/-- The seven arrays before the call. -/
theorem held_V3 (d : Dev nD) :
    (held (T d) S7 ((opI (F := F)).result ((opF (F := F)).result ((opT (F := F)).result (V0 m d)))) : sProp 𝕄)
      = iprop((pLoc d ↦{fullShare} m (pLoc d)) ∗ (gLoc d ↦{fullShare} m (gLoc d)) ∗ (tLoc d ↦{fullShare} tabOf (m (pLoc d)))
          ∗ ((SparseCore.T d).loc main_v1 ↦{fullShare} V3 m d f') ∗ (iLoc d ↦{fullShare} ixOf (m (gLoc d))) ∗ (oLoc d ↦{fullShare} m (oLoc d))
          ∗ wLoc d ↦{fullShare} V3 m d w') := by
  show held (SparseCore.T d) S7 (V3 m d) = _
  rw [held_S7, V3_p, V3_g, V3_t, V3_i, V3_o]
omit [FloatOps F] in
/-- The seven arrays after it. -/
theorem held_V4 (d : Dev nD) :
    (held (T d) S7 (V4 m d) : sProp 𝕄)
      = iprop((pLoc d ↦{fullShare} m (pLoc d)) ∗ (gLoc d ↦{fullShare} m (gLoc d)) ∗ (tLoc d ↦{fullShare} tabOf (m (pLoc d)))
          ∗ ((SparseCore.T d).loc main_v1 ↦{fullShare} V3 m d f') ∗ (iLoc d ↦{fullShare} ixOf (m (gLoc d)))
          ∗ (oLoc d ↦{fullShare} gathered (tabOf (m (pLoc d))) (ixOf (m (gLoc d)))) ∗ wLoc d ↦{fullShare} V3 m d w') := by
  rw [held_S7, V4_o, V4_ne m d (show p' ≠ o' by decide), V4_ne m d (show g' ≠ o' by decide), V4_ne m d (show t' ≠ o' by decide),
    V4_ne m d (show f' ≠ o' by decide), V4_ne m d (show i' ≠ o' by decide), V4_ne m d (show w' ≠ o' by decide), V3_p, V3_g, V3_t, V3_i]

/-- What @main leaves the claims: the two arguments as they were and the result. -/
abbrev FIN (d : Dev nD) : sProp 𝕄 :=
  iprop((pLoc d ↦{fullShare} m (pLoc d)) ∗ (gLoc d ↦{fullShare} m (gLoc d)) ∗ wLoc d ↦{fullShare} resultOf (m (pLoc d)) (m (gLoc d)))

omit [FloatOps F] in
theorem held_V5 (d : Dev nD) : (held (T d) S7 ((opW (F := F)).result (V4 m d)) : sProp 𝕄) ⊢ FIN m d := by
  show held (SparseCore.T d) S7 (V5 m d) ⊢ _
  rw [held_S7, V5_p, V5_g, V5_w]
  iintro ⟨Hp, Hg, -, -, -, -, Hw⟩
  isplitl [Hp]; · iexact Hp
  isplitl [Hg]; · iexact Hg
  iexact Hw

/-- @main: three reshapes, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S7) hT (V := V0 m d)) $$ [Hb Hheld]
  · isplitl [Hb] <;> iassumption
  iintro ⟨Hb, Hheld⟩
  rw [wp_ret]; imodintro
  iapply (wp_hlo_within 𝒱 (SparseCore.T d) none Set.univ (op := opF) (S := S7) hF (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opI) (S := S7) hI (V := (opF (F := F)).result ((opT (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hp, Hg, Ht, Hf, Hi, Ho, Hw⟩
  iapply ((K (F := F)).wp_run (D (F := F)) 𝒱 (EH := EH) (P := P m) κ d 0) $$ [Hst Hp Hg Ht Hf Hi Ho Hw Hb Hts]
  isplitr; · iexact Hctx
  isplitl [Hst]; · iexact Hst
  isplitl [Ht Hi Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opW) (S := S7) hW (V := V4 m d)) $$ [Hb Hp Hg Ht Hf Hi Ho Hw]
  · isplitl [Hb]; · iexact Hb
    rw [held_V4]
    isplitl [Hp]; · iexact Hp
    isplitl [Hg]; · iexact Hg
    isplitl [Ht]; · iexact Ht
    isplitl [Hf]; · iexact Hf
    isplitl [Hi]; · iexact Hi
    isplitl [Ho]; · iexact Ho
    iexact Hw
  iintro ⟨Hb, Hheld⟩
  ihave Hfin := (held_V5 (F := F) m d) $$ Hheld
  rw [wp_ret]; imodintro; imodintro
  isplitl [Hst]; · iexact Hst
  isplitl [Hfin]; · iexact Hfin
  isplitl [Hb] <;> iassumption

/-- What a final state shows of the result and the arguments. -/
def fq (d : Dev nD) (s' : Phys nD τ sig (Elt F)) : Prop :=
  s'.mem.mem (pLoc d) = m (pLoc d) ∧ s'.mem.mem (gLoc d) = m (gLoc d) ∧ s'.mem.mem (wLoc d) = resultOf (m (pLoc d)) (m (gLoc d))

omit [FloatOps F] in
theorem hfin (d : Dev nD) (s' : Phys nD τ sig (Elt F)) : iprop(FIN m d ∗ SI s') ⊢ (⌜fq m d s'⌝ : sProp 𝕄) := by
  iintro ⟨⟨Hp, Hg, Hw⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := wLoc d) (I := Finset.univ) (q := fullShare) (f := resultOf (m (pLoc d)) (m (gLoc d)))) $$ [HSI Hw]
  · isplitl [HSI] <;> iassumption
  icases H with %h3
  ipureintro
  exact ⟨funext fun i => h1 i (Finset.mem_univ i), funext fun i => h2 i (Finset.mem_univ i), funext fun i => h3 i (Finset.mem_univ i)⟩

/-- The program's end: the arguments unchanged, the result the gathered rows, every counter at zero. -/
def QC : PUnit × MemSt nD τ sig (Elt F) → Prop := fun r =>
  (∀ d : Dev nD, r.2.mem (pLoc d) = m (pLoc d) ∧ r.2.mem (gLoc d) = m (gLoc d) ∧ r.2.mem (wLoc d) = resultOf (m (pLoc d)) (m (gLoc d)))
    ∧ r.2.sem = fun _ => 0

/-- Every execution of the program from indices in range ends so. -/
theorem run_main [∀ e, Nonempty (Elt F e)] (hm : ∀ d, InRange (F := F) (m (gLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Ref.lean ====
/-
  What the reference computes. Its rows are taken by StableHLO's gather, which reads an index as a signed word and
  clamps it into the table; before it, a negative index has the table's length added. On indices that name rows of the
  table neither changes anything, and the reference's result is the kernel's (`ref_eq`). The precondition says that
  the indices are such (`inRange_of_pre`).
-/
module

public import proofs.«01_k».proof.Defs
public import Idealize.ShloMosaic.Lib.ReduceAll
public import Idealize.ShloMosaic.Lib.WordArith
public import Idealize.ShloMosaic.Lib.ValueLayout
public import Idealize.ShloMosaic.Lib.Pipeline.Value
public import proofs.«01_k».proof.Proof.Gen.ReferenceIdeal
public import proofs.«01_k».proof.Proof.Gen.Pre_in_range
public import proofs.«01_k».proof.Proof.Launch

@[expose] public section

noncomputable section

namespace Cert.Proof

open Idealize.ShloMosaic Idealize.ShloMosaic.ValueIdx

/-! ## Rows taken by StableHLO's gather -/

section Rows
variable {α : Type} {N C B w : ℕ}

/-- The dimension numbers of a gather of rows of an `N × C` table, one row for each of `B` indices. -/
abbrev rowDims (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Element `(r, c)` of such a gather is column `c` of the row that index `r`, clamped into the table, names. -/
theorem gather_rows_apply (hN : 0 < N)
    (wf : GatherDims.WF ⟨2, ![N, C]⟩ ⟨2, ![B, 1]⟩ ⟨2, ![B, C]⟩ [1] [0] [] [0] [] 1 ![1, C])
    (T : (⟨2, ![N, C]⟩ : Shape).Idx → α) (idx : IVec ⟨2, ![B, 1]⟩ w) (r : Fin B) (c : Fin C) :
    Host.gather (rowDims wf) T idx (ix2 r c) = T (ix2 ⟨min (idx (ix2 r (0 : Fin 1))).toInt.toNat (N - 1), by omega⟩ c) := by
  unfold Host.gather
  congr 1
  funext a
  apply Fin.ext
  show (rowDims wf).start (ix2 r c) idx a + (rowDims wf).batchCoord (ix2 r c) a + (rowDims wf).offCoord (ix2 r c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 2) ∈ (rowDims wf).startIndexMap from List.mem_singleton.mpr rfl)]
    have e : (rowDims wf).siIdx (ix2 r c) ⟨List.idxOf (⟨0, by decide⟩ : Fin 2) (rowDims wf).startIndexMap,
        List.idxOf_lt_length_iff.2 (List.mem_singleton.mpr rfl)⟩ = ix2 r (0 : Fin 1) := by
      funext b; apply Fin.ext
      match b with
      | ⟨0, _⟩ => rfl
      | ⟨1, _⟩ => rfl
    rw [e]
    rfl
  | ⟨1, _⟩ =>
    unfold GatherDims.start
    rw [dif_neg (show ¬ (⟨1, _⟩ : Fin 2) ∈ (rowDims wf).startIndexMap from by simp), Nat.zero_add]
    rfl

end Rows

/-! ## The reference's term -/

/-- A word below 8192, and what the reference does to it. -/
theorem word_sel (v : BitVec 32) (h : v.toNat < 8192) :
    Scalar.select (IntOp.cmpi .slt v 0#32) (IntOp.addi v 8192#32) v = v := by
  have hs : IntOp.cmpi .slt v 0#32 = 0#1 := by
    simp only [IntOp.cmpi]
    rw [show v.slt 0#32 = false from by
      rw [BitVec.slt_eq_decide, BitVec.toInt_eq_toNat_cond, if_pos (by omega)]; simp]
    rfl
  rw [hs, select_zero]

/-- A word below 8192, read signed and clamped into the table. -/
theorem word_clamp (v : BitVec 32) (h : v.toNat < 8192) : min v.toInt.toNat (8192 - 1) = v.toNat % 8192 := by
  rw [BitVec.toInt_eq_toNat_cond, if_pos (by omega)]
  omega

open Cert.ReferenceIdeal Cert.ReferenceIdeal.Gen in
/-- The reference's result is the kernel's, when every index names a row of the table. -/
theorem ref_eq {F : FTy → Type} (p : S8x1024x128.Idx → Elt F .f32) (g : S8x256x16.Idx → Elt F .i32) (hg : InRange (F := F) g) :
    shapeCast S8x4096x128 (Host.gather gather_S8192x128_S32768x1_S32768x128_1_0_n_n_0_1_1128 (shapeCast S8192x128 p shapeCasts_S8x1024x128_S8192x128)
      (broadcastInDim S32768x1 ![0] bcast_S32768_S32768x1_0
        (select (cmpi .slt (shapeCast S32768 g shapeCasts_S8x256x16_S32768) (broadcastInDim S32768 ![] bcast_S_S32768 (constantI S_ 32 0#32)))
          (addi (shapeCast S32768 g shapeCasts_S8x256x16_S32768) (broadcastInDim S32768 ![] bcast_S_S32768 (constantI S_ 32 8192#32)))
          (shapeCast S32768 g shapeCasts_S8x256x16_S32768)))) shapeCasts_S32768x128_S8x4096x128
      = resultOf (F := F) p g := by
  unfold resultOf
  refine congrArg (fun x => shapeCast S8x4096x128 x shapeCasts_S32768x128_S8x4096x128) ?_
  funext x
  obtain ⟨r, c, rfl⟩ : ∃ (r : Fin 32768) (c : Fin 128), x = ix2 r c := ⟨x 0, x 1, eq_ix2 x⟩
  refine (gather_rows_apply (by decide) _ _ _ r c).trans ?_
  have hv : ∀ k : S32768.Idx, (shapeCast S32768 g shapeCasts_S8x256x16_S32768 k : BitVec 32).toNat < 8192 := fun k => hg _
  have hi : ixOf (F := F) g (ix2 (0 : Fin 1) r) = shapeCast S32768 g shapeCasts_S8x256x16_S32768 (ix1 r) := by
    unfold ixOf
    refine shapeCast_apply _ _ _ (ix1 r) ?_
    rw [Shape.rowMajor_val_two, Shape.rowMajor_val_one]
    show r.val = 0 * 32768 + r.val
    omega
  unfold gathered
  refine congrArg (tabOf (F := F) p) ?_
  have hw : ∀ j : S32768x1.Idx, j = ix2 r (0 : Fin 1) → (broadcastInDim S32768x1 ![0] bcast_S32768_S32768x1_0
        (select (cmpi .slt (shapeCast S32768 g shapeCasts_S8x256x16_S32768) (broadcastInDim S32768 ![] bcast_S_S32768 (constantI S_ 32 0#32)))
          (addi (shapeCast S32768 g shapeCasts_S8x256x16_S32768) (broadcastInDim S32768 ![] bcast_S_S32768 (constantI S_ 32 8192#32)))
          (shapeCast S32768 g shapeCasts_S8x256x16_S32768)) : IVec S32768x1 32) j
      = (ixOf (F := F) g (ix2 (0 : Fin 1) r) : BitVec 32) := by
    rintro j rfl
    rw [hi]
    refine Eq.trans ?_ (word_sel _ (hv (ix1 r)))
    refine (broadcastInDim_apply _ _ _ _ (ix1 r) ?_).trans rfl
    intro a
    match a with
    | ⟨0, _⟩ => rfl
  have hr : (ixOf (F := F) g (ix2 (0 : Fin 1) r) : BitVec 32).toNat < 8192 := ixOf_lt hg _
  funext a
  apply Fin.ext
  match a with
  | ⟨0, _⟩ => exact (congrArg (fun v : BitVec 32 => min v.toInt.toNat (8192 - 1)) (hw _ rfl)).trans (word_clamp _ hr)
  | ⟨1, _⟩ => rfl

/-! ## The precondition -/

open Cert.KernelIdeal in
/-- The precondition says of every index that it names a row of the table. -/
theorem inRange_of_fn {F : FTy → Type} [FloatOps F] (p : S8x1024x128.Idx → Elt F .f32) (g : S8x256x16.Idx → Elt F .i32)
    (h : Cert.Pre_in_range.fn (F := F) p g = fun _ => 1#1) : InRange (F := F) g := by
  intro j
  have e := congrFun h ix0
  have ht : ∀ a b : BitVec 1, IntOp.andi a b = 1#1 → a = 1#1 ∧ b = 1#1 := by decide
  haveI : Subsingleton Cert.Pre_in_range.S_.Idx := ⟨fun a b => funext fun i => i.elim0⟩
  obtain ⟨e1, e2⟩ := ht _ _ e
  have h1 : IntOp.cmpi .sge (g j) 0#32 = 1#1 := Host.reduce_andi_all _ _ _ _ _ e1 j
  have h2 : IntOp.cmpi .slt (g j) 8192#32 = 1#1 := Host.reduce_andi_all _ _ _ _ _ e2 j
  simp only [IntOp.cmpi, WordArith.ofBool_eq_one_iff, BitVec.sle_eq_decide, BitVec.slt_eq_decide, decide_eq_true_eq,
    BitVec.toInt_eq_toNat_cond, BitVec.toNat_ofNat, Nat.reducePow, Nat.reduceMod] at h1 h2
  show (g j : BitVec 32).toNat < 8192
  omega

end Cert.Proof

end
-- ==== Proof.LayersBody.lean ====
/-
  The layers' call alone: what the body of `_kernel_b` leaves in its two output blocks, and its triple.

  `Ins` is the twenty-six blocks the body reads; `Ins.outA` and `Ins.outB` are the two blocks it writes, put together
  from the printed payloads.  `body` is the triple on any whole memrefs.
-/
module

public import proofs.«01_k».proof.Proof.Gen.LayersIdeal.Launch
public import proofs.«01_k».proof.Proof.Gen.LayersIdeal.Skeleton
public import proofs.«01_k».proof.Proof.Gen.LayersIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.LayersIdeal

open Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body loads and stores through -/

abbrev r0_0 : Rect S1x4096x128 := Rect.unit (s := S1x4096x128) ![0, 0, 0] S1x4096x128.size inb_S1x4096x128_S1x4096x128_0_0_0
abbrev r0_1 : Rect S1x256x128 := Rect.unit (s := S1x256x128) ![0, 0, 0] S1x256x128.size inb_S1x256x128_S1x256x128_0_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1x256x256 := Rect.unit (s := S1x256x256) ![0, 0, 0] S1x256x256.size inb_S1x256x256_S1x256x256_0_0_0
abbrev r0_5 : Rect S4x128x128 := Rect.unit (s := S4x128x128) ![0, 0, 0] S1x128x128.size inb_S4x128x128_S1x128x128_0_0_0
abbrev r0_6 : Rect S4x256 := Rect.unit (s := S4x256) ![0, 0] S1x256.size inb_S4x256_S1x256_0_0
abbrev r0_7 : Rect S4x128x128 := Rect.unit (s := S4x128x128) ![1, 0, 0] S1x128x128.size inb_S4x128x128_S1x128x128_1_0_0
abbrev r0_8 : Rect S4x256 := Rect.unit (s := S4x256) ![1, 0] S1x256.size inb_S4x256_S1x256_1_0
abbrev r0_9 : Rect S4x128x128 := Rect.unit (s := S4x128x128) ![2, 0, 0] S1x128x128.size inb_S4x128x128_S1x128x128_2_0_0
abbrev r0_10 : Rect S4x256 := Rect.unit (s := S4x256) ![2, 0] S1x256.size inb_S4x256_S1x256_2_0
abbrev r0_11 : Rect S4x128x128 := Rect.unit (s := S4x128x128) ![3, 0, 0] S1x128x128.size inb_S4x128x128_S1x128x128_3_0_0
abbrev r0_12 : Rect S4x256 := Rect.unit (s := S4x256) ![3, 0] S1x256.size inb_S4x256_S1x256_3_0
abbrev r0_13 : Rect S512x128 := Rect.unit (s := S512x128) ![0, 0] S512x128.size inb_S512x128_S512x128_0_0
abbrev r0_14 : Rect S1x256 := Rect.unit (s := S1x256) ![0, 0] S1x256.size inb_S1x256_S1x256_0_0
abbrev r0_15 : Rect S1x256x16 := Rect.unit (s := S1x256x16) ![0, 0, 0] S1x256x16.size inb_S1x256x16_S1x256x16_0_0_0
abbrev r0_16 : Rect S1x256x8 := Rect.unit (s := S1x256x8) ![0, 0, 0] S1x256x8.size inb_S1x256x8_S1x256x8_0_0_0

/-! ## The blocks read, and the blocks written -/

/-- The twenty-six blocks the body reads: gathered rows, centres' products, adjacency, centres, then the weights. -/
structure Ins (F : FTy → Type) where
  x0 : Vec F S1x4096x128 .f32
  x1 : Vec F S1x256x128 .f32
  x2 : Vec F S1x256x256 .f32
  x3 : Vec F S1x256x16 .f32
  x4 : Vec F S1x128 .f32
  x5 : Vec F S1x128 .f32
  x6 : Vec F S128x128 .f32
  x7 : Vec F S1x128 .f32
  x8 : Vec F S1x128 .f32
  x9 : Vec F S128x128 .f32
  x10 : Vec F S1x128 .f32
  x11 : Vec F S1x128 .f32
  x12 : Vec F S128x128 .f32
  x13 : Vec F S1x128 .f32
  x14 : Vec F S1x128 .f32
  x15 : Vec F S1x128 .f32
  x16 : Vec F S128x128 .f32
  x17 : Vec F S1x128 .f32
  x18 : Vec F S1x128 .f32
  x19 : Vec F S1x128 .f32
  x20 : Vec F S4x128x128 .f32
  x21 : Vec F S4x256 .f32
  x22 : Vec F S512x128 .f32
  x23 : Vec F S1x256 .f32
  x24 : Vec F S128x128 .f32
  x25 : Vec F S1x128 .f32

namespace Ins
variable (X : Ins F)

/-- The pooled features of a centre, with the first dense layer's normalisation under way. -/
def feat1 : FVec F S256x128 .f32 :=
  k0_pay5 (k0_pay4 (View.ld X.x0 r0_0) (View.ld X.x1 r0_1) (View.ld X.x4 r0_2) (View.ld X.x5 r0_2) (View.ld X.x6 r0_3) (View.ld X.x7 r0_2) (View.ld X.x8 r0_2)) (Scalar.ofBits .f32 0x00000000#32) (View.ld X.x9 r0_3) (View.ld X.x10 r0_2) (View.ld X.x11 r0_2) (View.ld X.x12 r0_3) (View.ld X.x13 r0_2) (View.ld X.x14 r0_2) (View.ld X.x15 r0_2)

/-- The features the attention heads read. -/
def feat2 : FVec F S256x128 .f32 :=
  k0_pay7 X.feat1 (k0_pay6 (F := F)) (View.ld X.x16 r0_3) (View.ld X.x17 r0_2) (View.ld X.x18 r0_2) (View.ld X.x19 r0_2)

/-- The adjacency block as a matrix. -/
def adj : FVec F S256x256 .f32 :=
  k0_pay8 (View.ld X.x2 r0_4)

/-- The output layer's product, before its bias. -/
def graph : FVec F S256x128 .f32 :=
  k0_pay26 X.adj (k0_pay23 (View.ld X.x23 r0_14)) (k0_pay24 X.adj (k0_pay12 X.adj (k0_pay9 X.feat1 (k0_pay6 (F := F)) (View.ld X.x16 r0_3) (View.ld X.x17 r0_2) (View.ld X.x18 r0_2) (View.ld X.x19 r0_2) (View.ld X.x20 r0_5)) (k0_pay10 X.feat1 (k0_pay6 (F := F)) (View.ld X.x16 r0_3) (View.ld X.x17 r0_2) (View.ld X.x18 r0_2) (View.ld X.x19 r0_2) (View.ld X.x20 r0_5) (View.ld X.x21 r0_6)) (k0_pay11 X.feat1 (k0_pay6 (F := F)) (View.ld X.x16 r0_3) (View.ld X.x17 r0_2) (View.ld X.x18 r0_2) (View.ld X.x19 r0_2) (View.ld X.x20 r0_5) (View.ld X.x21 r0_6))) (k0_pay16 X.adj (k0_pay13 X.feat2 (View.ld X.x20 r0_7)) (k0_pay14 X.feat2 (View.ld X.x20 r0_7) (View.ld X.x21 r0_8)) (k0_pay15 X.feat2 (View.ld X.x20 r0_7) (View.ld X.x21 r0_8))) (k0_pay20 X.adj (k0_pay17 X.feat2 (View.ld X.x20 r0_9)) (k0_pay18 X.feat2 (View.ld X.x20 r0_9) (View.ld X.x21 r0_10)) (k0_pay19 (View.ld X.x21 r0_10))) (View.ld X.x21 r0_12) (k0_pay21 X.feat2 (View.ld X.x20 r0_11)) (k0_pay22 X.feat2 (View.ld X.x20 r0_11) (View.ld X.x21 r0_12)) (View.ld X.x22 r0_13)) (k0_pay25 (View.ld X.x23 r0_14)) (View.ld X.x24 r0_3)

end Ins

/-- The block of scores the body leaves. -/
def Ins.outA (X : Ins F) : Vec F S1x256x128 .f32 :=
  View.canon [⟨r0_1, k0_pay2 X.graph (View.ld X.x25 r0_2)⟩]

/-- The block of moved centres the body leaves. -/
def Ins.outB (X : Ins F) : Vec F S1x256x8 .f32 :=
  View.canon [⟨r0_16, k0_pay3 X.graph (View.ld X.x25 r0_2) (View.ld X.x3 r0_15)⟩]

theorem coverA (p : Vec F S1x256x128 .f32) (y : S1x256x128.Idx) :
    ∃ pc ∈ ([⟨r0_1, p⟩] : List (View.Piece (Elt F) S1x256x128 .f32)), y ∈ pc.1.set :=
  View.cover_of_tiled [⟨r0_1, p⟩] S1x256x128.size (by rfl) y

theorem coverB (p : Vec F S1x256x8 .f32) (y : S1x256x8.Idx) :
    ∃ pc ∈ ([⟨r0_16, p⟩] : List (View.Piece (Elt F) S1x256x8 .f32)), y ∈ pc.1.set :=
  View.cover_of_tiled [⟨r0_16, p⟩] S1x256x8.size (by rfl) y

/-! ## The body's triple -/

set_option maxHeartbeats 2000000 in
/-- The body on whole memrefs, the inputs' at `X` and the outputs' at anything: it leaves the inputs as they were and
    the outputs at `X.outA` and `X.outB`. -/
theorem body_triple (c : Dev nD) (i : grid0.Coords)
    (arg1 : Memref sig .tc .vmem S1x4096x128 .f32) (harg1 : arg1.IsWhole)
    (arg2 : Memref sig .tc .vmem S1x256x128 .f32) (harg2 : arg2.IsWhole)
    (arg3 : Memref sig .tc .vmem S1x256x256 .f32) (harg3 : arg3.IsWhole)
    (arg4 : Memref sig .tc .vmem S1x256x16 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S128x128 .f32) (harg13 : arg13.IsWhole)
    (arg14 : Memref sig .tc .vmem S1x128 .f32) (harg14 : arg14.IsWhole)
    (arg15 : Memref sig .tc .vmem S1x128 .f32) (harg15 : arg15.IsWhole)
    (arg16 : Memref sig .tc .vmem S1x128 .f32) (harg16 : arg16.IsWhole)
    (arg17 : Memref sig .tc .vmem S128x128 .f32) (harg17 : arg17.IsWhole)
    (arg18 : Memref sig .tc .vmem S1x128 .f32) (harg18 : arg18.IsWhole)
    (arg19 : Memref sig .tc .vmem S1x128 .f32) (harg19 : arg19.IsWhole)
    (arg20 : Memref sig .tc .vmem S1x128 .f32) (harg20 : arg20.IsWhole)
    (arg21 : Memref sig .tc .vmem S4x128x128 .f32) (harg21 : arg21.IsWhole)
    (arg22 : Memref sig .tc .vmem S4x256 .f32) (harg22 : arg22.IsWhole)
    (arg23 : Memref sig .tc .vmem S512x128 .f32) (harg23 : arg23.IsWhole)
    (arg24 : Memref sig .tc .vmem S1x256 .f32) (harg24 : arg24.IsWhole)
    (arg25 : Memref sig .tc .vmem S128x128 .f32) (harg25 : arg25.IsWhole)
    (arg26 : Memref sig .tc .vmem S1x128 .f32) (harg26 : arg26.IsWhole)
    (arg27 : Memref sig .tc .vmem S1x256x128 .f32) (harg27 : arg27.IsWhole)
    (arg28 : Memref sig .tc .vmem S1x256x8 .f32) (harg28 : arg28.IsWhole)
    (X : Ins F) (K : PUnit → sProp 𝕄) :
    iprop(owns (c : Thread nD τ) arg1 fullShare X.x0 ∗ owns (c : Thread nD τ) arg2 fullShare X.x1
      ∗ owns (c : Thread nD τ) arg3 fullShare X.x2 ∗ owns (c : Thread nD τ) arg4 fullShare X.x3
      ∗ owns (c : Thread nD τ) arg5 fullShare X.x4 ∗ owns (c : Thread nD τ) arg6 fullShare X.x5
      ∗ owns (c : Thread nD τ) arg7 fullShare X.x6 ∗ owns (c : Thread nD τ) arg8 fullShare X.x7
      ∗ owns (c : Thread nD τ) arg9 fullShare X.x8 ∗ owns (c : Thread nD τ) arg10 fullShare X.x9
      ∗ owns (c : Thread nD τ) arg11 fullShare X.x10 ∗ owns (c : Thread nD τ) arg12 fullShare X.x11
      ∗ owns (c : Thread nD τ) arg13 fullShare X.x12 ∗ owns (c : Thread nD τ) arg14 fullShare X.x13
      ∗ owns (c : Thread nD τ) arg15 fullShare X.x14 ∗ owns (c : Thread nD τ) arg16 fullShare X.x15
      ∗ owns (c : Thread nD τ) arg17 fullShare X.x16 ∗ owns (c : Thread nD τ) arg18 fullShare X.x17
      ∗ owns (c : Thread nD τ) arg19 fullShare X.x18 ∗ owns (c : Thread nD τ) arg20 fullShare X.x19
      ∗ owns (c : Thread nD τ) arg21 fullShare X.x20 ∗ owns (c : Thread nD τ) arg22 fullShare X.x21
      ∗ owns (c : Thread nD τ) arg23 fullShare X.x22 ∗ owns (c : Thread nD τ) arg24 fullShare X.x23
      ∗ owns (c : Thread nD τ) arg25 fullShare X.x24 ∗ owns (c : Thread nD τ) arg26 fullShare X.x25
      ∗ (∃ d, owns (c : Thread nD τ) arg27 fullShare d) ∗ (∃ d, owns (c : Thread nD τ) arg28 fullShare d)
      ∗ (iprop(owns (c : Thread nD τ) arg1 fullShare X.x0 ∗ owns (c : Thread nD τ) arg2 fullShare X.x1
      ∗ owns (c : Thread nD τ) arg3 fullShare X.x2 ∗ owns (c : Thread nD τ) arg4 fullShare X.x3
      ∗ owns (c : Thread nD τ) arg5 fullShare X.x4 ∗ owns (c : Thread nD τ) arg6 fullShare X.x5
      ∗ owns (c : Thread nD τ) arg7 fullShare X.x6 ∗ owns (c : Thread nD τ) arg8 fullShare X.x7
      ∗ owns (c : Thread nD τ) arg9 fullShare X.x8 ∗ owns (c : Thread nD τ) arg10 fullShare X.x9
      ∗ owns (c : Thread nD τ) arg11 fullShare X.x10 ∗ owns (c : Thread nD τ) arg12 fullShare X.x11
      ∗ owns (c : Thread nD τ) arg13 fullShare X.x12 ∗ owns (c : Thread nD τ) arg14 fullShare X.x13
      ∗ owns (c : Thread nD τ) arg15 fullShare X.x14 ∗ owns (c : Thread nD τ) arg16 fullShare X.x15
      ∗ owns (c : Thread nD τ) arg17 fullShare X.x16 ∗ owns (c : Thread nD τ) arg18 fullShare X.x17
      ∗ owns (c : Thread nD τ) arg19 fullShare X.x18 ∗ owns (c : Thread nD τ) arg20 fullShare X.x19
      ∗ owns (c : Thread nD τ) arg21 fullShare X.x20 ∗ owns (c : Thread nD τ) arg22 fullShare X.x21
      ∗ owns (c : Thread nD τ) arg23 fullShare X.x22 ∗ owns (c : Thread nD τ) arg24 fullShare X.x23
      ∗ owns (c : Thread nD τ) arg25 fullShare X.x24 ∗ owns (c : Thread nD τ) arg26 fullShare X.x25
      ∗ owns (c : Thread nD τ) arg27 fullShare X.outA ∗ owns (c : Thread nD τ) arg28 fullShare X.outB) -∗ K ⟨⟩))
      ⊢ wp frame (wpE (defs₀ (F := F)) Variants.none c none) Set.univ (cc0__kernel_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  obtain ⟨x0, x1, x2, x3, x4, x5, x6, x7, x8, x9, x10, x11, x12, x13, x14, x15, x16, x17, x18, x19, x20, x21, x22, x23, x24, x25⟩ := X
  simp only [cc0__kernel_b_eq_skeleton]; unfold cc0__kernel_b_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (coverA _)).trans ?_
    rfl
  iexists _; isplitr
  swap; · iexact H27
  ipureintro
  refine (View.read_writes_eq_canon _ _ _ (coverB _)).trans ?_
  rfl

end Cert.LayersIdeal

end
-- ==== Proof.LayersRun.lean ====
/-
  The layers' call alone: the run of the launch.

  `dats` is the pipeline's proof data: every input array as the launch finds it after the host operations in front, every
  output block what the body leaves of the point's blocks (`LayersBody`).  `run_main` is the run, at any floats, and
  `frame` the frame claim.
-/
module

public import proofs.«01_k».proof.Proof.LayersBody

@[expose] public section

set_option maxRecDepth 16384

noncomputable section

namespace Cert.LayersIdeal

open Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations around the launch -/

/-- A core's buffers when the launch is entered: after the host operations in front of it. -/
abbrev V0 (c : Dev nD) : Valuation τ sig (Elt F) := StableHlo.after (List.flatten [hostOps0]) (fun b => m (c, b))

/-- The same, at a reference. -/
abbrev V (c : Dev nD) (b : Ref sig .tc) : Buf (Elt F) ((c : Thread nD τ).loc b) := V0 m c (Proc.devRef .tc b)

/-- The host operations in front allocate nothing. -/
theorem hostOps0_fresh : (hostOps0 : List (HloOp τ sig (Elt F))).Forall fun op => op.fresh = ∅ := by
  simp only [List.Forall]; repeat' constructor

/-- The host operations after the launch allocate nothing. -/
theorem hostOps1_fresh : (hostOps1 : List (HloOp τ sig (Elt F))).Forall fun op => op.fresh = ∅ := by
  simp only [List.Forall]; repeat' constructor

set_option maxHeartbeats 800000 in
/-- The program is the host operations in front, the launch, and the host operations after it. -/
theorem hmain (𝒱₀ : Variants) : Pipeline.HMainK (Ix := Unit) (Name := ℕ) (U := UR sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The operations after the launch stay within the launch's references. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- They write none of the launch's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals
    intro w
    fin_cases w <;> simp only [StableHlo.nullary_writes, StableHlo.unary_writes, StableHlo.binary_writes, StableHlo.ternary_writes,
      StableHlo.quaternary_writes, StableHlo.reshape_writes, StableHlo.binaryIndexed_writes, Finset.mem_singleton] <;>
      exact StableHlo.devRef_ne_of_ne (by decide)

/-- The program's arguments. -/
def args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25]

set_option maxHeartbeats 800000 in
/-- No host operation in front writes an argument. -/
theorem V_arg (c : Dev nD) (b : Ref sig .tc) (hb : b ∈ args) : V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append,
    List.nil_append, List.Forall,
    StableHlo.nullary_writes, StableHlo.unary_writes, StableHlo.binary_writes, StableHlo.ternary_writes,
      StableHlo.quaternary_writes, StableHlo.reshape_writes, StableHlo.binaryIndexed_writes, Finset.mem_singleton]
  repeat' apply And.intro
  all_goals exact StableHlo.devRef_ne_of_ne (by revert hb; revert b; unfold args; decide)

/-- The arguments the launch reads by way of a host operation only. -/
def rest : List (Ref sig .tc) :=
  [main_arg4, main_arg5, main_arg6, main_arg7, main_arg8, main_arg9, main_arg10, main_arg11, main_arg12,
   main_arg13, main_arg14, main_arg15, main_arg16, main_arg17, main_arg18, main_arg19, main_arg23, main_arg24,
   main_arg25]

/-- No host operation after the launch writes them either. -/
theorem W_arg (dats : (p : Fin _) → (c : Dev nD) → Dat τ (Elt F) Unit ℕ (UR sig nD τ) ℕ (cfgs p) c) (c : Dev nD)
    (b : Ref sig .tc) (hb : b ∈ rest) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall,
    StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by revert hb; revert b; unfold rest; decide))),
    Pipeline.withArrays_of_ne _ c (V0 m c) _ b (by revert hb; revert b; unfold rest; decide)]
  exact V_arg m c b (by revert hb; revert b; unfold rest args; decide)

/-! ## The blocks at a point, and the proof data -/

/-- Window `w`'s block at point `t`, off its array as the launch finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The blocks the body reads at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t,
   iblk m c 8 t, iblk m c 9 t, iblk m c 10 t, iblk m c 11 t, iblk m c 12 t, iblk m c 13 t, iblk m c 14 t,
   iblk m c 15 t, iblk m c 16 t, iblk m c 17 t, iblk m c 18 t, iblk m c 19 t, iblk m c 20 t, iblk m c 21 t,
   iblk m c 22 t, iblk m c 23 t, iblk m c 24 t, iblk m c 25 t⟩

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (insAt m c t).outA
    | ⟨27, _⟩ => (insAt m c t).outB
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves in each window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (insAt m c t).outA := by dsimp only [dats]
theorem after0_27 (c : Dev nD) (t : Fin cfg0.N) : (dats m 0 c).after 27 t = (insAt m c t).outB := by dsimp only [dats]

/-! What the body finds in each input window: its block, fetched at this point or at an earlier one. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl)
    (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl)
    (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl)
    (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl)
    (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl)
    (fun t => by rw [after0_25]; unfold Dat.blockOf iblk; rw [A_eq]; try rfl) t d).trans
    (by unfold Dat.fetched Dat.blockOf iblk; rw [A_eq]; try rfl)

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18,
    before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20,
    after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩, ⟨%d22, H22⟩, ⟨%d23, H23⟩, ⟨%d24, H24⟩, ⟨%d25, H25⟩,
    ⟨%d26, H26⟩, ⟨%d27, H27⟩⟩
  iapply (body_triple c (grid0.coords t) _ _ _ _ _ _ _ _ _ _ _ _ _ _ _ _ _ _ _ _ _ _ _ _ _ _ _ _ _ _ _ _ _ _ _ _ _ _ _ _ _ _ _ _ _ _ _ _ _ _ _ _ _ _ _ _ (insAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23,
    H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- From any memory with the counters at zero the program ends, its arrays are what the proof data computes, every other
    buffer is as the host operations after the launch leave it, and every counter is at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument ends as launched. -/
theorem arg_kept {r : PUnit × MemSt nD τ sig (Elt F)}
    (h : Pipeline.FramePost cfgs (dats m) 0 (Pipeline.afterTail₀ cfgs (dats m) 0 (V0 m) [hostOps1]) r) (c : Dev nD)
    (b : Ref sig .tc) (hb : b ∈ args) : r.2.mem ((c.tc : Thread nD τ).loc b) = m ((c.tc : Thread nD τ).loc b) := by
  by_cases hr : b ∈ rest
  · exact ((h c).2 b (Pipeline.mem_restRefs_of b (by revert hr; clear hb; revert b; unfold rest; decide)
      (by revert hr; clear hb; revert b; unfold rest; decide))).trans (W_arg m (dats m) c b hr)
  · have hw : b = main_arg0 ∨ b = main_arg1 ∨ b = main_arg2 ∨ b = main_arg3 ∨ b = main_arg20 ∨ b = main_arg21 ∨ b = main_arg22 := by
      revert hr; revert hb; revert b; unfold args rest; decide
    rcases hw with rfl | rfl | rfl | rfl | rfl | rfl | rfl
    · exact ((h c).1 0).trans (((dats m 0 c).arrAt_in 0 rfl _).trans ((A_eq m c 0).trans (V_arg m c _ hb)))
    · exact ((h c).1 1).trans (((dats m 0 c).arrAt_in 1 rfl _).trans ((A_eq m c 1).trans (V_arg m c _ hb)))
    · exact ((h c).1 2).trans (((dats m 0 c).arrAt_in 2 rfl _).trans ((A_eq m c 2).trans (V_arg m c _ hb)))
    · exact ((h c).1 3).trans (((dats m 0 c).arrAt_in 3 rfl _).trans ((A_eq m c 3).trans (V_arg m c _ hb)))
    · exact ((h c).1 20).trans (((dats m 0 c).arrAt_in 20 rfl _).trans ((A_eq m c 20).trans (V_arg m c _ hb)))
    · exact ((h c).1 21).trans (((dats m 0 c).arrAt_in 21 rfl _).trans ((A_eq m c 21).trans (V_arg m c _ hb)))
    · exact ((h c).1 22).trans (((dats m 0 c).arrAt_in 22 rfl _).trans ((A_eq m c 22).trans (V_arg m c _ hb)))

/-- Every argument ends as launched. -/
def Kept (r : PUnit × MemSt nD τ sig (Elt F)) : Prop :=
  ∀ c : Dev nD, ∀ b ∈ args, r.2.mem ((c.tc : Thread nD τ).loc b) = m ((c.tc : Thread nD τ).loc b)

/-- The frame: the program ends, its arguments are as launched, every counter is at zero. -/
theorem frame : θ_run defs (onTc (τ := τ) (main (F := F))) ⟨m, fun _ => 0, ρ⟩ (fun r => Kept m r ∧ r.2.sem = fun _ => 0) :=
  (θ_run defs _ _).mono (fun _ h => ⟨fun c b hb => arg_kept m h.1 c b hb, h.2⟩) (run_main m ρ)

/-- The same, argument by argument. -/
theorem Kept.all {r : PUnit × MemSt nD τ sig (Elt F)} (h : Kept m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) := by
  refine ⟨?_, ?_, ?_, ?_, ?_, ?_, ?_, ?_, ?_, ?_, ?_, ?_, ?_, ?_, ?_, ?_, ?_, ?_, ?_, ?_, ?_, ?_, ?_, ?_, ?_, ?_⟩ <;> exact h c _ (by decide)

end Cert.LayersIdeal

end
-- ==== Proof.LayersReads.lean ====
/-
  The layers' call alone: what the body reads.

  The host operations in front lay the weights out (a vector as a one-row array, a matrix transposed, the last matrix and
  its bias widened to 128 columns with zeros); the reads of the blocks at a point go back through them to the arguments.
-/
module

public import proofs.«01_k».proof.Proof.LayersRun
public import proofs.«01_k».proof.Proof.LayersBody
public import Idealize.ShloMosaic.Lib.Pipeline.ValueKit

@[expose] public section

set_option maxRecDepth 16384

noncomputable section

namespace Cert.LayersIdeal

open Cert.LayersIdeal.Gen
open Idealize.ShloMosaic Idealize.ShloMosaic.TcCoe

variable (m : (ℓ : Loc nD τ sig) → Buf (Elt Ideal) ℓ) (c : Dev nD)

/-! ## The weights as the launch finds them -/

/-- Argument 4 as a one-row array. -/
theorem V_v23 : V m c main_v23 = shapeCast S1x128 (m ((c : Thread nD τ).loc main_arg4) : FVec Ideal S128 .f32) shapeCasts_S128_S1x128 := by
  show StableHlo.after [hostOps0].flatten (fun b => m (c, b)) (Proc.tc.devRef main_v23) = _
  simp only [hostOps0, List.flatten_cons, List.flatten_nil, List.append_nil, List.cons_append, List.nil_append]
  after_results
  rfl

/-- Argument 5 as a one-row array. -/
theorem V_v24 : V m c main_v24 = shapeCast S1x128 (m ((c : Thread nD τ).loc main_arg5) : FVec Ideal S128 .f32) shapeCasts_S128_S1x128 := by
  show StableHlo.after [hostOps0].flatten (fun b => m (c, b)) (Proc.tc.devRef main_v24) = _
  simp only [hostOps0, List.flatten_cons, List.flatten_nil, List.append_nil, List.cons_append, List.nil_append]
  after_results
  rfl

/-- Argument 7 as a one-row array. -/
theorem V_v26 : V m c main_v26 = shapeCast S1x128 (m ((c : Thread nD τ).loc main_arg7) : FVec Ideal S128 .f32) shapeCasts_S128_S1x128 := by
  show StableHlo.after [hostOps0].flatten (fun b => m (c, b)) (Proc.tc.devRef main_v26) = _
  simp only [hostOps0, List.flatten_cons, List.flatten_nil, List.append_nil, List.cons_append, List.nil_append]
  after_results
  rfl

/-- Argument 8 as a one-row array. -/
theorem V_v27 : V m c main_v27 = shapeCast S1x128 (m ((c : Thread nD τ).loc main_arg8) : FVec Ideal S128 .f32) shapeCasts_S128_S1x128 := by
  show StableHlo.after [hostOps0].flatten (fun b => m (c, b)) (Proc.tc.devRef main_v27) = _
  simp only [hostOps0, List.flatten_cons, List.flatten_nil, List.append_nil, List.cons_append, List.nil_append]
  after_results
  rfl

/-- Argument 10 as a one-row array. -/
theorem V_v29 : V m c main_v29 = shapeCast S1x128 (m ((c : Thread nD τ).loc main_arg10) : FVec Ideal S128 .f32) shapeCasts_S128_S1x128 := by
  show StableHlo.after [hostOps0].flatten (fun b => m (c, b)) (Proc.tc.devRef main_v29) = _
  simp only [hostOps0, List.flatten_cons, List.flatten_nil, List.append_nil, List.cons_append, List.nil_append]
  after_results
  rfl

/-- Argument 11 as a one-row array. -/
theorem V_v30 : V m c main_v30 = shapeCast S1x128 (m ((c : Thread nD τ).loc main_arg11) : FVec Ideal S128 .f32) shapeCasts_S128_S1x128 := by
  show StableHlo.after [hostOps0].flatten (fun b => m (c, b)) (Proc.tc.devRef main_v30) = _
  simp only [hostOps0, List.flatten_cons, List.flatten_nil, List.append_nil, List.cons_append, List.nil_append]
  after_results
  rfl

/-- Argument 13 as a one-row array. -/
theorem V_v32 : V m c main_v32 = shapeCast S1x128 (m ((c : Thread nD τ).loc main_arg13) : FVec Ideal S128 .f32) shapeCasts_S128_S1x128 := by
  show StableHlo.after [hostOps0].flatten (fun b => m (c, b)) (Proc.tc.devRef main_v32) = _
  simp only [hostOps0, List.flatten_cons, List.flatten_nil, List.append_nil, List.cons_append, List.nil_append]
  after_results
  rfl

/-- Argument 14 as a one-row array. -/
theorem V_v33 : V m c main_v33 = shapeCast S1x128 (m ((c : Thread nD τ).loc main_arg14) : FVec Ideal S128 .f32) shapeCasts_S128_S1x128 := by
  show StableHlo.after [hostOps0].flatten (fun b => m (c, b)) (Proc.tc.devRef main_v33) = _
  simp only [hostOps0, List.flatten_cons, List.flatten_nil, List.append_nil, List.cons_append, List.nil_append]
  after_results
  rfl

/-- Argument 15 as a one-row array. -/
theorem V_v34 : V m c main_v34 = shapeCast S1x128 (m ((c : Thread nD τ).loc main_arg15) : FVec Ideal S128 .f32) shapeCasts_S128_S1x128 := by
  show StableHlo.after [hostOps0].flatten (fun b => m (c, b)) (Proc.tc.devRef main_v34) = _
  simp only [hostOps0, List.flatten_cons, List.flatten_nil, List.append_nil, List.cons_append, List.nil_append]
  after_results
  rfl

/-- Argument 17 as a one-row array. -/
theorem V_v36 : V m c main_v36 = shapeCast S1x128 (m ((c : Thread nD τ).loc main_arg17) : FVec Ideal S128 .f32) shapeCasts_S128_S1x128 := by
  show StableHlo.after [hostOps0].flatten (fun b => m (c, b)) (Proc.tc.devRef main_v36) = _
  simp only [hostOps0, List.flatten_cons, List.flatten_nil, List.append_nil, List.cons_append, List.nil_append]
  after_results
  rfl

/-- Argument 18 as a one-row array. -/
theorem V_v37 : V m c main_v37 = shapeCast S1x128 (m ((c : Thread nD τ).loc main_arg18) : FVec Ideal S128 .f32) shapeCasts_S128_S1x128 := by
  show StableHlo.after [hostOps0].flatten (fun b => m (c, b)) (Proc.tc.devRef main_v37) = _
  simp only [hostOps0, List.flatten_cons, List.flatten_nil, List.append_nil, List.cons_append, List.nil_append]
  after_results
  rfl

/-- Argument 19 as a one-row array. -/
theorem V_v38 : V m c main_v38 = shapeCast S1x128 (m ((c : Thread nD τ).loc main_arg19) : FVec Ideal S128 .f32) shapeCasts_S128_S1x128 := by
  show StableHlo.after [hostOps0].flatten (fun b => m (c, b)) (Proc.tc.devRef main_v38) = _
  simp only [hostOps0, List.flatten_cons, List.flatten_nil, List.append_nil, List.cons_append, List.nil_append]
  after_results
  rfl

/-- Argument 6 transposed. -/
theorem V_v25 : V m c main_v25 = transpose S128x128 [1, 0] (m ((c : Thread nD τ).loc main_arg6) : FVec Ideal S128x128 .f32) transposes_S128x128_S128x128_1_0 := by
  show StableHlo.after [hostOps0].flatten (fun b => m (c, b)) (Proc.tc.devRef main_v25) = _
  simp only [hostOps0, List.flatten_cons, List.flatten_nil, List.append_nil, List.cons_append, List.nil_append]
  after_results

/-- Argument 9 transposed. -/
theorem V_v28 : V m c main_v28 = transpose S128x128 [1, 0] (m ((c : Thread nD τ).loc main_arg9) : FVec Ideal S128x128 .f32) transposes_S128x128_S128x128_1_0 := by
  show StableHlo.after [hostOps0].flatten (fun b => m (c, b)) (Proc.tc.devRef main_v28) = _
  simp only [hostOps0, List.flatten_cons, List.flatten_nil, List.append_nil, List.cons_append, List.nil_append]
  after_results

/-- Argument 12 transposed. -/
theorem V_v31 : V m c main_v31 = transpose S128x128 [1, 0] (m ((c : Thread nD τ).loc main_arg12) : FVec Ideal S128x128 .f32) transposes_S128x128_S128x128_1_0 := by
  show StableHlo.after [hostOps0].flatten (fun b => m (c, b)) (Proc.tc.devRef main_v31) = _
  simp only [hostOps0, List.flatten_cons, List.flatten_nil, List.append_nil, List.cons_append, List.nil_append]
  after_results

/-- Argument 16 transposed. -/
theorem V_v35 : V m c main_v35 = transpose S128x128 [1, 0] (m ((c : Thread nD τ).loc main_arg16) : FVec Ideal S128x128 .f32) transposes_S128x128_S128x128_1_0 := by
  show StableHlo.after [hostOps0].flatten (fun b => m (c, b)) (Proc.tc.devRef main_v35) = _
  simp only [hostOps0, List.flatten_cons, List.flatten_nil, List.append_nil, List.cons_append, List.nil_append]
  after_results

/-- Argument 23 as a one-row array. -/
theorem V_v39 : V m c main_v39 = shapeCast S1x256 (m ((c : Thread nD τ).loc main_arg23) : FVec Ideal S256 .f32) shapeCasts_S256_S1x256 := by
  show StableHlo.after [hostOps0].flatten (fun b => m (c, b)) (Proc.tc.devRef main_v39) = _
  simp only [hostOps0, List.flatten_cons, List.flatten_nil, List.append_nil, List.cons_append, List.nil_append]
  after_results
  rfl

/-- Argument 24 transposed and widened with zeros. -/
theorem V_v2 : V m c main_v2 = concatenate S128x128 1 [⟨S128x119, transpose S128x119 [1, 0] (m ((c : Thread nD τ).loc main_arg24) : FVec Ideal S119x128 .f32) transposes_S119x128_S128x119_1_0⟩,
      ⟨S128x9, broadcastInDim S128x9 ![] bcast_S_S128x9 (constant S_ .f32 0x00000000#32 : FVec Ideal S_ .f32)⟩] concatenates_S128x119_S128x9_S128x128_d1 := by
  show StableHlo.after [hostOps0].flatten (fun b => m (c, b)) (Proc.tc.devRef main_v2) = _
  simp only [hostOps0, List.flatten_cons, List.flatten_nil, List.append_nil, List.cons_append, List.nil_append]
  after_results

/-- Argument 25 lengthened with zeros, as a one-row array. -/
theorem V_v5 : V m c main_v5 = shapeCast S1x128 (concatenate S128 0 [⟨S119, (m ((c : Thread nD τ).loc main_arg25) : FVec Ideal S119 .f32)⟩,
      ⟨S9, broadcastInDim S9 ![] bcast_S_S9 (constant S_ .f32 0x00000000#32 : FVec Ideal S_ .f32)⟩] concatenates_S119_S9_S128_d0 : FVec Ideal S128 .f32) shapeCasts_S128_S1x128 := by
  show StableHlo.after [hostOps0].flatten (fun b => m (c, b)) (Proc.tc.devRef main_v5) = _
  simp only [hostOps0, List.flatten_cons, List.flatten_nil, List.append_nil, List.cons_append, List.nil_append]
  after_results
  rfl

/-! ## Which block a point reads -/

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![0, 0] := by decide +kernel
theorem idx17 : ∀ t : Fin grid0.N, win0_17.index t = ![0, 0] := by decide +kernel
theorem idx18 : ∀ t : Fin grid0.N, win0_18.index t = ![0, 0] := by decide +kernel
theorem idx19 : ∀ t : Fin grid0.N, win0_19.index t = ![0, 0] := by decide +kernel
theorem idx20 : ∀ t : Fin grid0.N, win0_20.index t = ![0, 0, 0] := by decide +kernel
theorem idx21 : ∀ t : Fin grid0.N, win0_21.index t = ![0, 0] := by decide +kernel
theorem idx22 : ∀ t : Fin grid0.N, win0_22.index t = ![0, 0] := by decide +kernel
theorem idx23 : ∀ t : Fin grid0.N, win0_23.index t = ![0, 0] := by decide +kernel
theorem idx24 : ∀ t : Fin grid0.N, win0_24.index t = ![0, 0] := by decide +kernel
theorem idx25 : ∀ t : Fin grid0.N, win0_25.index t = ![0, 0] := by decide +kernel
theorem idx26 : ∀ t : Fin grid0.N, win0_26.index t = ![t.val, 0, 0] := by decide +kernel
theorem idx27 : ∀ t : Fin grid0.N, win0_27.index t = ![t.val, 0, 0] := by decide +kernel

/-! ## The blocks at a point, off the arguments -/

variable (t : Fin cfg0.N)

/-- Batch `t` of argument 0. -/
theorem x0_apply (r : Fin 4096) (l : Fin 128) : (insAt m c t).x0 (ix3 0 r l) = (m ((c : Thread nD τ).loc main_arg0) : FVec Ideal S8x4096x128 .f32) (ix3 t r l) := by
  rw [← V_arg m c main_arg0 (by decide)]
  show iblk m c 0 t _ = _
  blk_simp [iblk]
  blk_ext [idx0 t]

/-- Batch `t` of argument 1. -/
theorem x1_apply (r : Fin 256) (l : Fin 128) : (insAt m c t).x1 (ix3 0 r l) = (m ((c : Thread nD τ).loc main_arg1) : FVec Ideal S8x256x128 .f32) (ix3 t r l) := by
  rw [← V_arg m c main_arg1 (by decide)]
  show iblk m c 1 t _ = _
  blk_simp [iblk]
  blk_ext [idx1 t]

/-- Batch `t` of argument 2. -/
theorem x2_apply (r : Fin 256) (l : Fin 256) : (insAt m c t).x2 (ix3 0 r l) = (m ((c : Thread nD τ).loc main_arg2) : FVec Ideal S8x256x256 .f32) (ix3 t r l) := by
  rw [← V_arg m c main_arg2 (by decide)]
  show iblk m c 2 t _ = _
  blk_simp [iblk]
  blk_ext [idx2 t]

/-- Batch `t` of argument 3. -/
theorem x3_apply (r : Fin 256) (l : Fin 16) : (insAt m c t).x3 (ix3 0 r l) = (m ((c : Thread nD τ).loc main_arg3) : FVec Ideal S8x256x16 .f32) (ix3 t r l) := by
  rw [← V_arg m c main_arg3 (by decide)]
  show iblk m c 3 t _ = _
  blk_simp [iblk]
  blk_ext [idx3 t]

/-- The whole of argument 20. -/
theorem x20_apply (k : Fin 4) (x l : Fin 128) : (insAt m c t).x20 (ix3 k x l) = (m ((c : Thread nD τ).loc main_arg20) : FVec Ideal S4x128x128 .f32) (ix3 k x l) := by
  rw [← V_arg m c main_arg20 (by decide)]
  show iblk m c 20 t _ = _
  blk_simp [iblk]
  blk_ext [idx20 t]

/-- The whole of argument 21. -/
theorem x21_apply (k : Fin 4) (x : Fin 256) : (insAt m c t).x21 (ix2 k x) = (m ((c : Thread nD τ).loc main_arg21) : FVec Ideal S4x256 .f32) (ix2 k x) := by
  rw [← V_arg m c main_arg21 (by decide)]
  show iblk m c 21 t _ = _
  blk_simp [iblk]
  blk_ext [idx21 t]

/-- The whole of argument 22. -/
theorem x22_apply (x : Fin 512) (l : Fin 128) : (insAt m c t).x22 (ix2 x l) = (m ((c : Thread nD τ).loc main_arg22) : FVec Ideal S512x128 .f32) (ix2 x l) := by
  rw [← V_arg m c main_arg22 (by decide)]
  show iblk m c 22 t _ = _
  blk_simp [iblk]
  blk_ext [idx22 t]

/-- Argument 4. -/
theorem x4_apply (l : Fin 128) : (insAt m c t).x4 (ix2 0 l) = (m ((c : Thread nD τ).loc main_arg4) : FVec Ideal S128 .f32) (ix1 l) := by
  have h : (insAt m c t).x4 (ix2 0 l) = (V m c main_v23 : FVec Ideal S1x128 .f32) (ix2 0 l) := by
    show iblk m c 4 t _ = _
    blk_simp [iblk]
    blk_ext [idx4 t]
  rw [h, V_v23]
  pointwise

/-- Argument 5. -/
theorem x5_apply (l : Fin 128) : (insAt m c t).x5 (ix2 0 l) = (m ((c : Thread nD τ).loc main_arg5) : FVec Ideal S128 .f32) (ix1 l) := by
  have h : (insAt m c t).x5 (ix2 0 l) = (V m c main_v24 : FVec Ideal S1x128 .f32) (ix2 0 l) := by
    show iblk m c 5 t _ = _
    blk_simp [iblk]
    blk_ext [idx5 t]
  rw [h, V_v24]
  pointwise

/-- Argument 7. -/
theorem x7_apply (l : Fin 128) : (insAt m c t).x7 (ix2 0 l) = (m ((c : Thread nD τ).loc main_arg7) : FVec Ideal S128 .f32) (ix1 l) := by
  have h : (insAt m c t).x7 (ix2 0 l) = (V m c main_v26 : FVec Ideal S1x128 .f32) (ix2 0 l) := by
    show iblk m c 7 t _ = _
    blk_simp [iblk]
    blk_ext [idx7 t]
  rw [h, V_v26]
  pointwise

/-- Argument 8. -/
theorem x8_apply (l : Fin 128) : (insAt m c t).x8 (ix2 0 l) = (m ((c : Thread nD τ).loc main_arg8) : FVec Ideal S128 .f32) (ix1 l) := by
  have h : (insAt m c t).x8 (ix2 0 l) = (V m c main_v27 : FVec Ideal S1x128 .f32) (ix2 0 l) := by
    show iblk m c 8 t _ = _
    blk_simp [iblk]
    blk_ext [idx8 t]
  rw [h, V_v27]
  pointwise

/-- Argument 10. -/
theorem x10_apply (l : Fin 128) : (insAt m c t).x10 (ix2 0 l) = (m ((c : Thread nD τ).loc main_arg10) : FVec Ideal S128 .f32) (ix1 l) := by
  have h : (insAt m c t).x10 (ix2 0 l) = (V m c main_v29 : FVec Ideal S1x128 .f32) (ix2 0 l) := by
    show iblk m c 10 t _ = _
    blk_simp [iblk]
    blk_ext [idx10 t]
  rw [h, V_v29]
  pointwise

/-- Argument 11. -/
theorem x11_apply (l : Fin 128) : (insAt m c t).x11 (ix2 0 l) = (m ((c : Thread nD τ).loc main_arg11) : FVec Ideal S128 .f32) (ix1 l) := by
  have h : (insAt m c t).x11 (ix2 0 l) = (V m c main_v30 : FVec Ideal S1x128 .f32) (ix2 0 l) := by
    show iblk m c 11 t _ = _
    blk_simp [iblk]
    blk_ext [idx11 t]
  rw [h, V_v30]
  pointwise

/-- Argument 13. -/
theorem x13_apply (l : Fin 128) : (insAt m c t).x13 (ix2 0 l) = (m ((c : Thread nD τ).loc main_arg13) : FVec Ideal S128 .f32) (ix1 l) := by
  have h : (insAt m c t).x13 (ix2 0 l) = (V m c main_v32 : FVec Ideal S1x128 .f32) (ix2 0 l) := by
    show iblk m c 13 t _ = _
    blk_simp [iblk]
    blk_ext [idx13 t]
  rw [h, V_v32]
  pointwise

/-- Argument 14. -/
theorem x14_apply (l : Fin 128) : (insAt m c t).x14 (ix2 0 l) = (m ((c : Thread nD τ).loc main_arg14) : FVec Ideal S128 .f32) (ix1 l) := by
  have h : (insAt m c t).x14 (ix2 0 l) = (V m c main_v33 : FVec Ideal S1x128 .f32) (ix2 0 l) := by
    show iblk m c 14 t _ = _
    blk_simp [iblk]
    blk_ext [idx14 t]
  rw [h, V_v33]
  pointwise

/-- Argument 15. -/
theorem x15_apply (l : Fin 128) : (insAt m c t).x15 (ix2 0 l) = (m ((c : Thread nD τ).loc main_arg15) : FVec Ideal S128 .f32) (ix1 l) := by
  have h : (insAt m c t).x15 (ix2 0 l) = (V m c main_v34 : FVec Ideal S1x128 .f32) (ix2 0 l) := by
    show iblk m c 15 t _ = _
    blk_simp [iblk]
    blk_ext [idx15 t]
  rw [h, V_v34]
  pointwise

/-- Argument 17. -/
theorem x17_apply (l : Fin 128) : (insAt m c t).x17 (ix2 0 l) = (m ((c : Thread nD τ).loc main_arg17) : FVec Ideal S128 .f32) (ix1 l) := by
  have h : (insAt m c t).x17 (ix2 0 l) = (V m c main_v36 : FVec Ideal S1x128 .f32) (ix2 0 l) := by
    show iblk m c 17 t _ = _
    blk_simp [iblk]
    blk_ext [idx17 t]
  rw [h, V_v36]
  pointwise

/-- Argument 18. -/
theorem x18_apply (l : Fin 128) : (insAt m c t).x18 (ix2 0 l) = (m ((c : Thread nD τ).loc main_arg18) : FVec Ideal S128 .f32) (ix1 l) := by
  have h : (insAt m c t).x18 (ix2 0 l) = (V m c main_v37 : FVec Ideal S1x128 .f32) (ix2 0 l) := by
    show iblk m c 18 t _ = _
    blk_simp [iblk]
    blk_ext [idx18 t]
  rw [h, V_v37]
  pointwise

/-- Argument 19. -/
theorem x19_apply (l : Fin 128) : (insAt m c t).x19 (ix2 0 l) = (m ((c : Thread nD τ).loc main_arg19) : FVec Ideal S128 .f32) (ix1 l) := by
  have h : (insAt m c t).x19 (ix2 0 l) = (V m c main_v38 : FVec Ideal S1x128 .f32) (ix2 0 l) := by
    show iblk m c 19 t _ = _
    blk_simp [iblk]
    blk_ext [idx19 t]
  rw [h, V_v38]
  pointwise

/-- Argument 6, transposed. -/
theorem x6_apply (x l : Fin 128) : (insAt m c t).x6 (ix2 x l) = (m ((c : Thread nD τ).loc main_arg6) : FVec Ideal S128x128 .f32) (ix2 l x) := by
  have h : (insAt m c t).x6 (ix2 x l) = (V m c main_v25 : FVec Ideal S128x128 .f32) (ix2 x l) := by
    show iblk m c 6 t _ = _
    blk_simp [iblk]
    blk_ext [idx6 t]
  rw [h, V_v25]
  pointwise

/-- Argument 9, transposed. -/
theorem x9_apply (x l : Fin 128) : (insAt m c t).x9 (ix2 x l) = (m ((c : Thread nD τ).loc main_arg9) : FVec Ideal S128x128 .f32) (ix2 l x) := by
  have h : (insAt m c t).x9 (ix2 x l) = (V m c main_v28 : FVec Ideal S128x128 .f32) (ix2 x l) := by
    show iblk m c 9 t _ = _
    blk_simp [iblk]
    blk_ext [idx9 t]
  rw [h, V_v28]
  pointwise

/-- Argument 12, transposed. -/
theorem x12_apply (x l : Fin 128) : (insAt m c t).x12 (ix2 x l) = (m ((c : Thread nD τ).loc main_arg12) : FVec Ideal S128x128 .f32) (ix2 l x) := by
  have h : (insAt m c t).x12 (ix2 x l) = (V m c main_v31 : FVec Ideal S128x128 .f32) (ix2 x l) := by
    show iblk m c 12 t _ = _
    blk_simp [iblk]
    blk_ext [idx12 t]
  rw [h, V_v31]
  pointwise

/-- Argument 16, transposed. -/
theorem x16_apply (x l : Fin 128) : (insAt m c t).x16 (ix2 x l) = (m ((c : Thread nD τ).loc main_arg16) : FVec Ideal S128x128 .f32) (ix2 l x) := by
  have h : (insAt m c t).x16 (ix2 x l) = (V m c main_v35 : FVec Ideal S128x128 .f32) (ix2 x l) := by
    show iblk m c 16 t _ = _
    blk_simp [iblk]
    blk_ext [idx16 t]
  rw [h, V_v35]
  pointwise

/-- Argument 23. -/
theorem x23_apply (x : Fin 256) : (insAt m c t).x23 (ix2 0 x) = (m ((c : Thread nD τ).loc main_arg23) : FVec Ideal S256 .f32) (ix1 x) := by
  have h : (insAt m c t).x23 (ix2 0 x) = (V m c main_v39 : FVec Ideal S1x256 .f32) (ix2 0 x) := by
    show iblk m c 23 t _ = _
    blk_simp [iblk]
    blk_ext [idx23 t]
  rw [h, V_v39]
  pointwise

/-- The first 119 columns are argument 24, transposed. -/
theorem x24_apply (x : Fin 128) (l : Fin 119) : (insAt m c t).x24 (ix2 x ⟨l.val, by omega⟩) = (m ((c : Thread nD τ).loc main_arg24) : FVec Ideal S119x128 .f32) (ix2 l x) := by
  have h : (insAt m c t).x24 (ix2 x ⟨l.val, by omega⟩) = (V m c main_v2 : FVec Ideal S128x128 .f32) (ix2 x ⟨l.val, by omega⟩) := by
    show iblk m c 24 t _ = _
    blk_simp [iblk]
    blk_ext [idx24 t]
  rw [h, V_v2]
  pointwise

/-- The first 119 entries are argument 25. -/
theorem x25_apply (l : Fin 119) : (insAt m c t).x25 (ix2 0 ⟨l.val, by omega⟩) = (m ((c : Thread nD τ).loc main_arg25) : FVec Ideal S119 .f32) (ix1 l) := by
  have h : (insAt m c t).x25 (ix2 0 ⟨l.val, by omega⟩) = (V m c main_v5 : FVec Ideal S1x128 .f32) (ix2 0 ⟨l.val, by omega⟩) := by
    show iblk m c 25 t _ = _
    blk_simp [iblk]
    blk_ext [idx25 t]
  rw [h, V_v5]
  pointwise

end Cert.LayersIdeal
-- ==== Proof.LayersMath.lean ====
/-
  The layers as functions of extended reals: what one call of the layers computes for one batch, element by element.

  Nothing here names a program.  The kernel's blocks and the reference's arrays are both read off against these
  definitions, so that the two results agree once their inputs do.
-/
module

public import Idealize.ShloMosaic.Lib.Pointwise

@[expose] public section

noncomputable section

namespace Cert.LayersMath

open Idealize.ShloMosaic

/-! ## The constants -/

/-- The normalisation's factor, one over the square root of the single-precision `1 + 1e-5`. -/
def bn : EReal := (((Real.sqrt (2097173 / 2097152))⁻¹ : ℝ) : EReal)
/-- The least value, where a maximum starts. -/
def low : EReal := Ideal.ofBits .f32 0xFF800000#32
/-- The slope of the leaky rectifier below zero. -/
def slope : EReal := Ideal.ofBits .f32 0x3E4CCCCD#32
/-- The score of a pair that is no edge. -/
def far : EReal := Ideal.ofBits .f32 0xD9FFCB9E#32
/-- The single-precision `-1`. -/
def minusOne : EReal := Ideal.ofBits .f32 0xBF800000#32

/-! ## The pieces -/

variable {n : ℕ}

/-- The first layer: the gathered row less its centre's product, normalised and rectified. -/
def first (pg : Fin 4096 → Fin 128 → EReal) (q : Fin 256 → Fin 128 → EReal) (g b : Fin 128 → EReal)
    (r : Fin 4096) (l : Fin 128) : EReal :=
  max (g l * bn * (pg r l - q ⟨r.val / 16, by omega⟩ l) + b l) 0

/-- A layer without bias before its rectifier: product with the weights, normalised. -/
def plain (w : Fin 128 → Fin 128 → EReal) (g b : Fin 128 → EReal) (h : Fin n → Fin 128 → EReal)
    (r : Fin n) (l : Fin 128) : EReal :=
  g l * bn * (∑ x, h r x * w x l) + b l

/-- The rectifier. -/
def relu (h : Fin n → Fin 128 → EReal) (r : Fin n) (l : Fin 128) : EReal := max (h r l) 0

/-- The maximum over the sixteen neighbours of a centre. -/
def pool (h : Fin 4096 → Fin 128 → EReal) (r : Fin 256) (l : Fin 128) : EReal :=
  Finset.univ.fold max low fun k : Fin 16 => h ⟨r.val * 16 + k.val, by omega⟩ l

/-- A layer with bias before its rectifier. -/
def dense (w : Fin 128 → Fin 128 → EReal) (e g b : Fin 128 → EReal) (h : Fin n → Fin 128 → EReal)
    (r : Fin n) (l : Fin 128) : EReal :=
  g l * (∑ x, h r x * w x l + e l) * bn + b l

/-- Rows times a matrix. -/
def mat {m : ℕ} (h : Fin n → Fin m → EReal) (w : Fin m → Fin 128 → EReal) (r : Fin n) (l : Fin 128) : EReal :=
  ∑ x, h r x * w x l

/-- Rows times a vector. -/
def dot (h : Fin n → Fin 128 → EReal) (a : Fin 128 → EReal) (r : Fin n) : EReal := ∑ x, h r x * a x

/-- The score of a pair: the leaky rectifier on the sum of its halves where there is an edge, `far` elsewhere. -/
def score (adj : Fin 256 → Fin 256 → EReal) (u v : Fin 256 → EReal) (i j : Fin 256) : EReal :=
  if 0 < adj i j then (if 0 < u i + v j then u i + v j else slope * (u i + v j)) else far

/-- A row's exponentials, less its maximum. -/
def expo (e : Fin 256 → Fin 256 → EReal) (i j : Fin 256) : EReal :=
  Ideal.exp (e i j - Finset.univ.fold max low fun k => e i k)

/-- The rows of `h` averaged with weights `p`. -/
def average (p : Fin 256 → Fin 256 → EReal) (h : Fin 256 → Fin 128 → EReal) (i : Fin 256) (l : Fin 128) : EReal :=
  ∑ x, Ideal.div (p i x) (∑ y, p i y) * h x l

/-- Attention: scores, softmax, average. -/
def attend (adj : Fin 256 → Fin 256 → EReal) (u v : Fin 256 → EReal) (h : Fin 256 → Fin 128 → EReal) :
    Fin 256 → Fin 128 → EReal :=
  average (expo (score adj u v)) h

/-- The exponential linear unit. -/
def elu (x : EReal) : EReal := if 0 < x then x else Ideal.exp x + minusOne

/-- Four heads side by side. -/
def beside (a b c d : Fin 256 → Fin 128 → EReal) (r : Fin 256) (x : Fin 512) : EReal :=
  if h : x.val < 128 then a r ⟨x.val, h⟩
  else if h : x.val - 128 < 128 then b r ⟨x.val - 128, h⟩
  else if h : x.val - 128 - 128 < 128 then c r ⟨x.val - 128 - 128, h⟩
  else d r ⟨x.val - 128 - 128 - 128, by omega⟩

/-! ## The whole -/

/-- The inputs of one batch: gathered rows, centres' products, adjacency, and the weights. -/
structure In where
  pg : Fin 4096 → Fin 128 → EReal
  q : Fin 256 → Fin 128 → EReal
  adj : Fin 256 → Fin 256 → EReal
  g1 : Fin 128 → EReal
  b1 : Fin 128 → EReal
  w2 : Fin 128 → Fin 128 → EReal
  g2 : Fin 128 → EReal
  b2 : Fin 128 → EReal
  w3 : Fin 128 → Fin 128 → EReal
  g3 : Fin 128 → EReal
  b3 : Fin 128 → EReal
  c1 : Fin 128 → Fin 128 → EReal
  e1 : Fin 128 → EReal
  n1 : Fin 128 → EReal
  m1 : Fin 128 → EReal
  c2 : Fin 128 → Fin 128 → EReal
  e2 : Fin 128 → EReal
  n2 : Fin 128 → EReal
  m2 : Fin 128 → EReal
  w : Fin 4 → Fin 128 → Fin 128 → EReal
  a : Fin 4 → Fin 256 → EReal
  wo : Fin 512 → Fin 128 → EReal
  ao : Fin 256 → EReal

namespace In
variable (I : In)

/-- The features the heads read. -/
def net : Fin 256 → Fin 128 → EReal :=
  relu (dense I.c2 I.e2 I.n2 I.m2 (relu (dense I.c1 I.e1 I.n1 I.m1
    (pool (relu (plain I.w3 I.g3 I.b3 (relu (plain I.w2 I.g2 I.b2 (first I.pg I.q I.g1 I.b1)))))))))

/-- The first half of an attention vector. -/
def lo (a : Fin 256 → EReal) (x : Fin 128) : EReal := a ⟨x.val, by omega⟩
/-- The second half of an attention vector. -/
def hi (a : Fin 256 → EReal) (x : Fin 128) : EReal := a ⟨128 + x.val, by omega⟩

/-- Attention over features already multiplied by their weights. -/
def over (h : Fin 256 → Fin 128 → EReal) (a : Fin 256 → EReal) (r : Fin 256) (l : Fin 128) : EReal :=
  elu (attend I.adj (dot h (lo a)) (dot h (hi a)) h r l)

/-- One head. -/
def head (k : Fin 4) : Fin 256 → Fin 128 → EReal := I.over (mat I.net (I.w k)) (I.a k)

/-- The four heads through the output attention. -/
def hidden : Fin 256 → Fin 128 → EReal :=
  I.over (mat (beside (I.head 0) (I.head 1) (I.head 2) (I.head 3)) I.wo) I.ao

/-- One column of the output layer: the hidden features times the column `w`, plus its bias. -/
def out (w : Fin 128 → EReal) (e : EReal) (r : Fin 256) : EReal := dot I.hidden w r + e

end In

/-! ## Laws of the constants -/

/-- The single-precision `-1` is minus one. -/
theorem minusOne_eq : minusOne = -1 := by
  simp [minusOne, Ideal.ofBits, Ideal.ieee, -EReal.coe_mul]; norm_num

/-- The square root the reference divides by. -/
theorem root_eq : Ideal.sqrt (Ideal.ofBits .f32 0x3F800054#32) = ((Real.sqrt (2097173 / 2097152) : ℝ) : EReal) := by
  have h : Ideal.ofBits .f32 0x3F800054#32 = (((2097173 / 2097152 : ℝ)) : EReal) := by
    simp [Ideal.ofBits, Ideal.ieee, -EReal.coe_mul]; norm_num
  rw [h, Ideal.sqrt_coe, if_neg (by norm_num)]

/-- Dividing by the square root is multiplying by the factor. -/
theorem div_root (x : EReal) : Ideal.div x (Ideal.sqrt (Ideal.ofBits .f32 0x3F800054#32)) = x * bn := by
  rw [root_eq, Ideal.div_coe (Real.sqrt_ne_zero'.mpr (by norm_num)), bn, one_div]

/-- The same, for a product: the factor may stand beside the scale. -/
theorem div_root_mul (g x : EReal) :
    Ideal.div (g * x) (Ideal.sqrt (Ideal.ofBits .f32 0x3F800054#32)) = g * bn * x := by
  rw [div_root, mul_right_comm]

/-- The maximum started at `low` is not raised by `low`. -/
theorem max_low {m : ℕ} (f : Fin m → EReal) :
    max low (Finset.univ.fold max low f) = Finset.univ.fold max low f :=
  max_eq_right (Finset.le_fold_max _ |>.mpr (.inl le_rfl))

/-- The unit as the reference writes it. -/
theorem elu_eq (x : EReal) : (if 0 < x then x else Ideal.exp (if 0 < x then 0 else x) - 1) = elu x := by
  unfold elu
  split
  · rfl
  · rw [minusOne_eq, sub_eq_add_neg]

end Cert.LayersMath
-- ==== Proof.LayersOut.lean ====
/-
  What the body of the layers computes, read at an index.

  Each printed payload at an index is the function of the same piece in `LayersMath`; `outA_apply` and `outB_apply` put
  them together: the first output block at a centre and a column is that block's `In.out`, and the first three columns
  of the second are the centre's coordinates plus columns two to four of the first.
-/
module

public import proofs.«01_k».proof.Proof.LayersBody
public import proofs.«01_k».proof.Proof.LayersMath
public import Idealize.ShloMosaic.Lib.Pipeline.ValueKit.Tiles

@[expose] public section

set_option maxRecDepth 16384

noncomputable section

namespace Cert.LayersIdeal

open Cert.LayersIdeal.Gen
open Idealize.ShloMosaic
open Cert.LayersMath (In low slope far bn minusOne)

set_option maxHeartbeats 1000000

/-! ## Each payload at an index -/

/-- The named constant is the normalisation's factor. -/
theorem named_bn : Named.named (F := Ideal) (φ := .f32) κ "inv_bn" 0x3F7FFFAC#32 = bn := rfl

/-- The first two layers. -/
theorem pay4_apply (x0 : FVec Ideal S1x4096x128 .f32) (x1 : FVec Ideal S1x256x128 .f32) (g1 b1 : FVec Ideal S1x128 .f32)
    (w2 : FVec Ideal S128x128 .f32) (g2 b2 : FVec Ideal S1x128 .f32) (r : Fin 4096) (l : Fin 128) :
    k0_pay4 (F := Ideal) x0 x1 g1 b1 w2 g2 b2 (ix2 r l)
      = LayersMath.plain (fun x l => w2 (ix2 x l)) (fun l => g2 (ix2 0 l)) (fun l => b2 (ix2 0 l))
          (LayersMath.first (fun r l => x0 (ix3 0 r l)) (fun r l => x1 (ix3 0 r l)) (fun l => g1 (ix2 0 l)) (fun l => b1 (ix2 0 l)))
          r l := by
  pointwise [k0_pay4]
  simp only [named_bn]
  rfl

/-- The third layer, the maximum over the neighbours, and the first dense layer before its rectifier. -/
theorem pay5_apply (v : FVec Ideal S4096x128 .f32) (c : Ideal .f32) (hc : c = (0 : EReal)) (w3 : FVec Ideal S128x128 .f32)
    (g3 b3 : FVec Ideal S1x128 .f32) (c1 : FVec Ideal S128x128 .f32) (e1 n1 m1 : FVec Ideal S1x128 .f32)
    (r : Fin 256) (l : Fin 128) :
    k0_pay5 (F := Ideal) v c w3 g3 b3 c1 e1 n1 m1 (ix2 r l)
      = LayersMath.dense (fun x l => c1 (ix2 x l)) (fun l => e1 (ix2 0 l)) (fun l => n1 (ix2 0 l)) (fun l => m1 (ix2 0 l))
          (LayersMath.pool (LayersMath.relu (LayersMath.plain (fun x l => w3 (ix2 x l)) (fun l => g3 (ix2 0 l))
            (fun l => b3 (ix2 0 l)) (LayersMath.relu fun r l => v (ix2 r l))))) r l := by
  subst hc
  pointwise [k0_pay5]
  simp only [named_bn]
  rfl

/-- The second dense layer. -/
theorem pay7_apply (v : FVec Ideal S256x128 .f32) (c2 : FVec Ideal S128x128 .f32) (e2 n2 m2 : FVec Ideal S1x128 .f32)
    (r : Fin 256) (l : Fin 128) :
    k0_pay7 (F := Ideal) v k0_pay6 c2 e2 n2 m2 (ix2 r l)
      = LayersMath.relu (LayersMath.dense (fun x l => c2 (ix2 x l)) (fun l => e2 (ix2 0 l)) (fun l => n2 (ix2 0 l))
          (fun l => m2 (ix2 0 l)) (LayersMath.relu fun r l => v (ix2 r l))) r l := by
  pointwise [k0_pay7, k0_pay6]
  simp only [named_bn]
  rfl

/-- The adjacency. -/
theorem pay8_apply (x : FVec Ideal S1x256x256 .f32) (r l : Fin 256) : k0_pay8 (F := Ideal) x (ix2 r l) = x (ix3 0 r l) := by
  pointwise [k0_pay8]

/-- Features times the first head's weights. -/
theorem pay9_apply (v : FVec Ideal S256x128 .f32) (z : FVec Ideal S256x128 .f32) (c2 : FVec Ideal S128x128 .f32)
    (e2 n2 m2 : FVec Ideal S1x128 .f32) (w : FVec Ideal S1x128x128 .f32) (r : Fin 256) (l : Fin 128) :
    k0_pay9 (F := Ideal) v z c2 e2 n2 m2 w (ix2 r l)
      = LayersMath.mat (fun r l => k0_pay7 (F := Ideal) v z c2 e2 n2 m2 (ix2 r l)) (fun x l => w (ix3 0 x l)) r l := by
  pointwise [k0_pay9]
  rfl

/-- The first half of the first head's score. -/
theorem pay10_apply (v : FVec Ideal S256x128 .f32) (z : FVec Ideal S256x128 .f32) (c2 : FVec Ideal S128x128 .f32)
    (e2 n2 m2 : FVec Ideal S1x128 .f32) (w : FVec Ideal S1x128x128 .f32) (a : FVec Ideal S1x256 .f32) (r : Fin 256) :
    k0_pay10 (F := Ideal) v z c2 e2 n2 m2 w a (ix2 r 0)
      = LayersMath.dot (fun r l => k0_pay9 (F := Ideal) v z c2 e2 n2 m2 w (ix2 r l)) (In.lo fun x => a (ix2 0 x)) r := by
  pointwise [k0_pay10]
  rfl

/-- The second half of the first head's score. -/
theorem pay11_apply (v : FVec Ideal S256x128 .f32) (z : FVec Ideal S256x128 .f32) (c2 : FVec Ideal S128x128 .f32)
    (e2 n2 m2 : FVec Ideal S1x128 .f32) (w : FVec Ideal S1x128x128 .f32) (a : FVec Ideal S1x256 .f32) (r l : Fin 256) :
    k0_pay11 (F := Ideal) v z c2 e2 n2 m2 w a (ix2 r l)
      = LayersMath.dot (fun r l => k0_pay9 (F := Ideal) v z c2 e2 n2 m2 w (ix2 r l)) (In.hi fun x => a (ix2 0 x)) r := by
  pointwise [k0_pay11]
  rfl

/-- The first head from its halves. -/
theorem pay12_apply (adj : FVec Ideal S256x256 .f32) (h : FVec Ideal S256x128 .f32) (p : FVec Ideal S256x1 .f32)
    (q : FVec Ideal S256x256 .f32) (v : Fin 256 → EReal) (hv : ∀ i j, q (ix2 i j) = v i) (r : Fin 256) (l : Fin 128) :
    k0_pay12 (F := Ideal) adj h p q (ix2 r l)
      = LayersMath.elu (LayersMath.attend (fun i j => adj (ix2 i j)) (fun i => p (ix2 i 0)) v (fun i l => h (ix2 i l)) r l) := by
  pointwise [k0_pay12]
  simp only [hv]
  rfl

/-- Features times the second head's weights. -/
theorem pay13_apply (h : FVec Ideal S256x128 .f32) (w : FVec Ideal S1x128x128 .f32) (r : Fin 256) (l : Fin 128) :
    k0_pay13 (F := Ideal) h w (ix2 r l) = LayersMath.mat (fun r l => h (ix2 r l)) (fun x l => w (ix3 0 x l)) r l := by
  pointwise [k0_pay13]
  rfl

/-- The first half of the second head's score. -/
theorem pay14_apply (h : FVec Ideal S256x128 .f32) (w : FVec Ideal S1x128x128 .f32) (a : FVec Ideal S1x256 .f32) (r : Fin 256) :
    k0_pay14 (F := Ideal) h w a (ix2 r 0)
      = LayersMath.dot (fun r l => k0_pay13 (F := Ideal) h w (ix2 r l)) (In.lo fun x => a (ix2 0 x)) r := by
  pointwise [k0_pay14]
  rfl

/-- The second half of the second head's score. -/
theorem pay15_apply (h : FVec Ideal S256x128 .f32) (w : FVec Ideal S1x128x128 .f32) (a : FVec Ideal S1x256 .f32) (r : Fin 256) :
    k0_pay15 (F := Ideal) h w a (ix1 r)
      = LayersMath.dot (fun r l => k0_pay13 (F := Ideal) h w (ix2 r l)) (In.hi fun x => a (ix2 0 x)) r := by
  pointwise [k0_pay15]
  rfl

/-- The second head from its halves. -/
theorem pay16_apply (adj : FVec Ideal S256x256 .f32) (h : FVec Ideal S256x128 .f32) (p : FVec Ideal S256x1 .f32)
    (q : FVec Ideal S256 .f32) (r : Fin 256) (l : Fin 128) :
    k0_pay16 (F := Ideal) adj h p q (ix2 r l)
      = LayersMath.elu (LayersMath.attend (fun i j => adj (ix2 i j)) (fun i => p (ix2 i 0)) (fun j => q (ix1 j))
          (fun i l => h (ix2 i l)) r l) := by
  pointwise [k0_pay16]
  rfl

/-- Features times the third head's weights. -/
theorem pay17_apply (h : FVec Ideal S256x128 .f32) (w : FVec Ideal S1x128x128 .f32) (r : Fin 256) (l : Fin 128) :
    k0_pay17 (F := Ideal) h w (ix2 r l) = LayersMath.mat (fun r l => h (ix2 r l)) (fun x l => w (ix3 0 x l)) r l := by
  pointwise [k0_pay17]
  rfl

/-- The first half of the third head's score. -/
theorem pay18_apply (h : FVec Ideal S256x128 .f32) (w : FVec Ideal S1x128x128 .f32) (a : FVec Ideal S1x256 .f32) (r : Fin 256) :
    k0_pay18 (F := Ideal) h w a (ix2 r 0)
      = LayersMath.dot (fun r l => k0_pay17 (F := Ideal) h w (ix2 r l)) (In.lo fun x => a (ix2 0 x)) r := by
  pointwise [k0_pay18]
  rfl

/-- The third head's second attention half, spread over the centres. -/
theorem pay19_apply (a : FVec Ideal S1x256 .f32) (r : Fin 256) (l : Fin 128) :
    k0_pay19 (F := Ideal) a (ix2 r l) = In.hi (fun x => a (ix2 0 x)) l := by
  pointwise [k0_pay19]
  rfl

/-- The third head from its halves. -/
theorem pay20_apply (adj : FVec Ideal S256x256 .f32) (h : FVec Ideal S256x128 .f32) (p : FVec Ideal S256x1 .f32)
    (q : FVec Ideal S256x128 .f32) (a : Fin 128 → EReal) (ha : ∀ r l, q (ix2 r l) = a l) (r : Fin 256) (l : Fin 128) :
    k0_pay20 (F := Ideal) adj h p q (ix2 r l)
      = LayersMath.elu (LayersMath.attend (fun i j => adj (ix2 i j)) (fun i => p (ix2 i 0))
          (LayersMath.dot (fun i l => h (ix2 i l)) a) (fun i l => h (ix2 i l)) r l) := by
  pointwise [k0_pay20]
  simp only [ha]
  rfl

/-- Features times the fourth head's weights. -/
theorem pay21_apply (h : FVec Ideal S256x128 .f32) (w : FVec Ideal S1x128x128 .f32) (r : Fin 256) (l : Fin 128) :
    k0_pay21 (F := Ideal) h w (ix2 r l) = LayersMath.mat (fun r l => h (ix2 r l)) (fun x l => w (ix3 0 x l)) r l := by
  pointwise [k0_pay21]
  rfl

/-- The first half of the fourth head's score. -/
theorem pay22_apply (h : FVec Ideal S256x128 .f32) (w : FVec Ideal S1x128x128 .f32) (a : FVec Ideal S1x256 .f32) (r : Fin 256) :
    k0_pay22 (F := Ideal) h w a (ix1 r)
      = LayersMath.dot (fun r l => k0_pay21 (F := Ideal) h w (ix2 r l)) (In.lo fun x => a (ix2 0 x)) r := by
  pointwise [k0_pay22]
  rfl

/-- The output attention's vector. -/
theorem pay23_apply (a : FVec Ideal S1x256 .f32) (x : Fin 256) : k0_pay23 (F := Ideal) a (ix2 0 x) = a (ix2 0 x) := by
  pointwise [k0_pay23]

/-- The fourth head from its first half, then the four heads times the output attention's weights. -/
theorem pay24_apply (adj : FVec Ideal S256x256 .f32) (h0 h1 h2 : FVec Ideal S256x128 .f32) (a : FVec Ideal S1x256 .f32)
    (h : FVec Ideal S256x128 .f32) (p : FVec Ideal S256 .f32) (w : FVec Ideal S512x128 .f32) (r : Fin 256) (l : Fin 128) :
    k0_pay24 (F := Ideal) adj h0 h1 h2 a h p w (ix2 r l)
      = LayersMath.mat (LayersMath.beside (fun i l => h0 (ix2 i l)) (fun i l => h1 (ix2 i l)) (fun i l => h2 (ix2 i l))
          (fun i l => LayersMath.elu (LayersMath.attend (fun i j => adj (ix2 i j)) (fun i => p (ix1 i))
            (LayersMath.dot (fun i l => h (ix2 i l)) (In.hi fun x => a (ix2 0 x))) (fun i l => h (ix2 i l)) i l)))
          (fun x l => w (ix2 x l)) r l := by
  pointwise [k0_pay24]
  rfl

/-- The output attention's first half, spread over the centres. -/
theorem pay25_apply (a : FVec Ideal S1x256 .f32) (r : Fin 256) (l : Fin 128) :
    k0_pay25 (F := Ideal) a (ix2 r l) = In.lo (fun x => a (ix2 0 x)) l := by
  pointwise [k0_pay25, k0_pay23]
  rfl

/-- The output attention, then the output layer's product. -/
theorem pay26_apply (adj : FVec Ideal S256x256 .f32) (a : FVec Ideal S1x256 .f32) (h : FVec Ideal S256x128 .f32)
    (q : FVec Ideal S256x128 .f32) (u : Fin 128 → EReal) (hu : ∀ r l, q (ix2 r l) = u l) (w : FVec Ideal S128x128 .f32)
    (r : Fin 256) (l : Fin 128) :
    k0_pay26 (F := Ideal) adj a h q w (ix2 r l)
      = LayersMath.dot (fun i l => LayersMath.elu (LayersMath.attend (fun i j => adj (ix2 i j))
          (LayersMath.dot (fun i l => h (ix2 i l)) u)
          (LayersMath.dot (fun i l => h (ix2 i l)) (In.hi fun x => a (ix2 0 x))) (fun i l => h (ix2 i l)) i l))
          (fun x => w (ix2 x l)) r := by
  pointwise [k0_pay26]
  simp only [hu]
  rfl

/-- The bias, and the block's leading axis. -/
theorem pay2_apply (h : FVec Ideal S256x128 .f32) (b : FVec Ideal S1x128 .f32) (r : Fin 256) (l : Fin 128) :
    k0_pay2 (F := Ideal) h b (ix3 0 r l) = h (ix2 r l) + b (ix2 0 l) := by
  pointwise [k0_pay2, k0_pay1]

/-- The second block: coordinates plus columns two to four. -/
theorem pay3_apply (h : FVec Ideal S256x128 .f32) (b : FVec Ideal S1x128 .f32) (c : FVec Ideal S1x256x16 .f32)
    (r : Fin 256) (l : Fin 3) :
    k0_pay3 (F := Ideal) h b c (ix3 0 r ⟨l.val, by omega⟩)
      = c (ix3 0 r ⟨l.val, by omega⟩) + (h (ix2 r ⟨2 + l.val, by omega⟩) + b (ix2 0 ⟨2 + l.val, by omega⟩)) := by
  pointwise [k0_pay3, k0_pay1]

/-! ## The body -/

namespace Ins
variable (X : Ins Ideal)

/-- The blocks read, as the layers' inputs. -/
def math : In where
  pg := fun r l => X.x0 (ix3 0 r l)
  q := fun r l => X.x1 (ix3 0 r l)
  adj := fun r l => X.x2 (ix3 0 r l)
  g1 := fun l => X.x4 (ix2 0 l)
  b1 := fun l => X.x5 (ix2 0 l)
  w2 := fun x l => X.x6 (ix2 x l)
  g2 := fun l => X.x7 (ix2 0 l)
  b2 := fun l => X.x8 (ix2 0 l)
  w3 := fun x l => X.x9 (ix2 x l)
  g3 := fun l => X.x10 (ix2 0 l)
  b3 := fun l => X.x11 (ix2 0 l)
  c1 := fun x l => X.x12 (ix2 x l)
  e1 := fun l => X.x13 (ix2 0 l)
  n1 := fun l => X.x14 (ix2 0 l)
  m1 := fun l => X.x15 (ix2 0 l)
  c2 := fun x l => X.x16 (ix2 x l)
  e2 := fun l => X.x17 (ix2 0 l)
  n2 := fun l => X.x18 (ix2 0 l)
  m2 := fun l => X.x19 (ix2 0 l)
  w := fun k x l => X.x20 (ix3 k x l)
  a := fun k x => X.x21 (ix2 k x)
  wo := fun x l => X.x22 (ix2 x l)
  ao := fun x => X.x23 (ix2 0 x)

theorem ld0 (x : S1x4096x128.Idx → Elt Ideal .f32) : View.ld x r0_0 = x := View.ld_unit_zero (by decide) _ _
theorem ld1 (x : S1x256x128.Idx → Elt Ideal .f32) : View.ld x r0_1 = x := View.ld_unit_zero (by decide) _ _
theorem ld2 (x : S1x128.Idx → Elt Ideal .f32) : View.ld x r0_2 = x := View.ld_unit_zero (by decide) _ _
theorem ld3 (x : S128x128.Idx → Elt Ideal .f32) : View.ld x r0_3 = x := View.ld_unit_zero (by decide) _ _
theorem ld4 (x : S1x256x256.Idx → Elt Ideal .f32) : View.ld x r0_4 = x := View.ld_unit_zero (by decide) _ _
theorem ld13 (x : S512x128.Idx → Elt Ideal .f32) : View.ld x r0_13 = x := View.ld_unit_zero (by decide) _ _
theorem ld14 (x : S1x256.Idx → Elt Ideal .f32) : View.ld x r0_14 = x := View.ld_unit_zero (by decide) _ _
theorem ld15 (x : S1x256x16.Idx → Elt Ideal .f32) : View.ld x r0_15 = x := View.ld_unit_zero (by decide) _ _

/-- The heads' weights, a head at a time. -/
theorem ldW0 (x : S4x128x128.Idx → Elt Ideal .f32) (i l : Fin 128) : View.ld x r0_5 (ix3 0 i l) = x (ix3 0 i l) :=
  View.ld_unit_apply_of _ _ _ _ _ _ fun a => by fin_cases a <;> simp [ix3]
theorem ldW1 (x : S4x128x128.Idx → Elt Ideal .f32) (i l : Fin 128) : View.ld x r0_7 (ix3 0 i l) = x (ix3 1 i l) :=
  View.ld_unit_apply_of _ _ _ _ _ _ fun a => by fin_cases a <;> simp [ix3]
theorem ldW2 (x : S4x128x128.Idx → Elt Ideal .f32) (i l : Fin 128) : View.ld x r0_9 (ix3 0 i l) = x (ix3 2 i l) :=
  View.ld_unit_apply_of _ _ _ _ _ _ fun a => by fin_cases a <;> simp [ix3]
theorem ldW3 (x : S4x128x128.Idx → Elt Ideal .f32) (i l : Fin 128) : View.ld x r0_11 (ix3 0 i l) = x (ix3 3 i l) :=
  View.ld_unit_apply_of _ _ _ _ _ _ fun a => by fin_cases a <;> simp [ix3]
/-- The heads' attention vectors, a head at a time. -/
theorem ldA0 (x : S4x256.Idx → Elt Ideal .f32) (l : Fin 256) : View.ld x r0_6 (ix2 0 l) = x (ix2 0 l) :=
  View.ld_unit_apply_of _ _ _ _ _ _ fun a => by fin_cases a <;> simp [ix2]
theorem ldA1 (x : S4x256.Idx → Elt Ideal .f32) (l : Fin 256) : View.ld x r0_8 (ix2 0 l) = x (ix2 1 l) :=
  View.ld_unit_apply_of _ _ _ _ _ _ fun a => by fin_cases a <;> simp [ix2]
theorem ldA2 (x : S4x256.Idx → Elt Ideal .f32) (l : Fin 256) : View.ld x r0_10 (ix2 0 l) = x (ix2 2 l) :=
  View.ld_unit_apply_of _ _ _ _ _ _ fun a => by fin_cases a <;> simp [ix2]
theorem ldA3 (x : S4x256.Idx → Elt Ideal .f32) (l : Fin 256) : View.ld x r0_12 (ix2 0 l) = x (ix2 3 l) :=
  View.ld_unit_apply_of _ _ _ _ _ _ fun a => by fin_cases a <;> simp [ix2]

/-- The adjacency block at an index. -/
theorem adj_apply (r l : Fin 256) : X.adj (ix2 r l) = X.math.adj r l := by
  unfold adj
  rw [ld4]
  exact pay8_apply _ r l

/-- The first dense layer, before its rectifier. -/
theorem feat1_apply (r : Fin 256) (l : Fin 128) :
    X.feat1 (ix2 r l) = LayersMath.dense X.math.c1 X.math.e1 X.math.n1 X.math.m1 (LayersMath.pool (LayersMath.relu
      (LayersMath.plain X.math.w3 X.math.g3 X.math.b3 (LayersMath.relu (LayersMath.plain X.math.w2 X.math.g2 X.math.b2
        (LayersMath.first X.math.pg X.math.q X.math.g1 X.math.b1)))))) r l := by
  unfold feat1
  simp only [ld0, ld1, ld2, ld3]
  rw [pay5_apply _ (FloatOps.ofBits .f32 0#32) Ideal.ofBits_zero_f32]
  simp only [pay4_apply]
  rfl

/-- The features the heads read, as the first head computes them. -/
theorem feat2_apply (r : Fin 256) (l : Fin 128) : X.feat2 (ix2 r l) = X.math.net r l := by
  unfold feat2
  simp only [ld2, ld3]
  rw [pay7_apply]
  simp only [feat1_apply]
  rfl

/-- The same, where the payloads spell the computation out. -/
theorem feat2_spelt (r : Fin 256) (l : Fin 128) :
    k0_pay7 (F := Ideal) X.feat1 k0_pay6 (View.ld X.x16 r0_3) (View.ld X.x17 r0_2) (View.ld X.x18 r0_2)
      (View.ld X.x19 r0_2) (ix2 r l) = X.math.net r l := X.feat2_apply r l

/-- A head over weights that read as the inputs. -/
theorem head_intro (I : In) (k : Fin 4) (w : FVec Ideal S1x128x128 .f32) (a : FVec Ideal S1x256 .f32)
    (hw : ∀ x l, w (ix3 0 x l) = I.w k x l) (ha : ∀ x, a (ix2 0 x) = I.a k x) (r : Fin 256) (l : Fin 128) :
    LayersMath.elu (LayersMath.attend (fun i j => I.adj i j)
      (LayersMath.dot (fun r l => LayersMath.mat (fun r l => I.net r l) (fun x l => w (ix3 0 x l)) r l) (In.lo fun x => a (ix2 0 x)))
      (LayersMath.dot (fun r l => LayersMath.mat (fun r l => I.net r l) (fun x l => w (ix3 0 x l)) r l) (In.hi fun x => a (ix2 0 x)))
      (fun r l => LayersMath.mat (fun r l => I.net r l) (fun x l => w (ix3 0 x l)) r l) r l) = I.head k r l := by
  simp only [hw, ha]
  rfl

/-- The first head. -/
theorem head0_apply (r : Fin 256) (l : Fin 128) :
    k0_pay12 (F := Ideal) X.adj
      (k0_pay9 X.feat1 (k0_pay6 (F := Ideal)) (View.ld X.x16 r0_3) (View.ld X.x17 r0_2) (View.ld X.x18 r0_2) (View.ld X.x19 r0_2) (View.ld X.x20 r0_5))
      (k0_pay10 X.feat1 (k0_pay6 (F := Ideal)) (View.ld X.x16 r0_3) (View.ld X.x17 r0_2) (View.ld X.x18 r0_2) (View.ld X.x19 r0_2) (View.ld X.x20 r0_5) (View.ld X.x21 r0_6))
      (k0_pay11 X.feat1 (k0_pay6 (F := Ideal)) (View.ld X.x16 r0_3) (View.ld X.x17 r0_2) (View.ld X.x18 r0_2) (View.ld X.x19 r0_2) (View.ld X.x20 r0_5) (View.ld X.x21 r0_6)) (ix2 r l)
      = X.math.head 0 r l := by
  rw [pay12_apply _ _ _ _ _ (pay11_apply _ _ _ _ _ _ _ _)]
  simp only [pay10_apply, pay9_apply, feat2_spelt, adj_apply]
  exact head_intro X.math 0 (View.ld X.x20 r0_5) (View.ld X.x21 r0_6) (ldW0 _) (ldA0 _) r l

/-- The second head. -/
theorem head1_apply (r : Fin 256) (l : Fin 128) :
    k0_pay16 (F := Ideal) X.adj (k0_pay13 X.feat2 (View.ld X.x20 r0_7)) (k0_pay14 X.feat2 (View.ld X.x20 r0_7) (View.ld X.x21 r0_8))
      (k0_pay15 X.feat2 (View.ld X.x20 r0_7) (View.ld X.x21 r0_8)) (ix2 r l) = X.math.head 1 r l := by
  rw [pay16_apply]
  simp only [pay15_apply, pay14_apply, pay13_apply, feat2_apply, adj_apply]
  exact head_intro X.math 1 (View.ld X.x20 r0_7) (View.ld X.x21 r0_8) (ldW1 _) (ldA1 _) r l

/-- The third head. -/
theorem head2_apply (r : Fin 256) (l : Fin 128) :
    k0_pay20 (F := Ideal) X.adj (k0_pay17 X.feat2 (View.ld X.x20 r0_9)) (k0_pay18 X.feat2 (View.ld X.x20 r0_9) (View.ld X.x21 r0_10))
      (k0_pay19 (View.ld X.x21 r0_10)) (ix2 r l) = X.math.head 2 r l := by
  rw [pay20_apply _ _ _ _ _ (pay19_apply _)]
  simp only [pay18_apply, pay17_apply, feat2_apply, adj_apply]
  exact head_intro X.math 2 (View.ld X.x20 r0_9) (View.ld X.x21 r0_10) (ldW2 _) (ldA2 _) r l

/-- The fourth head, from the values its payloads leave. -/
theorem head3_apply (r : Fin 256) (l : Fin 128) :
    LayersMath.elu (LayersMath.attend (fun i j => X.math.adj i j)
      (fun i => k0_pay22 (F := Ideal) X.feat2 (View.ld X.x20 r0_11) (View.ld X.x21 r0_12) (ix1 i))
      (LayersMath.dot (fun i l => k0_pay21 (F := Ideal) X.feat2 (View.ld X.x20 r0_11) (ix2 i l))
        (In.hi fun x => View.ld X.x21 r0_12 (ix2 0 x)))
      (fun i l => k0_pay21 (F := Ideal) X.feat2 (View.ld X.x20 r0_11) (ix2 i l)) r l) = X.math.head 3 r l := by
  simp only [pay22_apply, pay21_apply, feat2_apply]
  exact head_intro X.math 3 (View.ld X.x20 r0_11) (View.ld X.x21 r0_12) (ldW3 _) (ldA3 _) r l

/-- The output layer's product at an index. -/
theorem graph_apply (r : Fin 256) (l : Fin 128) :
    X.graph (ix2 r l) = LayersMath.dot X.math.hidden (fun x => X.x24 (ix2 x l)) r := by
  unfold graph
  rw [ld14 X.x23, ld3 X.x24, ld13 X.x22, pay26_apply _ _ _ _ _ (pay25_apply _)]
  simp only [pay24_apply, head0_apply, head1_apply, head2_apply, pay23_apply, adj_apply]
  simp only [head3_apply]
  rfl

/-- The first output block at an index. -/
theorem outA_apply (r : Fin 256) (l : Fin 128) :
    X.outA (ix3 0 r l) = X.math.out (fun x => X.x24 (ix2 x l)) (X.x25 (ix2 0 l)) r := by
  unfold outA
  rw [View.canon_unit_zero (by decide), ld2, pay2_apply, graph_apply]
  rfl

/-- The first three columns of the second output block. -/
theorem outB_apply (r : Fin 256) (l : Fin 3) :
    X.outB (ix3 0 r ⟨l.val, by omega⟩) = X.x3 (ix3 0 r ⟨l.val, by omega⟩)
      + X.math.out (fun x => X.x24 (ix2 x ⟨2 + l.val, by omega⟩)) (X.x25 (ix2 0 ⟨2 + l.val, by omega⟩)) r := by
  unfold outB
  rw [View.canon_unit_zero (by decide), ld2, ld15, pay3_apply, graph_apply]
  rfl

end Ins
end Cert.LayersIdeal
-- ==== Proof.LayersRef.lean ====
/-
  The reference of the layers, read at an index.

  Its operations are grouped into the layers' pieces (`first`, `plain`, …), each over arrays standing for whatever
  feeds it, and each piece at an index is the function of the same name in `LayersMath`.  `out_eq` puts them together:
  the reference's main result at a batch, a centre and a column is that batch's `In.out`.
-/
module

public import proofs.«01_k».proof.Proof.Gen.LayersReferenceIdeal.Run
public import proofs.«01_k».proof.Proof.LayersMath

@[expose] public section

set_option maxRecDepth 16384

noncomputable section

namespace Cert.LayersReferenceIdeal.Stage

open Idealize.ShloMosaic
open Cert.LayersReferenceIdeal Cert.LayersReferenceIdeal.Gen

/-! ## The pieces -/

/-- The first layer. -/
def first (pg : FVec Ideal S8x4096x128 .f32) (q : FVec Ideal S8x256x128 .f32) (g b : FVec Ideal S128 .f32) : FVec Ideal S8x256x16x128 .f32 :=
  maximumf (addf (Host.divf (mulf (broadcastInDim S8x256x16x128 ![0, 1, 2, 3] bcast_S1x1x1x128_S8x256x16x128_0_1_2_3 (broadcastInDim S1x1x1x128 ![3] bcast_S128_S1x1x1x128_3 g)) (subf (shapeCast _ pg shapeCasts_S8x4096x128_S8x256x16x128) (broadcastInDim S8x256x16x128 ![0, 1, 2, 3] bcast_S8x256x1x128_S8x256x16x128_0_1_2_3 (broadcastInDim S8x256x1x128 ![0, 1, 3] bcast_S8x256x128_S8x256x1x128_0_1_3 q)))) (broadcastInDim S8x256x16x128 ![] bcast_S_S8x256x16x128 (id (Host.sqrt (constant S_ .f32 0x3F800054#32))))) (broadcastInDim S8x256x16x128 ![0, 1, 2, 3] bcast_S1x1x1x128_S8x256x16x128_0_1_2_3 (broadcastInDim S1x1x1x128 ![3] bcast_S128_S1x1x1x128_3 b))) (broadcastInDim S8x256x16x128 ![] bcast_S_S8x256x16x128 (constant S_ .f32 0x00000000#32))

/-- A layer without bias. -/
def plain (h : FVec Ideal S8x256x16x128 .f32) (w : FVec Ideal S128x128 .f32) (g b : FVec Ideal S128 .f32) : FVec Ideal S8x256x16x128 .f32 :=
  maximumf (addf (Host.divf (mulf (broadcastInDim S8x256x16x128 ![0, 1, 2, 3] bcast_S1x1x1x128_S8x256x16x128_0_1_2_3 (broadcastInDim S1x1x1x128 ![3] bcast_S128_S1x1x1x128_3 g)) (Host.dotGeneral dot_S8x256x16x128_S128x128_S8x256x16x128_3_1_012_0_n_n none h w)) (broadcastInDim S8x256x16x128 ![] bcast_S_S8x256x16x128 (id (Host.sqrt (constant S_ .f32 0x3F800054#32))))) (broadcastInDim S8x256x16x128 ![0, 1, 2, 3] bcast_S1x1x1x128_S8x256x16x128_0_1_2_3 (broadcastInDim S1x1x1x128 ![3] bcast_S128_S1x1x1x128_3 b))) (broadcastInDim S8x256x16x128 ![] bcast_S_S8x256x16x128 (constant S_ .f32 0x00000000#32))

/-- The maximum over the neighbours. -/
def pool (h : FVec Ideal S8x256x16x128 .f32) : FVec Ideal S8x256x128 .f32 :=
  Host.reduce FloatOps.maximumf h (constant S_ .f32 0xFF800000#32) reducesTo_S8x256x16x128_S8x256x128_d2 h_S_

/-- A layer with bias. -/
def dense (h : FVec Ideal S8x256x128 .f32) (w : FVec Ideal S128x128 .f32) (e g b : FVec Ideal S128 .f32) : FVec Ideal S8x256x128 .f32 :=
  maximumf (addf (Host.divf (mulf (broadcastInDim S8x256x128 ![0, 1, 2] bcast_S1x1x128_S8x256x128_0_1_2 (broadcastInDim S1x1x128 ![2] bcast_S128_S1x1x128_2 g)) (addf (Host.dotGeneral dot_S8x256x128_S128x128_S8x256x128_2_1_01_0_n_n none h w) (broadcastInDim S8x256x128 ![0, 1, 2] bcast_S1x1x128_S8x256x128_0_1_2 (broadcastInDim S1x1x128 ![2] bcast_S128_S1x1x128_2 e)))) (broadcastInDim S8x256x128 ![] bcast_S_S8x256x128 (id (Host.sqrt (constant S_ .f32 0x3F800054#32))))) (broadcastInDim S8x256x128 ![0, 1, 2] bcast_S1x1x128_S8x256x128_0_1_2 (broadcastInDim S1x1x128 ![2] bcast_S128_S1x1x128_2 b))) (broadcastInDim S8x256x128 ![] bcast_S_S8x256x128 (constant S_ .f32 0x00000000#32))

/-- The exponential linear unit. -/
def elu (x : FVec Ideal S8x256x128 .f32) : FVec Ideal S8x256x128 .f32 :=
  select (cmpf .ogt x (broadcastInDim S8x256x128 ![] bcast_S_S8x256x128 (constant S_ .f32 0x00000000#32))) x (mulf (broadcastInDim S8x256x128 ![] bcast_S_S8x256x128 (constant S_ .f32 0x3F800000#32)) (Host.expm1 (select (cmpf .ogt x (broadcastInDim S8x256x128 ![] bcast_S_S8x256x128 (constant S_ .f32 0x00000000#32))) (broadcastInDim S8x256x128 ![] bcast_S_S8x256x128 (id (constant S_ .f32 0x00000000#32))) x)))

/-- Four heads side by side, times a matrix. -/
def cat (a b c d : FVec Ideal S8x256x128 .f32) (w : FVec Ideal S512x128 .f32) : FVec Ideal S8x256x128 .f32 :=
  Host.dotGeneral dot_S8x256x512_S512x128_S8x256x128_2_0_01_1_n_n none (concatenate S8x256x512 2 [⟨S8x256x128, a⟩, ⟨S8x256x128, b⟩, ⟨S8x256x128, c⟩, ⟨S8x256x128, d⟩] concatenates_S8x256x128_S8x256x128_S8x256x128_S8x256x128_S8x256x512_d2) w

/-- The output layer. -/
def last (x : FVec Ideal S8x256x128 .f32) (w : FVec Ideal S119x128 .f32) (b : FVec Ideal S119 .f32) : FVec Ideal S8x256x119 .f32 :=
  addf (Host.dotGeneral dot_S8x256x128_S119x128_S8x256x119_2_1_01_0_n_n none x w) (broadcastInDim S8x256x119 ![0, 1, 2] bcast_S1x1x119_S8x256x119_0_1_2 (broadcastInDim S1x1x119 ![2] bcast_S119_S1x1x119_2 b))

/-- Features times a head's weights. -/
def wh (net : FVec Ideal S8x256x128 .f32) (w : FVec Ideal S128x128 .f32) : FVec Ideal S8x256x128 .f32 :=
  Host.dotGeneral dot_S8x256x128_S128x128_S8x256x128_2_0_01_1_n_n none net w

/-- The sums of the two halves of a pair. -/
def pair (a : FVec Ideal S256 .f32) (h : FVec Ideal S8x256x128 .f32) : FVec Ideal S8x256x256 .f32 :=
  addf (broadcastInDim S8x256x256 ![0, 1, 2] bcast_S8x256x1_S8x256x256_0_1_2 (broadcastInDim S8x256x1 ![0, 1] bcast_S8x256_S8x256x1_0_1 (Host.dotGeneral dot_S8x256x128_S128_S8x256_2_0_01_n_n_n none h (extractStridedSlice S128 ![0] a slices_S256_S128_0)))) (broadcastInDim S8x256x256 ![0, 1, 2] bcast_S8x1x256_S8x256x256_0_1_2 (broadcastInDim S8x1x256 ![0, 2] bcast_S8x256_S8x1x256_0_2 (Host.dotGeneral dot_S8x256x128_S128_S8x256_2_0_01_n_n_n none h (extractStridedSlice S128 ![128] a slices_S256_S128_128))))

/-- The scores. -/
def score (adj s : FVec Ideal S8x256x256 .f32) : FVec Ideal S8x256x256 .f32 :=
  select (cmpf .ogt adj (broadcastInDim S8x256x256 ![] bcast_S_S8x256x256 (constant S_ .f32 0x00000000#32))) (select (cmpf .ogt s (broadcastInDim S8x256x256 ![] bcast_S_S8x256x256 (constant S_ .f32 0x00000000#32))) s (mulf (broadcastInDim S8x256x256 ![] bcast_S_S8x256x256 (constant S_ .f32 0x3E4CCCCD#32)) s)) (broadcastInDim S8x256x256 ![] bcast_S_S8x256x256 (id (constant S_ .f32 0xD9FFCB9E#32)))

/-- A row's exponentials. -/
def expo (e : FVec Ideal S8x256x256 .f32) : FVec Ideal S8x256x256 .f32 :=
  Host.exp (subf e (broadcastInDim S8x256x256 ![0, 1, 2] bcast_S8x256x1_S8x256x256_0_1_2 (broadcastInDim S8x256x1 ![0, 1] bcast_S8x256_S8x256x1_0_1 (maximumf (broadcastInDim S8x256 ![] bcast_S_S8x256 (constant S_ .f32 0xFF800000#32)) (Host.reduce FloatOps.maximumf e (constant S_ .f32 0xFF800000#32) reducesTo_S8x256x256_S8x256_d2 h_S_)))))

/-- The weighted average of the rows. -/
def average (p : FVec Ideal S8x256x256 .f32) (h : FVec Ideal S8x256x128 .f32) : FVec Ideal S8x256x128 .f32 :=
  Host.dotGeneral dot_S8x256x256_S8x256x128_S8x256x128_2_1_1_2_0_0 none (Host.divf p (broadcastInDim S8x256x256 ![0, 1, 2] bcast_S8x256x1_S8x256x256_0_1_2 (broadcastInDim S8x256x1 ![0, 1] bcast_S8x256_S8x256x1_0_1 (Host.reduceAdd p (constant S_ .f32 0x00000000#32) reducesTo_S8x256x256_S8x256_d2 h_S_)))) h

/-- Attention over features already multiplied by their weights. -/
def over (adj : FVec Ideal S8x256x256 .f32) (a : FVec Ideal S256 .f32) (h : FVec Ideal S8x256x128 .f32) : FVec Ideal S8x256x128 .f32 :=
  elu (average (expo (score adj (pair a h))) h)

/-! ## Each piece at an index -/

open Cert.LayersMath (In low slope far bn)

set_option maxHeartbeats 1000000

/-- The first layer at a batch, a centre, a neighbour and a channel. -/
theorem first_apply (pg : FVec Ideal S8x4096x128 .f32) (q : FVec Ideal S8x256x128 .f32) (g b : FVec Ideal S128 .f32)
    (t : Fin 8) (r : Fin 256) (k : Fin 16) (l : Fin 128) :
    first pg q g b (ix4 t r k l) = LayersMath.first (fun r l => pg (ix3 t r l)) (fun r l => q (ix3 t r l))
      (fun l => g (ix1 l)) (fun l => b (ix1 l)) ⟨r.val * 16 + k.val, by omega⟩ l := by
  have e : (⟨(r.val * 16 + k.val) / 16, by omega⟩ : Fin 256) = r := Fin.ext (by show (r.val * 16 + k.val) / 16 = r.val; omega)
  show _ = max (g (ix1 l) * bn * (pg (ix3 t ⟨r.val * 16 + k.val, _⟩ l) - q (ix3 t ⟨(r.val * 16 + k.val) / 16, _⟩ l)) + b (ix1 l)) 0
  rw [e, ← LayersMath.div_root_mul]
  pointwise [first, id]

/-- A layer without bias at an index. -/
theorem plain_apply (h : FVec Ideal S8x256x16x128 .f32) (w : FVec Ideal S128x128 .f32) (g b : FVec Ideal S128 .f32)
    (H : Fin 8 → Fin 4096 → Fin 128 → EReal)
    (hH : ∀ t (r : Fin 256) (k : Fin 16) l, h (ix4 t r k l) = H t ⟨r.val * 16 + k.val, by omega⟩ l)
    (t : Fin 8) (r : Fin 256) (k : Fin 16) (l : Fin 128) :
    plain h w g b (ix4 t r k l) = LayersMath.relu (LayersMath.plain (fun x l => w (ix2 l x)) (fun l => g (ix1 l))
      (fun l => b (ix1 l)) (H t)) ⟨r.val * 16 + k.val, by omega⟩ l := by
  show _ = max (g (ix1 l) * bn * (∑ x, H t ⟨r.val * 16 + k.val, _⟩ x * w (ix2 l x)) + b (ix1 l)) 0
  rw [← LayersMath.div_root_mul]
  simp only [← hH]
  pointwise [plain, id]

/-- The maximum over the neighbours at an index. -/
theorem pool_apply (h : FVec Ideal S8x256x16x128 .f32) (H : Fin 8 → Fin 4096 → Fin 128 → EReal)
    (hH : ∀ t (r : Fin 256) (k : Fin 16) l, h (ix4 t r k l) = H t ⟨r.val * 16 + k.val, by omega⟩ l)
    (t : Fin 8) (r : Fin 256) (l : Fin 128) :
    pool h (ix3 t r l) = LayersMath.pool (H t) r l := by
  show _ = Finset.univ.fold max low fun k : Fin 16 => H t ⟨r.val * 16 + k.val, _⟩ l
  simp only [← hH]
  pointwise [pool]
  rfl

/-- A layer with bias at an index. -/
theorem dense_apply (h : FVec Ideal S8x256x128 .f32) (w : FVec Ideal S128x128 .f32) (e g b : FVec Ideal S128 .f32)
    (t : Fin 8) (r : Fin 256) (l : Fin 128) :
    dense h w e g b (ix3 t r l) = LayersMath.relu (LayersMath.dense (fun x l => w (ix2 l x)) (fun l => e (ix1 l))
      (fun l => g (ix1 l)) (fun l => b (ix1 l)) (fun r l => h (ix3 t r l))) r l := by
  show _ = max (g (ix1 l) * (∑ x, h (ix3 t r x) * w (ix2 l x) + e (ix1 l)) * bn + b (ix1 l)) 0
  rw [← LayersMath.div_root]
  pointwise [dense, id]

/-- The exponential linear unit at an index. -/
theorem elu_apply (h : FVec Ideal S8x256x128 .f32) (t : Fin 8) (r : Fin 256) (l : Fin 128) :
    elu h (ix3 t r l) = LayersMath.elu (h (ix3 t r l)) := by
  rw [← LayersMath.elu_eq]
  pointwise [elu, id]

/-- Four heads times a matrix, at an index. -/
theorem cat_apply (a b c d : FVec Ideal S8x256x128 .f32) (w : FVec Ideal S512x128 .f32)
    (t : Fin 8) (r : Fin 256) (l : Fin 128) :
    cat a b c d w (ix3 t r l) = LayersMath.mat (LayersMath.beside (fun r l => a (ix3 t r l)) (fun r l => b (ix3 t r l))
      (fun r l => c (ix3 t r l)) (fun r l => d (ix3 t r l))) (fun x l => w (ix2 x l)) r l := by
  pointwise [cat]
  rfl

/-- The output layer at an index. -/
theorem last_apply (x : FVec Ideal S8x256x128 .f32) (w : FVec Ideal S119x128 .f32) (b : FVec Ideal S119 .f32)
    (t : Fin 8) (r : Fin 256) (l : Fin 119) :
    last x w b (ix3 t r l) = LayersMath.dot (fun r l => x (ix3 t r l)) (fun x => w (ix2 l x)) r + b (ix1 l) := by
  pointwise [last]
  rfl

/-- Features times weights, at an index. -/
theorem wh_apply (net : FVec Ideal S8x256x128 .f32) (w : FVec Ideal S128x128 .f32)
    (t : Fin 8) (r : Fin 256) (l : Fin 128) :
    wh net w (ix3 t r l) = LayersMath.mat (fun r l => net (ix3 t r l)) (fun x l => w (ix2 x l)) r l := by
  pointwise [wh]
  rfl

/-- The sums of the halves, at an index. -/
theorem pair_apply (a : FVec Ideal S256 .f32) (h : FVec Ideal S8x256x128 .f32) (t : Fin 8) (r l : Fin 256) :
    pair a h (ix3 t r l) = LayersMath.dot (fun r l => h (ix3 t r l)) (In.lo fun x => a (ix1 x)) r
      + LayersMath.dot (fun r l => h (ix3 t r l)) (In.hi fun x => a (ix1 x)) l := by
  pointwise [pair]
  rfl

/-- The scores at an index. -/
theorem score_apply (adj s : FVec Ideal S8x256x256 .f32) (t : Fin 8) (u v : Fin 256 → EReal)
    (hs : ∀ r l, s (ix3 t r l) = u r + v l) (r l : Fin 256) :
    score adj s (ix3 t r l) = LayersMath.score (fun r l => adj (ix3 t r l)) u v r l := by
  unfold LayersMath.score
  rw [← hs]
  pointwise [score, id]
  rfl

/-- A row's exponentials, at an index. -/
theorem expo_apply (e : FVec Ideal S8x256x256 .f32) (t : Fin 8) (r l : Fin 256) :
    expo e (ix3 t r l) = LayersMath.expo (fun r l => e (ix3 t r l)) r l := by
  unfold LayersMath.expo
  rw [← LayersMath.max_low]
  pointwise [expo]
  rfl

/-- The weighted average at an index. -/
theorem average_apply (p : FVec Ideal S8x256x256 .f32) (h : FVec Ideal S8x256x128 .f32)
    (t : Fin 8) (r : Fin 256) (l : Fin 128) :
    average p h (ix3 t r l) = LayersMath.average (fun r l => p (ix3 t r l)) (fun r l => h (ix3 t r l)) r l := by
  pointwise [average]
  rfl

/-- Attention at an index. -/
theorem over_apply (adj : FVec Ideal S8x256x256 .f32) (a : FVec Ideal S256 .f32) (h : FVec Ideal S8x256x128 .f32)
    (t : Fin 8) (r : Fin 256) (l : Fin 128) :
    over adj a h (ix3 t r l) = LayersMath.elu (LayersMath.attend (fun r l => adj (ix3 t r l))
      (LayersMath.dot (fun r l => h (ix3 t r l)) (In.lo fun x => a (ix1 x)))
      (LayersMath.dot (fun r l => h (ix3 t r l)) (In.hi fun x => a (ix1 x))) (fun r l => h (ix3 t r l)) r l) := by
  unfold over LayersMath.attend
  rw [elu_apply, average_apply]
  simp only [expo_apply, score_apply adj (pair a h) t _ _ (pair_apply a h t)]

/-! ## The whole -/

open Cert.LayersReferenceIdeal.Value

/-- The inputs of batch `t`, read off the reference's arguments. -/
def inAt (V0 : Valuation τ sig (Elt Ideal)) (t : Fin 8) : In where
  pg := fun r l => (V0 (Proc.devRef .tc main_arg0) : FVec Ideal S8x4096x128 .f32) (ix3 t r l)
  q := fun r l => (V0 (Proc.devRef .tc main_arg1) : FVec Ideal S8x256x128 .f32) (ix3 t r l)
  adj := fun r l => (V0 (Proc.devRef .tc main_arg2) : FVec Ideal S8x256x256 .f32) (ix3 t r l)
  g1 := fun l => (V0 (Proc.devRef .tc main_arg4) : FVec Ideal S128 .f32) (ix1 l)
  b1 := fun l => (V0 (Proc.devRef .tc main_arg5) : FVec Ideal S128 .f32) (ix1 l)
  w2 := fun x l => (V0 (Proc.devRef .tc main_arg6) : FVec Ideal S128x128 .f32) (ix2 l x)
  g2 := fun l => (V0 (Proc.devRef .tc main_arg7) : FVec Ideal S128 .f32) (ix1 l)
  b2 := fun l => (V0 (Proc.devRef .tc main_arg8) : FVec Ideal S128 .f32) (ix1 l)
  w3 := fun x l => (V0 (Proc.devRef .tc main_arg9) : FVec Ideal S128x128 .f32) (ix2 l x)
  g3 := fun l => (V0 (Proc.devRef .tc main_arg10) : FVec Ideal S128 .f32) (ix1 l)
  b3 := fun l => (V0 (Proc.devRef .tc main_arg11) : FVec Ideal S128 .f32) (ix1 l)
  c1 := fun x l => (V0 (Proc.devRef .tc main_arg12) : FVec Ideal S128x128 .f32) (ix2 l x)
  e1 := fun l => (V0 (Proc.devRef .tc main_arg13) : FVec Ideal S128 .f32) (ix1 l)
  n1 := fun l => (V0 (Proc.devRef .tc main_arg14) : FVec Ideal S128 .f32) (ix1 l)
  m1 := fun l => (V0 (Proc.devRef .tc main_arg15) : FVec Ideal S128 .f32) (ix1 l)
  c2 := fun x l => (V0 (Proc.devRef .tc main_arg16) : FVec Ideal S128x128 .f32) (ix2 l x)
  e2 := fun l => (V0 (Proc.devRef .tc main_arg17) : FVec Ideal S128 .f32) (ix1 l)
  n2 := fun l => (V0 (Proc.devRef .tc main_arg18) : FVec Ideal S128 .f32) (ix1 l)
  m2 := fun l => (V0 (Proc.devRef .tc main_arg19) : FVec Ideal S128 .f32) (ix1 l)
  w := fun k x l => (V0 (Proc.devRef .tc main_arg20) : FVec Ideal S4x128x128 .f32) (ix3 k x l)
  a := fun k x => (V0 (Proc.devRef .tc main_arg21) : FVec Ideal S4x256 .f32) (ix2 k x)
  wo := fun x l => (V0 (Proc.devRef .tc main_arg22) : FVec Ideal S512x128 .f32) (ix2 x l)
  ao := fun x => (V0 (Proc.devRef .tc main_arg23) : FVec Ideal S256 .f32) (ix1 x)

/-- The reference's features, at an index. -/
theorem net_eq (V0 : Valuation τ sig (Elt Ideal)) (t : Fin 8) (r : Fin 256) (l : Fin 128) :
    (res_main_v69 V0 : FVec Ideal S8x256x128 .f32) (ix3 t r l) = (inAt V0 t).net r l := by
  have h := pool_apply _ _ (plain_apply _ (V0 (Proc.devRef .tc main_arg9)) (V0 (Proc.devRef .tc main_arg10)) (V0 (Proc.devRef .tc main_arg11)) _ (plain_apply _ (V0 (Proc.devRef .tc main_arg6)) (V0 (Proc.devRef .tc main_arg7)) (V0 (Proc.devRef .tc main_arg8)) _
    (first_apply (V0 (Proc.devRef .tc main_arg0)) (V0 (Proc.devRef .tc main_arg1)) (V0 (Proc.devRef .tc main_arg4)) (V0 (Proc.devRef .tc main_arg5)))))
  show dense (dense (pool (plain (plain (first (V0 (Proc.devRef .tc main_arg0)) (V0 (Proc.devRef .tc main_arg1)) (V0 (Proc.devRef .tc main_arg4)) (V0 (Proc.devRef .tc main_arg5))) (V0 (Proc.devRef .tc main_arg6)) (V0 (Proc.devRef .tc main_arg7)) (V0 (Proc.devRef .tc main_arg8))) (V0 (Proc.devRef .tc main_arg9)) (V0 (Proc.devRef .tc main_arg10)) (V0 (Proc.devRef .tc main_arg11))))
    (V0 (Proc.devRef .tc main_arg12)) (V0 (Proc.devRef .tc main_arg13)) (V0 (Proc.devRef .tc main_arg14)) (V0 (Proc.devRef .tc main_arg15))) (V0 (Proc.devRef .tc main_arg16)) (V0 (Proc.devRef .tc main_arg17)) (V0 (Proc.devRef .tc main_arg18)) (V0 (Proc.devRef .tc main_arg19)) (ix3 t r l) = _
  rw [dense_apply]
  simp only [dense_apply, h]
  rfl

/-- A head over arrays that read as the inputs. -/
theorem head_of (I : In) (adj : FVec Ideal S8x256x256 .f32) (a : FVec Ideal S256 .f32) (net : FVec Ideal S8x256x128 .f32)
    (w : FVec Ideal S128x128 .f32) (t : Fin 8) (hadj : ∀ r l, adj (ix3 t r l) = I.adj r l)
    (hnet : ∀ r l, net (ix3 t r l) = I.net r l) (k : Fin 4) (hw : ∀ x l, w (ix2 x l) = I.w k x l)
    (ha : ∀ x, a (ix1 x) = I.a k x) (r : Fin 256) (l : Fin 128) :
    over adj a (wh net w) (ix3 t r l) = I.head k r l := by
  rw [over_apply]
  simp only [wh_apply, hadj, hnet, hw, ha]
  rfl

/-- Head 0's weights, cut out of the stack. -/
theorem rowW0 (w : FVec Ideal S4x128x128 .f32) (x l : Fin 128) :
    (shapeCast S128x128 (extractStridedSlice S1x128x128 ![0, 0, 0] w slices_S4x128x128_S1x128x128_0_0_0) shapeCasts_S1x128x128_S128x128) (ix2 x l)
      = w (ix3 0 x l) := by
  pointwise

/-- Head 0's attention vector, cut out of the stack. -/
theorem rowA0 (a : FVec Ideal S4x256 .f32) (x : Fin 256) :
    (shapeCast S256 (extractStridedSlice S1x256 ![0, 0] a slices_S4x256_S1x256_0_0) shapeCasts_S1x256_S256) (ix1 x) = a (ix2 0 x) := by
  pointwise

/-- Head 0 of the reference. -/
theorem head0_eq (V0 : Valuation τ sig (Elt Ideal)) (t : Fin 8) (r : Fin 256) (l : Fin 128) :
    elu (res_main_v103 V0) (ix3 t r l) = (inAt V0 t).head 0 r l :=
  head_of (inAt V0 t) (V0 (Proc.devRef .tc main_arg2)) (res_main_v73 V0) (res_main_v69 V0) _ t (fun _ _ => rfl)
    (net_eq V0 t) 0 (rowW0 _) (rowA0 _) r l

/-- Head 1's weights, cut out of the stack. -/
theorem rowW1 (w : FVec Ideal S4x128x128 .f32) (x l : Fin 128) :
    (shapeCast S128x128 (extractStridedSlice S1x128x128 ![1, 0, 0] w slices_S4x128x128_S1x128x128_1_0_0) shapeCasts_S1x128x128_S128x128) (ix2 x l)
      = w (ix3 1 x l) := by
  pointwise

/-- Head 1's attention vector, cut out of the stack. -/
theorem rowA1 (a : FVec Ideal S4x256 .f32) (x : Fin 256) :
    (shapeCast S256 (extractStridedSlice S1x256 ![1, 0] a slices_S4x256_S1x256_1_0) shapeCasts_S1x256_S256) (ix1 x) = a (ix2 1 x) := by
  pointwise

/-- Head 1 of the reference. -/
theorem head1_eq (V0 : Valuation τ sig (Elt Ideal)) (t : Fin 8) (r : Fin 256) (l : Fin 128) :
    elu (res_main_v138 V0) (ix3 t r l) = (inAt V0 t).head 1 r l :=
  head_of (inAt V0 t) (V0 (Proc.devRef .tc main_arg2)) (res_main_v108 V0) (res_main_v69 V0) _ t (fun _ _ => rfl)
    (net_eq V0 t) 1 (rowW1 _) (rowA1 _) r l

/-- Head 2's weights, cut out of the stack. -/
theorem rowW2 (w : FVec Ideal S4x128x128 .f32) (x l : Fin 128) :
    (shapeCast S128x128 (extractStridedSlice S1x128x128 ![2, 0, 0] w slices_S4x128x128_S1x128x128_2_0_0) shapeCasts_S1x128x128_S128x128) (ix2 x l)
      = w (ix3 2 x l) := by
  pointwise

/-- Head 2's attention vector, cut out of the stack. -/
theorem rowA2 (a : FVec Ideal S4x256 .f32) (x : Fin 256) :
    (shapeCast S256 (extractStridedSlice S1x256 ![2, 0] a slices_S4x256_S1x256_2_0) shapeCasts_S1x256_S256) (ix1 x) = a (ix2 2 x) := by
  pointwise

/-- Head 2 of the reference. -/
theorem head2_eq (V0 : Valuation τ sig (Elt Ideal)) (t : Fin 8) (r : Fin 256) (l : Fin 128) :
    elu (res_main_v173 V0) (ix3 t r l) = (inAt V0 t).head 2 r l :=
  head_of (inAt V0 t) (V0 (Proc.devRef .tc main_arg2)) (res_main_v143 V0) (res_main_v69 V0) _ t (fun _ _ => rfl)
    (net_eq V0 t) 2 (rowW2 _) (rowA2 _) r l

/-- Head 3's weights, cut out of the stack. -/
theorem rowW3 (w : FVec Ideal S4x128x128 .f32) (x l : Fin 128) :
    (shapeCast S128x128 (extractStridedSlice S1x128x128 ![3, 0, 0] w slices_S4x128x128_S1x128x128_3_0_0) shapeCasts_S1x128x128_S128x128) (ix2 x l)
      = w (ix3 3 x l) := by
  pointwise

/-- Head 3's attention vector, cut out of the stack. -/
theorem rowA3 (a : FVec Ideal S4x256 .f32) (x : Fin 256) :
    (shapeCast S256 (extractStridedSlice S1x256 ![3, 0] a slices_S4x256_S1x256_3_0) shapeCasts_S1x256_S256) (ix1 x) = a (ix2 3 x) := by
  pointwise

/-- Head 3 of the reference. -/
theorem head3_eq (V0 : Valuation τ sig (Elt Ideal)) (t : Fin 8) (r : Fin 256) (l : Fin 128) :
    elu (res_main_v208 V0) (ix3 t r l) = (inAt V0 t).head 3 r l :=
  head_of (inAt V0 t) (V0 (Proc.devRef .tc main_arg2)) (res_main_v178 V0) (res_main_v69 V0) _ t (fun _ _ => rfl)
    (net_eq V0 t) 3 (rowW3 _) (rowA3 _) r l

/-- The reference's hidden features, at an index. -/
theorem hidden_eq (V0 : Valuation τ sig (Elt Ideal)) (t : Fin 8) (r : Fin 256) (l : Fin 128) :
    elu (res_main_v240 V0) (ix3 t r l) = (inAt V0 t).hidden r l := by
  show over (V0 (Proc.devRef .tc main_arg2)) (V0 (Proc.devRef .tc main_arg23)) (cat (elu (res_main_v103 V0)) (elu (res_main_v138 V0)) (elu (res_main_v173 V0))
    (elu (res_main_v208 V0)) (V0 (Proc.devRef .tc main_arg22))) (ix3 t r l) = _
  rw [over_apply]
  simp only [cat_apply, head0_eq, head1_eq, head2_eq, head3_eq]
  rfl

/-- The reference's output layer, at an index. -/
theorem out_eq (V0 : Valuation τ sig (Elt Ideal)) (t : Fin 8) (r : Fin 256) (l : Fin 119) :
    (res_main_v245 V0 : FVec Ideal S8x256x119 .f32) (ix3 t r l)
      = (inAt V0 t).out (fun x => (V0 (Proc.devRef .tc main_arg24) : FVec Ideal S119x128 .f32) (ix2 l x))
          ((V0 (Proc.devRef .tc main_arg25) : FVec Ideal S119 .f32) (ix1 l)) r := by
  show last (elu (res_main_v240 V0)) (V0 (Proc.devRef .tc main_arg24)) (V0 (Proc.devRef .tc main_arg25)) (ix3 t r l) = _
  rw [last_apply]
  simp only [hidden_eq]
  rfl

end Cert.LayersReferenceIdeal.Stage
-- ==== Proof.LayersValue.lean ====
/-
  The layers' call alone: what it computes.

  The blocks written back tile the two output arrays (`finalA`, `finalB`), and the host operations after the launch put
  the wanted columns side by side (`result`).  The reads of the blocks are the arguments (`math_eq`), so the two arrays
  are the reference's (`columnsA`, `columnsB`).
-/
module

public import proofs.«01_k».proof.Proof.LayersReads
public import proofs.«01_k».proof.Proof.LayersOut
public import proofs.«01_k».proof.Proof.LayersRef
public import Idealize.ShloMosaic.Lib.Pipeline.ValueKit

@[expose] public section

set_option maxRecDepth 16384

noncomputable section

namespace Cert.LayersIdeal

open Cert.LayersIdeal.Gen
open Idealize.ShloMosaic Idealize.ShloMosaic.TcCoe Idealize.SL.Sem

variable (m : (ℓ : Loc nD τ sig) → Buf (Elt Ideal) ℓ) (c : Dev nD)

/-! ## The two output arrays -/

/-- The first output array: every block is written back, at its own batch. -/
theorem finalA : ((dats m 0 c).arrAt 26 cfg0.N : FVec Ideal S8x256x128 .f32)
    = fun y => (insAt m c (y 0)).outA (ix3 0 (y 1) (y 2)) := by
  refine (dats m 0 c).arrAt_eq_of_covers 26 _ (by decide +kernel) fun t hf y => ?_
  have key : ∀ (t' : Fin cfg0.N) (y' : S1x256x128.Idx), t' = t → y' = y →
      (insAt m c t').outA y' = (insAt m c t).outA y := by
    rintro _ _ rfl rfl; rfl
  blk_simp
  rw [after0_26]
  refine (key _ _ (Fin.ext ?_) ?_).symm
  · blk_simp [idx26 t]
  · blk_ext [idx26 t]

/-- The second output array. -/
theorem finalB : ((dats m 0 c).arrAt 27 cfg0.N : FVec Ideal S8x256x8 .f32)
    = fun y => (insAt m c (y 0)).outB (ix3 0 (y 1) (y 2)) := by
  refine (dats m 0 c).arrAt_eq_of_covers 27 _ (by decide +kernel) fun t hf y => ?_
  have key : ∀ (t' : Fin cfg0.N) (y' : S1x256x8.Idx), t' = t → y' = y →
      (insAt m c t').outB y' = (insAt m c t).outB y := by
    rintro _ _ rfl rfl; rfl
  blk_simp
  rw [after0_27]
  refine (key _ _ (Fin.ext ?_) ?_).symm
  · blk_simp [idx27 t]
  · blk_ext [idx27 t]

/-- The result: the first 119 columns of the first array and the first three of the second. -/
theorem result : Pipeline.afterTail₀ cfgs (dats m) 0 (V0 m) [hostOps1] c main_v43
    = concatenate S8x256x122 2 [⟨S8x256x119, extractStridedSlice S8x256x119 ![0, 0, 0]
          ((dats m 0 c).arrAt 26 cfg0.N : FVec Ideal S8x256x128 .f32) slices_S8x256x128_S8x256x119_0_0_0⟩,
        ⟨S8x256x3, extractStridedSlice S8x256x3 ![0, 0, 0]
          ((dats m 0 c).arrAt 27 cfg0.N : FVec Ideal S8x256x8 .f32) slices_S8x256x8_S8x256x3_0_0_0⟩]
        concatenates_S8x256x119_S8x256x3_S8x256x122_d2 := by
  have hA := Pipeline.withArrays_arr (cfgs 0).spec launch0.win.arr_inj c (V0 m c) (fun w => (dats m 0 c).arrAt w (cfgs 0).N) 26
  have hB := Pipeline.withArrays_arr (cfgs 0).spec launch0.win.arr_inj c (V0 m c) (fun w => (dats m 0 c).arrAt w (cfgs 0).N) 27
  unfold Pipeline.afterTail₀
  simp only [hostOps1, List.flatten_cons, List.flatten_nil, List.append_nil, List.cons_append, List.nil_append]
  after_results
  exact congrArg₂ (fun (a : FVec Ideal S8x256x128 .f32) (b : FVec Ideal S8x256x8 .f32) =>
    concatenate S8x256x122 2 [⟨S8x256x119, extractStridedSlice S8x256x119 ![0, 0, 0] a slices_S8x256x128_S8x256x119_0_0_0⟩,
        ⟨S8x256x3, extractStridedSlice S8x256x3 ![0, 0, 0] b slices_S8x256x8_S8x256x3_0_0_0⟩]
        concatenates_S8x256x119_S8x256x3_S8x256x122_d2) hA hB

/-! ## The reads at a point are the reference's arguments -/

open Cert.LayersReferenceIdeal.Stage (inAt out_eq)
open Idealize.ShloMosaic.StableHlo (launchContents)

variable (m' : (ℓ : Loc Cert.LayersReferenceIdeal.nD Cert.LayersReferenceIdeal.τ Cert.LayersReferenceIdeal.sig) → Buf (Elt Ideal) ℓ)

/-- The reference is given the kernel's arguments. -/
def Agree : Prop :=
  m' ((c.tc : Thread Cert.LayersReferenceIdeal.nD Cert.LayersReferenceIdeal.τ).loc Cert.LayersReferenceIdeal.main_arg0) = m ((c.tc : Thread nD τ).loc main_arg0)
  ∧ m' ((c.tc : Thread Cert.LayersReferenceIdeal.nD Cert.LayersReferenceIdeal.τ).loc Cert.LayersReferenceIdeal.main_arg1) = m ((c.tc : Thread nD τ).loc main_arg1)
  ∧ m' ((c.tc : Thread Cert.LayersReferenceIdeal.nD Cert.LayersReferenceIdeal.τ).loc Cert.LayersReferenceIdeal.main_arg2) = m ((c.tc : Thread nD τ).loc main_arg2)
  ∧ m' ((c.tc : Thread Cert.LayersReferenceIdeal.nD Cert.LayersReferenceIdeal.τ).loc Cert.LayersReferenceIdeal.main_arg3) = m ((c.tc : Thread nD τ).loc main_arg3)
  ∧ m' ((c.tc : Thread Cert.LayersReferenceIdeal.nD Cert.LayersReferenceIdeal.τ).loc Cert.LayersReferenceIdeal.main_arg4) = m ((c.tc : Thread nD τ).loc main_arg4)
  ∧ m' ((c.tc : Thread Cert.LayersReferenceIdeal.nD Cert.LayersReferenceIdeal.τ).loc Cert.LayersReferenceIdeal.main_arg5) = m ((c.tc : Thread nD τ).loc main_arg5)
  ∧ m' ((c.tc : Thread Cert.LayersReferenceIdeal.nD Cert.LayersReferenceIdeal.τ).loc Cert.LayersReferenceIdeal.main_arg6) = m ((c.tc : Thread nD τ).loc main_arg6)
  ∧ m' ((c.tc : Thread Cert.LayersReferenceIdeal.nD Cert.LayersReferenceIdeal.τ).loc Cert.LayersReferenceIdeal.main_arg7) = m ((c.tc : Thread nD τ).loc main_arg7)
  ∧ m' ((c.tc : Thread Cert.LayersReferenceIdeal.nD Cert.LayersReferenceIdeal.τ).loc Cert.LayersReferenceIdeal.main_arg8) = m ((c.tc : Thread nD τ).loc main_arg8)
  ∧ m' ((c.tc : Thread Cert.LayersReferenceIdeal.nD Cert.LayersReferenceIdeal.τ).loc Cert.LayersReferenceIdeal.main_arg9) = m ((c.tc : Thread nD τ).loc main_arg9)
  ∧ m' ((c.tc : Thread Cert.LayersReferenceIdeal.nD Cert.LayersReferenceIdeal.τ).loc Cert.LayersReferenceIdeal.main_arg10) = m ((c.tc : Thread nD τ).loc main_arg10)
  ∧ m' ((c.tc : Thread Cert.LayersReferenceIdeal.nD Cert.LayersReferenceIdeal.τ).loc Cert.LayersReferenceIdeal.main_arg11) = m ((c.tc : Thread nD τ).loc main_arg11)
  ∧ m' ((c.tc : Thread Cert.LayersReferenceIdeal.nD Cert.LayersReferenceIdeal.τ).loc Cert.LayersReferenceIdeal.main_arg12) = m ((c.tc : Thread nD τ).loc main_arg12)
  ∧ m' ((c.tc : Thread Cert.LayersReferenceIdeal.nD Cert.LayersReferenceIdeal.τ).loc Cert.LayersReferenceIdeal.main_arg13) = m ((c.tc : Thread nD τ).loc main_arg13)
  ∧ m' ((c.tc : Thread Cert.LayersReferenceIdeal.nD Cert.LayersReferenceIdeal.τ).loc Cert.LayersReferenceIdeal.main_arg14) = m ((c.tc : Thread nD τ).loc main_arg14)
  ∧ m' ((c.tc : Thread Cert.LayersReferenceIdeal.nD Cert.LayersReferenceIdeal.τ).loc Cert.LayersReferenceIdeal.main_arg15) = m ((c.tc : Thread nD τ).loc main_arg15)
  ∧ m' ((c.tc : Thread Cert.LayersReferenceIdeal.nD Cert.LayersReferenceIdeal.τ).loc Cert.LayersReferenceIdeal.main_arg16) = m ((c.tc : Thread nD τ).loc main_arg16)
  ∧ m' ((c.tc : Thread Cert.LayersReferenceIdeal.nD Cert.LayersReferenceIdeal.τ).loc Cert.LayersReferenceIdeal.main_arg17) = m ((c.tc : Thread nD τ).loc main_arg17)
  ∧ m' ((c.tc : Thread Cert.LayersReferenceIdeal.nD Cert.LayersReferenceIdeal.τ).loc Cert.LayersReferenceIdeal.main_arg18) = m ((c.tc : Thread nD τ).loc main_arg18)
  ∧ m' ((c.tc : Thread Cert.LayersReferenceIdeal.nD Cert.LayersReferenceIdeal.τ).loc Cert.LayersReferenceIdeal.main_arg19) = m ((c.tc : Thread nD τ).loc main_arg19)
  ∧ m' ((c.tc : Thread Cert.LayersReferenceIdeal.nD Cert.LayersReferenceIdeal.τ).loc Cert.LayersReferenceIdeal.main_arg20) = m ((c.tc : Thread nD τ).loc main_arg20)
  ∧ m' ((c.tc : Thread Cert.LayersReferenceIdeal.nD Cert.LayersReferenceIdeal.τ).loc Cert.LayersReferenceIdeal.main_arg21) = m ((c.tc : Thread nD τ).loc main_arg21)
  ∧ m' ((c.tc : Thread Cert.LayersReferenceIdeal.nD Cert.LayersReferenceIdeal.τ).loc Cert.LayersReferenceIdeal.main_arg22) = m ((c.tc : Thread nD τ).loc main_arg22)
  ∧ m' ((c.tc : Thread Cert.LayersReferenceIdeal.nD Cert.LayersReferenceIdeal.τ).loc Cert.LayersReferenceIdeal.main_arg23) = m ((c.tc : Thread nD τ).loc main_arg23)
  ∧ m' ((c.tc : Thread Cert.LayersReferenceIdeal.nD Cert.LayersReferenceIdeal.τ).loc Cert.LayersReferenceIdeal.main_arg24) = m ((c.tc : Thread nD τ).loc main_arg24)
  ∧ m' ((c.tc : Thread Cert.LayersReferenceIdeal.nD Cert.LayersReferenceIdeal.τ).loc Cert.LayersReferenceIdeal.main_arg25) = m ((c.tc : Thread nD τ).loc main_arg25)

variable {m c m'}

set_option maxHeartbeats 1000000 in
/-- What the body is given at a point is what the reference is given of that batch. -/
theorem math_eq (h : Agree m c m') (t : Fin cfg0.N) : (insAt m c t).math = inAt (launchContents m' c) t := by
  obtain ⟨h0, h1, h2, h3, h4, h5, h6, h7, h8, h9, h10, h11, h12, h13, h14, h15, h16, h17, h18, h19, h20, h21, h22, h23, h24, h25⟩ := h
  unfold Ins.math inAt
  simp only [x0_apply, x1_apply, x2_apply, x3_apply, x4_apply, x5_apply, x6_apply, x7_apply, x8_apply, x9_apply, x10_apply, x11_apply, x12_apply, x13_apply, x14_apply, x15_apply, x16_apply, x17_apply, x18_apply, x19_apply, x20_apply, x21_apply, x22_apply, x23_apply, StableHlo.launchContents_devRef,
    h0, h1, h2, h4, h5, h6, h7, h8, h9, h10, h11, h12, h13, h14, h15, h16, h17, h18, h19, h20, h21, h22, h23]

/-- A batch's first output block, in the columns kept, is the reference's. -/
theorem outA_eq (h : Agree m c m') (t : Fin cfg0.N) (r : Fin 256) (l : Fin 119) :
    (insAt m c t).outA (ix3 0 r ⟨l.val, by omega⟩)
      = (Cert.LayersReferenceIdeal.Value.res_main_v245 (launchContents m' c) : FVec Ideal S8x256x119 .f32) (ix3 t r l) := by
  obtain ⟨_, _, _, _, _, _, _, _, _, _, _, _, _, _, _, _, _, _, _, _, _, _, _, _, h24, h25⟩ := id h
  rw [out_eq (launchContents m' c) t r l, Ins.outA_apply, math_eq h]
  simp only [x24_apply, x25_apply, StableHlo.launchContents_devRef, h24, h25]

/-- A batch's second output block, in the columns kept: the centre plus the offset the network predicts. -/
theorem outB_eq (h : Agree m c m') (t : Fin cfg0.N) (r : Fin 256) (l : Fin 3) :
    (insAt m c t).outB (ix3 0 r ⟨l.val, by omega⟩)
      = @HAdd.hAdd EReal EReal EReal _
          ((m' ((c.tc : Thread Cert.LayersReferenceIdeal.nD Cert.LayersReferenceIdeal.τ).loc Cert.LayersReferenceIdeal.main_arg3) : FVec Ideal S8x256x16 .f32)
            (ix3 t r ⟨l.val, by omega⟩))
          ((Cert.LayersReferenceIdeal.Value.res_main_v245 (launchContents m' c) : FVec Ideal S8x256x119 .f32)
            (ix3 t r ⟨2 + l.val, by omega⟩)) := by
  obtain ⟨_, _, _, h3, _, _, _, _, _, _, _, _, _, _, _, _, _, _, _, _, _, _, _, _, h24, h25⟩ := id h
  have e24 (x : Fin 128) := x24_apply m c t x ⟨2 + l.val, by omega⟩
  have e25 := x25_apply m c t ⟨2 + l.val, by omega⟩
  rw [out_eq (launchContents m' c) t r ⟨2 + l.val, by omega⟩, Ins.outB_apply, math_eq h]
  simp only [e24, e25, x3_apply, StableHlo.launchContents_devRef, h3, h24, h25]

/-- The first array's columns are the reference's. -/
theorem columnsA (h : Agree m c m') :
    extractStridedSlice S8x256x119 ![0, 0, 0] ((dats m 0 c).arrAt 26 cfg0.N : FVec Ideal S8x256x128 .f32) slices_S8x256x128_S8x256x119_0_0_0
      = Cert.LayersReferenceIdeal.Value.res_main_v245 (launchContents m' c) := by
  have key (t : Fin 8) (r : Fin 256) (l : Fin 119) :
      (extractStridedSlice S8x256x119 ![0, 0, 0] ((dats m 0 c).arrAt 26 cfg0.N : FVec Ideal S8x256x128 .f32)
        slices_S8x256x128_S8x256x119_0_0_0) (ix3 t r l)
        = (Cert.LayersReferenceIdeal.Value.res_main_v245 (launchContents m' c) : FVec Ideal S8x256x119 .f32) (ix3 t r l) := by
    rw [finalA]
    pointwise
    exact outA_eq h t r l
  funext i
  exact (congrArg _ (eq_ix3 i)).trans ((key (i 0) (i 1) (i 2)).trans (congrArg _ (eq_ix3 i).symm))

/-- The reference's centres: each moved by the offset the network predicts. -/
abbrev centres (m' : (ℓ : Loc Cert.LayersReferenceIdeal.nD Cert.LayersReferenceIdeal.τ Cert.LayersReferenceIdeal.sig) → Buf (Elt Ideal) ℓ)
    (c : Dev nD) : FVec Ideal S8x256x3 .f32 :=
  addf (extractStridedSlice S8x256x3 ![0, 0, 0] (launchContents m' c (Proc.devRef .tc Cert.LayersReferenceIdeal.main_arg3) : FVec Ideal S8x256x16 .f32)
      Cert.LayersReferenceIdeal.Gen.slices_S8x256x16_S8x256x3_0_0_0)
    (extractStridedSlice S8x256x3 ![0, 0, 2] (Cert.LayersReferenceIdeal.Value.res_main_v245 (launchContents m' c) : FVec Ideal S8x256x119 .f32)
      Cert.LayersReferenceIdeal.Gen.slices_S8x256x119_S8x256x3_0_0_2)

/-- The second array's first three columns are the reference's centres. -/
theorem columnsB (h : Agree m c m') :
    extractStridedSlice S8x256x3 ![0, 0, 0] ((dats m 0 c).arrAt 27 cfg0.N : FVec Ideal S8x256x8 .f32) slices_S8x256x8_S8x256x3_0_0_0
      = centres m' c := by
  have key (t : Fin 8) (r : Fin 256) (l : Fin 3) :
      (extractStridedSlice S8x256x3 ![0, 0, 0] ((dats m 0 c).arrAt 27 cfg0.N : FVec Ideal S8x256x8 .f32)
        slices_S8x256x8_S8x256x3_0_0_0) (ix3 t r l) = centres m' c (ix3 t r l) := by
    rw [finalB]
    pointwise
    exact outB_eq h t r l
  funext i
  exact (congrArg _ (eq_ix3 i)).trans ((key (i 0) (i 1) (i 2)).trans (congrArg _ (eq_ix3 i).symm))

/-! ## The claims -/

/-- The kernel's result is the reference's. -/
theorem result_eq (h : Agree m c m') :
    concatenate S8x256x122 2 [⟨S8x256x119, Cert.LayersReferenceIdeal.Value.res_main_v245 (launchContents m' c)⟩, ⟨S8x256x3, centres m' c⟩]
        Cert.LayersReferenceIdeal.Gen.concatenates_S8x256x119_S8x256x3_S8x256x122_d2
      = Pipeline.afterTail₀ cfgs (dats m) 0 (V0 m) [hostOps1] c main_v43 := by
  rw [result, columnsA h, columnsB h]

/-- The run with its result: the last buffer is as the host operations after the launch leave it, the arguments are as
    launched. -/
theorem run_value (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_v43) = Pipeline.afterTail₀ cfgs (dats m) 0 (V0 m) [hostOps1] c main_v43)
      ∧ Kept m r) :=
  (θ_run defs _ _).mono (fun _ h => ⟨fun c => (h.1 c).2 main_v43 (Pipeline.mem_restRefs_of _ (by decide) (by decide)),
    fun c b hb => arg_kept m h.1 c b hb⟩) (run_main m ρ)

end Cert.LayersIdeal
-- ==== Proof.LayersWords.lean ====
/-
  The layers' call alone over machine words: the same text as over the extended reals.

  The two printed programs differ in one word, the named constant.  With that constant at its own word (`namedBits`) the
  parts of the body are equal by computation, and so are the programs; the frame over machine words is then the frame of
  `LayersRun`, which holds at any floats.
-/
module

public import proofs.«01_k».proof.Defs
public import proofs.«01_k».proof.Proof.Gen.Layers
public import proofs.«01_k».proof.Proof.LayersRun

@[expose] public section

set_option maxRecDepth 16384

noncomputable section

namespace Cert.LayersWords

open Idealize.ShloMosaic Idealize.SL.Sem

/-- Over machine words a named constant is its own word. -/
local instance namedBits : Named Bits where
  named _ _ {φ} bits := FloatOps.ofBits φ bits

set_option maxHeartbeats 1000000

/-- Part 1 of the body. -/
theorem part1_eq : Cert.Layers.k0_part1 (F := Bits) = Cert.LayersIdeal.k0_part1 (F := Bits) := rfl
/-- Part 2 of the body. -/
theorem part2_eq : Cert.Layers.k0_part2 (F := Bits) = Cert.LayersIdeal.k0_part2 (F := Bits) := rfl
/-- Part 3 of the body. -/
theorem part3_eq : Cert.Layers.k0_part3 (F := Bits) = Cert.LayersIdeal.k0_part3 (F := Bits) := rfl
/-- Part 4 of the body. -/
theorem part4_eq : Cert.Layers.k0_part4 (F := Bits) = Cert.LayersIdeal.k0_part4 (F := Bits) := rfl
/-- Part 5 of the body. -/
theorem part5_eq : Cert.Layers.k0_part5 (F := Bits) = Cert.LayersIdeal.k0_part5 (F := Bits) := rfl
/-- Part 6 of the body. -/
theorem part6_eq : Cert.Layers.k0_part6 (F := Bits) = Cert.LayersIdeal.k0_part6 (F := Bits) := rfl
/-- Part 7 of the body. -/
theorem part7_eq : Cert.Layers.k0_part7 (F := Bits) = Cert.LayersIdeal.k0_part7 (F := Bits) := rfl
/-- Part 8 of the body. -/
theorem part8_eq : Cert.Layers.k0_part8 (F := Bits) = Cert.LayersIdeal.k0_part8 (F := Bits) := rfl

/-- The body. -/
theorem body_eq : Cert.Layers.cc0__kernel_b (F := Bits) = Cert.LayersIdeal.cc0__kernel_b (F := Bits) := by
  unfold Cert.Layers.cc0__kernel_b Cert.LayersIdeal.cc0__kernel_b
  simp only [part1_eq, part2_eq, part3_eq, part4_eq, part5_eq, part6_eq, part7_eq, part8_eq]
  rfl

/-- The body table. -/
theorem defs0_eq : Cert.Layers.defs₀ (F := Bits) = Cert.LayersIdeal.defs₀ (F := Bits) := by
  unfold Cert.Layers.defs₀ Cert.LayersIdeal.defs₀
  rw [body_eq]
  refine congrArg (Defs.onTc (nD := Cert.LayersIdeal.nD) (τ := Cert.LayersIdeal.τ) (sig := Cert.LayersIdeal.sig)
    (Val := Elt Bits) (Λ := Cert.LayersIdeal.Λ₀)) (funext fun (l : Fin 1) => funext fun x => ?_)
  match l, x with
  | ⟨0, _⟩, (t, s) => rfl

/-- The tables the programs run with. -/
theorem defs_eq : Cert.Layers.defs (F := Bits) = Cert.LayersIdeal.defs (F := Bits) := by
  unfold Cert.Layers.defs Cert.LayersIdeal.defs
  rw [defs0_eq]
  rfl

/-- The program. -/
theorem main_eq : Cert.Layers.main (F := Bits) = Cert.LayersIdeal.main (F := Bits) := rfl

/-- The frame over machine words: the run of `LayersRun`, at machine words. -/
theorem frame : Cert.quiescent_Layers := fun m ρ _ => by
  have h := (θ_run (Cert.LayersIdeal.defs (F := Bits)) _ _).mono (fun _ h => And.intro (fun c => Cert.LayersIdeal.Kept.all m h.1 c) h.2)
    (Cert.LayersIdeal.frame (F := Bits) m ρ)
  rw [← main_eq, ← defs_eq] at h
  exact h

end Cert.LayersWords
-- ==== Proof.PointsOut.lean ====
/-
  What the body of the first call computes, read at an index.

  The centres are taken by a product with a matrix of ones and zeros, in three parts: the coordinates, the coordinates
  less themselves, and that less itself.  On finite coordinates the last two are zero (`pay3_apply`).
-/
module

public import proofs.«01_k».proof.Proof.Gen.PointsIdeal.Value
public import Idealize.ShloMosaic.Lib.Pipeline.ValueKit.Tiles
public import Idealize.ShloMosaic.Lib.Pipeline.ValueKit

@[expose] public section

set_option maxRecDepth 16384

noncomputable section

namespace Cert.PointsIdeal

open Cert.PointsIdeal.Gen
open Idealize.ShloMosaic Idealize.ShloMosaic.TcCoe

set_option maxHeartbeats 1000000

/-- The inverse of the radius, exactly. -/
def inv : EReal := (((5033165 / 16777216 : ℝ)⁻¹ : ℝ) : EReal)

/-- The named constant is the inverse of the radius. -/
theorem named_inv : Named.named (F := Ideal) (φ := .f32) κ "inv_r" 0x40555555#32 = inv := rfl

/-- A finite number less itself is zero. -/
theorem sub_self_of_finite {x : EReal} (h : x ≠ ⊤ ∧ x ≠ ⊥) : x - x = 0 := by
  lift x to ℝ using h
  rw [← EReal.coe_sub, sub_self, EReal.coe_zero]

/-- The row number compared with the index, as a float: one on the row the index names and zero elsewhere. -/
theorem hot_eq (v : BitVec 32) (h : v.toNat < 1024) (x : Fin 1024) :
    FloatOps.sitofp (F := Ideal) FTy.f32 (BitVec.setWidth 32 (IntOp.cmpi CmpIPredicate.eq (BitVec.ofNat 32 x.val) v))
      = if x = ⟨v.toNat, h⟩ then (1 : EReal) else 0 := by
  have e : (BitVec.ofNat 32 x.val == v) = decide (x = ⟨v.toNat, h⟩) := by
    rw [Bool.eq_iff_iff, beq_iff_eq, decide_eq_true_eq, BitVec.toNat_eq, Fin.ext_iff, BitVec.toNat_ofNat, Nat.mod_eq_of_lt (by omega)]
  simp only [IntOp.cmpi, e]
  split
  · rename_i hx
    simp only [hx, decide_true]
    show (((1 : Int) : ℝ) : EReal) = 1
    simp
  · rename_i hx
    simp only [hx, decide_false]
    show (((0 : Int) : ℝ) : EReal) = 0
    simp

/-- The product with the one-hot matrix picks a row. -/
theorem sum_hot (i : Fin 1024) (f : Fin 1024 → EReal) : (∑ x, (if x = i then (1 : EReal) else 0) * f x) = f i := by
  simp only [ite_mul, one_mul, zero_mul, Finset.sum_ite_eq', Finset.mem_univ, if_true]

/-- The gathered rows: the first part of the three-way split is the whole of it, the other two are zero. -/
theorem pay3_apply (x0 : FVec Ideal S1x1024x16 .f32) (x3 : IVec S1x256x8 32)
    (hx : ∀ (n : Fin 1024) (k : Fin 16), x0 (ix3 0 n k) ≠ (⊤ : EReal) ∧ x0 (ix3 0 n k) ≠ (⊥ : EReal))
    (r : Fin 256) (h : (x3 (ix3 0 r 0)).toNat < 1024) (k : Fin 16) :
    k0_pay3 (F := Ideal) x0 x3 (ix2 r k) = x0 (ix3 0 ⟨(x3 (ix3 0 r 0)).toNat, h⟩ k) := by
  pointwise [k0_pay3, k0_pay2]
  simp only [hot_eq _ h, sum_hot, sub_self_of_finite (hx _ k), sub_zero, add_zero]

/-- They are stored as they are. -/
theorem pay4_apply (x0 : FVec Ideal S1x1024x16 .f32) (x3 : IVec S1x256x8 32) (r : Fin 256) (k : Fin 16) :
    k0_pay4 (F := Ideal) x0 x3 (ix3 0 r k) = k0_pay3 (F := Ideal) x0 x3 (ix2 r k) := by
  pointwise [k0_pay4]

/-- The coordinates over the radius, times their weights. -/
theorem pay5_apply (x0 : FVec Ideal S1x1024x16 .f32) (w : FVec Ideal S16x128 .f32) (r : Fin 1024) (l : Fin 128) :
    k0_pay5 (F := Ideal) x0 w (ix2 r l) = ∑ x : Fin 16, x0 (ix3 0 r x) * inv * w (ix2 x l) := by
  pointwise [k0_pay5, k0_pay2]
  simp only [named_inv]

/-- A row of the table. -/
theorem pay7_apply (x0 : FVec Ideal S1x1024x16 .f32) (w : FVec Ideal S16x128 .f32) (f : FVec Ideal S1x1024x256 .f32) (u : FVec Ideal S256x128 .f32) (r : Fin 1024) (l : Fin 128) :
    k0_pay7 (F := Ideal) (k0_pay5 x0 w) (k0_pay6 f u) (ix3 0 r l)
      = (∑ x : Fin 16, x0 (ix3 0 r x) * inv * w (ix2 x l)) + ∑ x : Fin 256, f (ix3 0 r x) * u (ix2 x l) := by
  rw [← pay5_apply]
  pointwise [k0_pay7, k0_pay6]

/-- A centre over the radius, times the weights of the coordinates. -/
theorem pay8_apply (v : FVec Ideal S256x16 .f32) (w : FVec Ideal S16x128 .f32) (r : Fin 256) (l : Fin 128) :
    k0_pay8 (F := Ideal) v w (ix3 0 r l) = ∑ x : Fin 16, v (ix2 r x) * inv * w (ix2 x l) := by
  pointwise [k0_pay8]
  simp only [named_inv]

end Cert.PointsIdeal
-- ==== Proof.PointsReads.lean ====
/-
  The first call alone: what the body reads.

  The host operations in front widen the coordinates with zeros, transpose the features and the weights, and repeat the
  indices; the reads of the blocks at a point go back through them to the arguments.
-/
module

public import proofs.«01_k».proof.Proof.PointsOut

@[expose] public section

set_option maxRecDepth 16384

noncomputable section

namespace Cert.PointsIdeal

open Cert.PointsIdeal.Gen
open Idealize.ShloMosaic Idealize.ShloMosaic.TcCoe

variable (m : (ℓ : Loc nD τ sig) → Buf (Elt Ideal) ℓ) (c : Dev nD)

/-! ## The arrays as the launch finds them -/

/-- The points' coordinates, widened to sixteen columns with zeros. -/
theorem V_v1 : V m c main_v1 = concatenate S8x1024x16 2 [⟨S8x1024x3, (m ((c : Thread nD τ).loc main_arg0) : FVec Ideal S8x1024x3 .f32)⟩,
    ⟨S8x1024x13, broadcastInDim S8x1024x13 ![] bcast_S_S8x1024x13 (constant S_ .f32 0x00000000#32 : FVec Ideal S_ .f32)⟩]
    concatenates_S8x1024x3_S8x1024x13_S8x1024x16_d2 := by
  show StableHlo.after hostOps0 (fun b => m (c, b)) (Proc.tc.devRef main_v1) = _
  simp only [hostOps0]
  after_results

/-- The indices, each repeated in eight columns. -/
theorem V_v3 : V m c main_v3 = broadcastInDim S8x256x8 ![0, 1, 2] bcast_S8x256x1_S8x256x8_0_1_2
    (broadcastInDim S8x256x1 ![0, 1] bcast_S8x256_S8x256x1_0_1 (m ((c : Thread nD τ).loc main_arg2) : IVec S8x256 32)) := by
  show StableHlo.after hostOps0 (fun b => m (c, b)) (Proc.tc.devRef main_v3) = _
  simp only [hostOps0]
  after_results

/-- The features, a row to a point. -/
theorem V_v6 : V m c main_v6 = transpose S8x1024x256 [0, 2, 1] (m ((c : Thread nD τ).loc main_arg1) : FVec Ideal S8x256x1024 .f32)
    transposes_S8x256x1024_S8x1024x256_0_2_1 := by
  show StableHlo.after hostOps0 (fun b => m (c, b)) (Proc.tc.devRef main_v6) = _
  simp only [hostOps0]
  after_results

/-- The weights' first three columns, transposed and widened to sixteen rows with zeros. -/
theorem V_v10 : V m c main_v10 = concatenate S16x128 0 [⟨S3x128, transpose S3x128 [1, 0] (extractStridedSlice S128x3 ![0, 0]
      (m ((c : Thread nD τ).loc main_arg3) : FVec Ideal S128x259 .f32) slices_S128x259_S128x3_0_0) transposes_S128x3_S3x128_1_0⟩,
    ⟨S13x128, broadcastInDim S13x128 ![] bcast_S_S13x128 (constant S_ .f32 0x00000000#32 : FVec Ideal S_ .f32)⟩]
    concatenates_S3x128_S13x128_S16x128_d0 := by
  show StableHlo.after hostOps0 (fun b => m (c, b)) (Proc.tc.devRef main_v10) = _
  simp only [hostOps0]
  after_results

/-- The weights' other columns, transposed. -/
theorem V_v12 : V m c main_v12 = transpose S256x128 [1, 0] (extractStridedSlice S128x256 ![0, 3]
      (m ((c : Thread nD τ).loc main_arg3) : FVec Ideal S128x259 .f32) slices_S128x259_S128x256_0_3) transposes_S128x256_S256x128_1_0 := by
  show StableHlo.after hostOps0 (fun b => m (c, b)) (Proc.tc.devRef main_v12) = _
  simp only [hostOps0]
  after_results

/-! ## Where each window's block lies -/

theorem idx0 : ∀ t : Fin grid0.N, win0_0.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![0, 0] := by decide +kernel
theorem idx5 : ∀ t : Fin grid0.N, win0_5.index t = ![0, 0] := by decide +kernel
theorem idx8 : ∀ t : Fin grid0.N, win0_8.index t = ![t.val, 0, 0] := by decide +kernel
theorem idx9 : ∀ t : Fin grid0.N, win0_9.index t = ![t.val, 0, 0] := by decide +kernel
theorem idx10 : ∀ t : Fin grid0.N, win0_10.index t = ![t.val, 0, 0] := by decide +kernel

/-! ## The blocks at a point -/

variable (t : Fin cfg0.N)

/-- The first three columns of the widened coordinates. -/
theorem x0_low (n : Fin 1024) (k : Fin 3) : (iblk m c 0 t : FVec Ideal S1x1024x16 .f32) (ix3 0 n ⟨k.val, by omega⟩)
    = (m ((c : Thread nD τ).loc main_arg0) : FVec Ideal S8x1024x3 .f32) (ix3 t n k) := by
  have h : (iblk m c 0 t : FVec Ideal S1x1024x16 .f32) (ix3 0 n ⟨k.val, by omega⟩)
      = (V m c main_v1 : FVec Ideal S8x1024x16 .f32) (ix3 t n ⟨k.val, by omega⟩) := by
    show iblk m c 0 t _ = _
    blk_simp [iblk]
    blk_ext [idx0 t]
  rw [h, V_v1]
  pointwise

/-- The other columns are zero. -/
theorem x0_high (n : Fin 1024) (k : Fin 13) : (iblk m c 0 t : FVec Ideal S1x1024x16 .f32) (ix3 0 n ⟨3 + k.val, by omega⟩) = (0 : EReal) := by
  have h : (iblk m c 0 t : FVec Ideal S1x1024x16 .f32) (ix3 0 n ⟨3 + k.val, by omega⟩)
      = (V m c main_v1 : FVec Ideal S8x1024x16 .f32) (ix3 t n ⟨3 + k.val, by omega⟩) := by
    show iblk m c 0 t _ = _
    blk_simp [iblk]
    blk_ext [idx0 t]
  rw [h, V_v1]
  pointwise

/-- A point's features. -/
theorem x2_apply (n : Fin 1024) (x : Fin 256) : (iblk m c 2 t : FVec Ideal S1x1024x256 .f32) (ix3 0 n x)
    = (m ((c : Thread nD τ).loc main_arg1) : FVec Ideal S8x256x1024 .f32) (ix3 t x n) := by
  have h : (iblk m c 2 t : FVec Ideal S1x1024x256 .f32) (ix3 0 n x) = (V m c main_v6 : FVec Ideal S8x1024x256 .f32) (ix3 t n x) := by
    show iblk m c 2 t _ = _
    blk_simp [iblk]
    blk_ext [idx2 t]
  rw [h, V_v6]
  pointwise

/-- A centre's index. -/
theorem x3_apply (r : Fin 256) : (iblk m c 3 t : IVec S1x256x8 32) (ix3 0 r 0)
    = (m ((c : Thread nD τ).loc main_arg2) : IVec S8x256 32) (ix2 t r) := by
  have h : (iblk m c 3 t : IVec S1x256x8 32) (ix3 0 r 0) = (V m c main_v3 : IVec S8x256x8 32) (ix3 t r 0) := by
    show iblk m c 3 t _ = _
    blk_simp [iblk]
    blk_ext [idx3 t]
  rw [h, V_v3]
  pointwise

/-- The weights of the coordinates. -/
theorem x4_low (k : Fin 3) (l : Fin 128) : (iblk m c 4 t : FVec Ideal S16x128 .f32) (ix2 ⟨k.val, by omega⟩ l)
    = (m ((c : Thread nD τ).loc main_arg3) : FVec Ideal S128x259 .f32) (ix2 l ⟨k.val, by omega⟩) := by
  have h : (iblk m c 4 t : FVec Ideal S16x128 .f32) (ix2 ⟨k.val, by omega⟩ l) = (V m c main_v10 : FVec Ideal S16x128 .f32) (ix2 ⟨k.val, by omega⟩ l) := by
    show iblk m c 4 t _ = _
    blk_simp [iblk]
    blk_ext [idx4 t]
  rw [h, V_v10]
  pointwise

/-- The weights of the features. -/
theorem x5_apply (x : Fin 256) (l : Fin 128) : (iblk m c 5 t : FVec Ideal S256x128 .f32) (ix2 x l)
    = (m ((c : Thread nD τ).loc main_arg3) : FVec Ideal S128x259 .f32) (ix2 l ⟨3 + x.val, by omega⟩) := by
  have h : (iblk m c 5 t : FVec Ideal S256x128 .f32) (ix2 x l) = (V m c main_v12 : FVec Ideal S256x128 .f32) (ix2 x l) := by
    show iblk m c 5 t _ = _
    blk_simp [iblk]
    blk_ext [idx5 t]
  rw [h, V_v12]
  pointwise

end Cert.PointsIdeal
-- ==== Proof.PointsRef.lean ====
/-
  The reference of the first call, read at an index.

  Its centres are taken by StableHLO's gather, which clamps an index into the table, after a negative index has had the
  table's length added; on indices that name rows neither changes anything (`centres_apply`).  The precondition says that
  the indices are such, and that the coordinates are within a bound (`sampled_of_fn`).
-/
module

public import proofs.«01_k».proof.Defs
public import proofs.«01_k».proof.Proof.Gen.PointsReferenceIdeal.Run
public import proofs.«01_k».proof.Proof.Gen.Pre_sampled
public import proofs.«01_k».proof.Proof.PointsOut
public import Idealize.ShloMosaic.Lib.ReduceAll
public import Idealize.ShloMosaic.Lib.WordArith
public import Idealize.ShloMosaic.Lib.Pipeline.ValueKit.Tiles
public import Idealize.ShloMosaic.Lib.Pipeline.ValueKit

@[expose] public section

set_option maxRecDepth 16384

noncomputable section

namespace Cert.PointsReferenceIdeal

open Cert.PointsReferenceIdeal.Gen
open Idealize.ShloMosaic Idealize.ShloMosaic.TcCoe
open Idealize.ShloMosaic.ValueIdx (select_zero)
open Cert.PointsIdeal (inv)

set_option maxHeartbeats 1000000

/-! ## The gathered centres -/

/-- The index of each centre as the gather takes it: its batch and its row, either moved up by the extent if negative. -/
def places (i : IVec S8x256 32) : IVec S8x256x2 32 :=
  concatenate S8x256x2 2 [⟨S8x256x1, (broadcastInDim S8x256x1 ![0, 1] bcast_S8x256_S8x256x1_0_1 (broadcastInDim S8x256 ![0, 1] bcast_S8x1_S8x256_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩, ⟨S8x256x1, (broadcastInDim S8x256x1 ![0, 1] bcast_S8x256_S8x256x1_0_1 (select (cmpi .slt i (broadcastInDim S8x256 ![] bcast_S_S8x256 (constantI S_ 32 0#32))) (addi i (broadcastInDim S8x256 ![] bcast_S_S8x256 (constantI S_ 32 1024#32))) i))⟩] concatenates_S8x256x1_S8x256x1_S8x256x2_d2

/-- A word below an extent is not negative, so it is not moved. -/
theorem word_sel (v e : BitVec 32) (h : v.toNat < 1024) :
    Scalar.select (IntOp.cmpi .slt v 0#32) (IntOp.addi v e) v = v := by
  have hs : IntOp.cmpi .slt v 0#32 = 0#1 := by
    simp only [IntOp.cmpi]
    rw [show v.slt 0#32 = false from by
      rw [BitVec.slt_eq_decide, BitVec.toInt_eq_toNat_cond, if_pos (by omega)]; simp]
    rfl
  rw [hs, select_zero]

/-- The first coordinate of a place is the batch. -/
theorem places_batch (i : IVec S8x256 32) (t : Fin 8) (r : Fin 256) : places i (ix3 t r 0) = BitVec.ofNat 32 t.val := by
  rw [← word_sel (BitVec.ofNat 32 t.val) 8#32 (by rw [BitVec.toNat_ofNat]; omega)]
  pointwise [places]

/-- The second is the index, if that names a row. -/
theorem places_row (i : IVec S8x256 32) (t : Fin 8) (r : Fin 256) (h : (i (ix2 t r)).toNat < 1024) : places i (ix3 t r 1) = i (ix2 t r) := by
  rw [← word_sel (i (ix2 t r)) 1024#32 h]
  pointwise [places]

/-- The centres. -/
def centres (x : FVec Ideal S8x1024x3 .f32) (i : IVec S8x256 32) : FVec Ideal S8x256x3 .f32 :=
  Host.gather gather_S8x1024x3_S8x256x2_S8x256x3_2_01_n_n_01_2_113 x (places i)

/-- A centre is the row of its batch that its index names. -/
theorem centres_apply (x : FVec Ideal S8x1024x3 .f32) (i : IVec S8x256 32) (t : Fin 8) (r : Fin 256)
    (h : (i (ix2 t r)).toNat < 1024) (k : Fin 3) :
    centres x i (ix3 t r k) = x (ix3 t ⟨(i (ix2 t r)).toNat, h⟩ k) := by
  unfold centres Host.gather
  congr 1
  funext a
  apply Fin.ext
  have e (d : Fin 3) (hd : d = 0 ∨ d = 1) : gather_S8x1024x3_S8x256x2_S8x256x3_2_01_n_n_01_2_113.siIdx (ix3 t r k)
      ⟨List.idxOf d gather_S8x1024x3_S8x256x2_S8x256x3_2_01_n_n_01_2_113.startIndexMap,
        List.idxOf_lt_length_iff.2 (by rcases hd with rfl | rfl <;> decide)⟩ = ix3 t r ⟨d.val, by rcases hd with rfl | rfl <;> decide⟩ := by
    rcases hd with rfl | rfl <;> (funext b; apply Fin.ext; match b with
      | ⟨0, _⟩ => rfl
      | ⟨1, _⟩ => rfl
      | ⟨2, _⟩ => rfl)
  have nb (d : Fin 3) : gather_S8x1024x3_S8x256x2_S8x256x3_2_01_n_n_01_2_113.batchCoord (ix3 t r k) d = 0 :=
    GatherDims.batchCoord_eq_zero _ _ _ List.not_mem_nil
  have no (d : Fin 3) (hd : d = 0 ∨ d = 1) : gather_S8x1024x3_S8x256x2_S8x256x3_2_01_n_n_01_2_113.offCoord (ix3 t r k) d = 0 :=
    GatherDims.offCoord_eq_zero _ _ _ (fun h => ((GatherDims.mem_sKept _ _).mp h).1 (by rcases hd with rfl | rfl <;> decide))
  show gather_S8x1024x3_S8x256x2_S8x256x3_2_01_n_n_01_2_113.start (ix3 t r k) (places i) a
      + gather_S8x1024x3_S8x256x2_S8x256x3_2_01_n_n_01_2_113.batchCoord (ix3 t r k) a
      + gather_S8x1024x3_S8x256x2_S8x256x3_2_01_n_n_01_2_113.offCoord (ix3 t r k) a = _
  rw [nb, Nat.add_zero]
  match a with
  | ⟨0, _⟩ =>
    rw [show gather_S8x1024x3_S8x256x2_S8x256x3_2_01_n_n_01_2_113.offCoord (ix3 t r k) (⟨0, _⟩ : Fin 3) = 0 from no 0 (.inl rfl), Nat.add_zero]
    unfold GatherDims.start
    rw [dif_pos (show (⟨0, _⟩ : Fin 3) ∈ gather_S8x1024x3_S8x256x2_S8x256x3_2_01_n_n_01_2_113.startIndexMap from
      (by decide : (0 : Fin 3) ∈ gather_S8x1024x3_S8x256x2_S8x256x3_2_01_n_n_01_2_113.startIndexMap))]
    refine (congrArg (fun v : BitVec 32 => min v.toInt.toNat 7) ((congrArg (places i) (e 0 (.inl rfl))).trans (places_batch i t r))).trans ?_
    show min (BitVec.ofNat 32 t.val).toInt.toNat 7 = t.val
    rw [BitVec.toInt_eq_toNat_cond, if_pos (by rw [BitVec.toNat_ofNat]; omega), BitVec.toNat_ofNat]
    omega
  | ⟨1, _⟩ =>
    rw [show gather_S8x1024x3_S8x256x2_S8x256x3_2_01_n_n_01_2_113.offCoord (ix3 t r k) (⟨1, _⟩ : Fin 3) = 0 from no 1 (.inr rfl), Nat.add_zero]
    unfold GatherDims.start
    rw [dif_pos (show (⟨1, _⟩ : Fin 3) ∈ gather_S8x1024x3_S8x256x2_S8x256x3_2_01_n_n_01_2_113.startIndexMap from
      (by decide : (1 : Fin 3) ∈ gather_S8x1024x3_S8x256x2_S8x256x3_2_01_n_n_01_2_113.startIndexMap))]
    refine (congrArg (fun v : BitVec 32 => min v.toInt.toNat 1023) ((congrArg (places i) (e 1 (.inr rfl))).trans (places_row i t r h))).trans ?_
    show min (i (ix2 t r)).toInt.toNat 1023 = (i (ix2 t r)).toNat
    rw [BitVec.toInt_eq_toNat_cond, if_pos (by omega)]
    omega
  | ⟨2, _⟩ =>
    unfold GatherDims.start
    rw [dif_neg (show ¬ (⟨2, _⟩ : Fin 3) ∈ gather_S8x1024x3_S8x256x2_S8x256x3_2_01_n_n_01_2_113.startIndexMap from
      (by decide : ¬ (2 : Fin 3) ∈ gather_S8x1024x3_S8x256x2_S8x256x3_2_01_n_n_01_2_113.startIndexMap)), Nat.zero_add]
    rfl

/-- The precondition's two halves: the coordinates are within the bound, and every index names a row. -/
theorem sampled_of_fn (x : FVec Ideal S8x1024x3 .f32) (f : FVec Ideal S8x256x1024 .f32) (i : IVec S8x256 32) (w : FVec Ideal S128x259 .f32)
    (h : Cert.Pre_sampled.fn (F := Ideal) x f i w = fun _ => 1#1) :
    (∀ j, max (x j : EReal) (-(x j : EReal)) < Ideal.ofBits .f32 0x70622EA5#32) ∧ ∀ j, (i j).toNat < 1024 := by
  have e := congrFun h ix0
  have ht : ∀ a b : BitVec 1, IntOp.andi a b = 1#1 → a = 1#1 ∧ b = 1#1 := by decide
  haveI : Subsingleton Cert.Pre_sampled.S_.Idx := ⟨fun a b => funext fun i => i.elim0⟩
  obtain ⟨e1, e3⟩ := ht _ _ e
  obtain ⟨e1, e2⟩ := ht _ _ e1
  refine ⟨fun j => ?_, fun j => ?_⟩
  · have h1 : FloatOps.cmpf (F := Ideal) .olt (FloatOps.hostAbsf (x j)) (FloatOps.ofBits (F := Ideal) .f32 0x70622EA5#32) = 1#1 :=
      Host.reduce_andi_all _ _ _ _ _ e1 j
    have h2 : Ideal.cmp .olt (max (x j : EReal) (-(x j : EReal))) (Ideal.ofBits .f32 0x70622EA5#32) = 1#1 := h1
    generalize Ideal.ofBits .f32 0x70622EA5#32 = b at h2 ⊢
    unfold Ideal.cmp at h2
    by_contra hn
    simp [hn] at h2
  · have h1 : IntOp.cmpi .sge (i j) 0#32 = 1#1 := Host.reduce_andi_all _ _ _ _ _ e2 j
    have h2 : IntOp.cmpi .slt (i j) 1024#32 = 1#1 := Host.reduce_andi_all _ _ _ _ _ e3 j
    simp only [IntOp.cmpi, WordArith.ofBool_eq_one_iff, BitVec.sle_eq_decide, BitVec.slt_eq_decide, decide_eq_true_eq,
      BitVec.toInt_eq_toNat_cond, BitVec.toNat_ofNat, Nat.reducePow, Nat.reduceMod] at h1 h2
    omega

/-! ## The products -/

/-- Dividing by the radius is multiplying by its inverse. -/
theorem div_radius (x : EReal) : Ideal.div x (Ideal.ofBits .f32 0x3E99999A#32) = x * inv := by
  have h : Ideal.ofBits .f32 0x3E99999A#32 = ((5033165 / 16777216 : ℝ) : EReal) := by
    simp [Ideal.ofBits, Ideal.ieee, -EReal.coe_mul]; norm_num
  rw [h, Ideal.div_coe (by norm_num), one_div]
  rfl

/-- The table of products. -/
def table (x : FVec Ideal S8x1024x3 .f32) (f : FVec Ideal S8x256x1024 .f32) (w : FVec Ideal S128x259 .f32) : FVec Ideal S8x1024x128 .f32 :=
  Host.dotGeneral dot_S8x1024x259_S128x259_S8x1024x128_2_1_01_0_n_n none (concatenate S8x1024x259 2
      [⟨S8x1024x3, (Host.divf x (broadcastInDim S8x1024x3 ![] bcast_S_S8x1024x3 (constant S_ .f32 0x3E99999A#32)))⟩,
        ⟨S8x1024x256, (transpose S8x1024x256 [0, 2, 1] f transposes_S8x256x1024_S8x1024x256_0_2_1)⟩]
      concatenates_S8x1024x3_S8x1024x256_S8x1024x259_d2) w

/-- A point's row of the table: its coordinates over the radius and its features, times the weights. -/
theorem table_apply (x : FVec Ideal S8x1024x3 .f32) (f : FVec Ideal S8x256x1024 .f32) (w : FVec Ideal S128x259 .f32)
    (t : Fin 8) (n : Fin 1024) (l : Fin 128) :
    table x f w (ix3 t n l) = (∑ k : Fin 3, x (ix3 t n k) * inv * w (ix2 l ⟨k.val, by omega⟩))
        + ∑ k : Fin 256, f (ix3 t k n) * w (ix2 l ⟨3 + k.val, by omega⟩) := by
  simp only [← div_radius]
  pointwise [table]

/-- The products of the centres. -/
def products (v : FVec Ideal S8x256x3 .f32) (w : FVec Ideal S128x259 .f32) : FVec Ideal S8x256x128 .f32 :=
  Host.dotGeneral dot_S8x256x3_S128x3_S8x256x128_2_1_01_0_n_n none
    (Host.divf v (broadcastInDim S8x256x3 ![] bcast_S_S8x256x3 (constant S_ .f32 0x3E99999A#32)))
    (extractStridedSlice S128x3 ![0, 0] w slices_S128x259_S128x3_0_0)

/-- A centre over the radius, times the weights of the coordinates. -/
theorem products_apply (v : FVec Ideal S8x256x3 .f32) (w : FVec Ideal S128x259 .f32) (t : Fin 8) (r : Fin 256) (l : Fin 128) :
    products v w (ix3 t r l) = ∑ k : Fin 3, v (ix3 t r k) * inv * w (ix2 l ⟨k.val, by omega⟩) := by
  simp only [← div_radius]
  pointwise [products]

/-- The centres, widened to sixteen columns. -/
def widened (v : FVec Ideal S8x256x3 .f32) : FVec Ideal S8x256x16 .f32 :=
  concatenate S8x256x16 2 [⟨S8x256x3, v⟩, ⟨S8x256x13, (broadcastInDim S8x256x13 ![] bcast_S_S8x256x13 (constant S_ .f32 0x00000000#32))⟩]
    concatenates_S8x256x3_S8x256x13_S8x256x16_d2

/-- The first three columns are the centre, the others zero. -/
theorem widened_apply (v : FVec Ideal S8x256x3 .f32) (t : Fin 8) (r : Fin 256) (k : Fin 16) :
    widened v (ix3 t r k) = if h : k.val < 3 then v (ix3 t r ⟨k.val, h⟩) else (0 : EReal) := by
  pointwise [widened]

end Cert.PointsReferenceIdeal
-- ==== Proof.PointsValue.lean ====
/-
  The first call alone: the table of products, the centres' products and the centres.

  The blocks written back tile the three output arrays (`finalP`, `finalQ`, `finalC`), and each is the reference's
  (`table_eq`, `products_eq`, `centres_eq`).
-/
module

public import proofs.«01_k».proof.Proof.PointsReads
public import proofs.«01_k».proof.Proof.PointsRef

@[expose] public section

set_option maxRecDepth 16384

noncomputable section

namespace Cert.PointsIdeal

open Cert.PointsIdeal.Gen
open Idealize.ShloMosaic Idealize.ShloMosaic.TcCoe Idealize.SL.Sem

variable (m : (ℓ : Loc nD τ sig) → Buf (Elt Ideal) ℓ) (c : Dev nD)

/-! ## What a point leaves in each output block -/

/-- The table's block at point `t`. -/
def outP (t : Fin cfg0.N) : FVec Ideal S1x1024x128 .f32 := k0_pay7 (F := Ideal) (k0_pay5 (iblk m c 0 t) (iblk m c 4 t)) (k0_pay6 (iblk m c 2 t) (iblk m c 5 t))
/-- The centres' products at point `t`. -/
def outQ (t : Fin cfg0.N) : FVec Ideal S1x256x128 .f32 := k0_pay8 (F := Ideal) (k0_pay3 (iblk m c 0 t) (iblk m c 3 t)) (iblk m c 4 t)
/-- The centres at point `t`. -/
def outC (t : Fin cfg0.N) : FVec Ideal S1x256x16 .f32 := k0_pay4 (F := Ideal) (iblk m c 0 t) (iblk m c 3 t)

theorem ld0 (x : S1x1024x16.Idx → Elt Ideal .f32) : View.ld x r0_0 = x := View.ld_unit_zero (by decide) _ _
theorem ld1 (x : S1x256x8.Idx → Elt Ideal .i32) : View.ld x r0_1 = x := View.ld_unit_zero (by decide) _ _
theorem ld3 (x : S1x1024x256.Idx → Elt Ideal .f32) : View.ld x r0_3 = x := View.ld_unit_zero (by decide) _ _
theorem ld4 (x : S16x128.Idx → Elt Ideal .f32) : View.ld x r0_4 = x := View.ld_unit_zero (by decide) _ _
theorem ld5 (x : S256x128.Idx → Elt Ideal .f32) : View.ld x r0_5 = x := View.ld_unit_zero (by decide) _ _

/-- The body's result for the table, its loads read whole. -/
theorem afterP (t : Fin cfg0.N) : (dats m 0 c).after 8 t = outP m c t := by
  rw [after0_8, out0_8, View.canon_unit_zero (by decide), ld0, ld3, ld4, ld5]
  rfl

/-- The same for the centres' products. -/
theorem afterQ (t : Fin cfg0.N) : (dats m 0 c).after 9 t = outQ m c t := by
  rw [after0_9, out0_9, View.canon_unit_zero (by decide), k0_pay83, ld0, ld1, ld4]
  rfl

/-- The same for the centres. -/
theorem afterC (t : Fin cfg0.N) : (dats m 0 c).after 10 t = outC m c t := by
  rw [after0_10, out0_10, View.canon_unit_zero (by decide), ld0, ld1]
  rfl

/-! ## The three output arrays -/

/-- The table: every block is written back, at its own batch. -/
theorem finalP : ((dats m 0 c).arrAt 8 cfg0.N : FVec Ideal S8x1024x128 .f32) = fun y => outP m c (y 0) (ix3 0 (y 1) (y 2)) := by
  refine (dats m 0 c).arrAt_eq_of_covers 8 _ (by decide +kernel) fun t hf y => ?_
  have key : ∀ (t' : Fin cfg0.N) (y' : S1x1024x128.Idx), t' = t → y' = y → outP m c t' y' = outP m c t y := by
    rintro _ _ rfl rfl; rfl
  blk_simp
  rw [afterP]
  refine (key _ _ (Fin.ext ?_) ?_).symm
  · blk_simp [idx8 t]
  · blk_ext [idx8 t]

/-- The centres' products. -/
theorem finalQ : ((dats m 0 c).arrAt 9 cfg0.N : FVec Ideal S8x256x128 .f32) = fun y => outQ m c (y 0) (ix3 0 (y 1) (y 2)) := by
  refine (dats m 0 c).arrAt_eq_of_covers 9 _ (by decide +kernel) fun t hf y => ?_
  have key : ∀ (t' : Fin cfg0.N) (y' : S1x256x128.Idx), t' = t → y' = y → outQ m c t' y' = outQ m c t y := by
    rintro _ _ rfl rfl; rfl
  blk_simp
  rw [afterQ]
  refine (key _ _ (Fin.ext ?_) ?_).symm
  · blk_simp [idx9 t]
  · blk_ext [idx9 t]

/-- The centres. -/
theorem finalC : ((dats m 0 c).arrAt 10 cfg0.N : FVec Ideal S8x256x16 .f32) = fun y => outC m c (y 0) (ix3 0 (y 1) (y 2)) := by
  refine (dats m 0 c).arrAt_eq_of_covers 10 _ (by decide +kernel) fun t hf y => ?_
  have key : ∀ (t' : Fin cfg0.N) (y' : S1x256x16.Idx), t' = t → y' = y → outC m c t' y' = outC m c t y := by
    rintro _ _ rfl rfl; rfl
  blk_simp
  rw [afterC]
  refine (key _ _ (Fin.ext ?_) ?_).symm
  · blk_simp [idx10 t]
  · blk_ext [idx10 t]

/-! ## Against the reference -/

/-- The sixteen products of a widened row: the last thirteen are zero. -/
theorem sum_widened (a b : Fin 16 → EReal) (ha : ∀ k : Fin 13, a ⟨3 + k.val, by omega⟩ = 0) :
    (∑ x, a x * inv * b x) = ∑ k : Fin 3, a ⟨k.val, by omega⟩ * inv * b ⟨k.val, by omega⟩ := by
  rw [show (∑ x : Fin 16, a x * inv * b x) = ∑ x : Fin (3 + 13), a x * inv * b x from rfl, Fin.sum_univ_add]
  have h0 (k : Fin 13) : a (Fin.natAdd 3 k) = 0 := ha k
  simp only [h0, zero_mul, Finset.sum_const_zero, add_zero]
  rfl

/-- The coordinates. -/
abbrev X : FVec Ideal S8x1024x3 .f32 := m ((c : Thread nD τ).loc main_arg0)
/-- The features. -/
abbrev Feat : FVec Ideal S8x256x1024 .f32 := m ((c : Thread nD τ).loc main_arg1)
/-- The indices of the centres. -/
abbrev Ind : IVec S8x256 32 := m ((c : Thread nD τ).loc main_arg2)
/-- The weights. -/
abbrev W : FVec Ideal S128x259 .f32 := m ((c : Thread nD τ).loc main_arg3)

/-- The table at a batch, a point and a channel. -/
theorem outP_apply (t : Fin cfg0.N) (n : Fin 1024) (l : Fin 128) :
    outP m c t (ix3 0 n l) = (∑ k : Fin 3, X m c (ix3 t n k) * inv * W m c (ix2 l ⟨k.val, by omega⟩))
        + ∑ k : Fin 256, Feat m c (ix3 t k n) * W m c (ix2 l ⟨3 + k.val, by omega⟩) := by
  unfold outP
  rw [pay7_apply, sum_widened _ _ (x0_high m c t n)]
  simp only [x0_low, x4_low, x2_apply, x5_apply]

/-- Whatever column: the widened coordinates are finite if the coordinates are. -/
theorem x0_finite (h : ∀ j, X m c j ≠ (⊤ : EReal) ∧ X m c j ≠ (⊥ : EReal)) (t : Fin cfg0.N) (n : Fin 1024) (k : Fin 16) :
    (iblk m c 0 t : FVec Ideal S1x1024x16 .f32) (ix3 0 n k) ≠ (⊤ : EReal) ∧ (iblk m c 0 t : FVec Ideal S1x1024x16 .f32) (ix3 0 n k) ≠ (⊥ : EReal) := by
  by_cases hk : k.val < 3
  · have e := x0_low m c t n ⟨k.val, hk⟩
    rw [show (iblk m c 0 t : FVec Ideal S1x1024x16 .f32) (ix3 0 n k) = _ from e]
    exact h _
  · have e := x0_high m c t n ⟨k.val - 3, by omega⟩
    rw [show k = ⟨3 + (k.val - 3), by omega⟩ from Fin.ext (by simp; omega)]
    rw [e]
    exact ⟨EReal.zero_ne_top, EReal.zero_ne_bot⟩

open Cert.PointsReferenceIdeal (centres table products widened centres_apply table_apply products_apply widened_apply)

/-- The table is the reference's. -/
theorem table_eq : (dats m 0 c).arrAt 8 cfg0.N = table (X m c) (Feat m c) (W m c) := by
  refine (finalP m c).trans ?_
  have key (t : Fin 8) (n : Fin 1024) (l : Fin 128) : outP m c t (ix3 0 n l) = table (X m c) (Feat m c) (W m c) (ix3 t n l) :=
    (outP_apply m c t n l).trans (table_apply _ _ _ t n l).symm
  funext i
  exact (key (i 0) (i 1) (i 2)).trans (congrArg _ (eq_ix3 i).symm)

variable {m c} (h : ∀ j, X m c j ≠ (⊤ : EReal) ∧ X m c j ≠ (⊥ : EReal)) (hi : ∀ j, (Ind m c j).toNat < 1024)
include h hi

/-- The gathered centres, in all sixteen columns. -/
theorem centre_apply (t : Fin cfg0.N) (r : Fin 256) (k : Fin 16) :
    k0_pay3 (F := Ideal) (iblk m c 0 t) (iblk m c 3 t) (ix2 r k)
      = (iblk m c 0 t : FVec Ideal S1x1024x16 .f32) (ix3 0 ⟨(Ind m c (ix2 t r)).toNat, hi _⟩ k) := by
  have e := x3_apply m c t r
  rw [pay3_apply _ _ (x0_finite m c h t) r (by rw [e]; exact hi _)]
  simp only [e]

/-- The products of a centre. -/
theorem outQ_apply (t : Fin cfg0.N) (r : Fin 256) (l : Fin 128) :
    outQ m c t (ix3 0 r l) = ∑ k : Fin 3, X m c (ix3 t ⟨(Ind m c (ix2 t r)).toNat, hi _⟩ k) * inv * W m c (ix2 l ⟨k.val, by omega⟩) := by
  unfold outQ
  rw [pay8_apply]
  simp only [centre_apply h hi t r]
  rw [sum_widened _ _ (x0_high m c t _)]
  simp only [x0_low, x4_low]

/-- The centres' products are the reference's. -/
theorem products_eq : (dats m 0 c).arrAt 9 cfg0.N = products (centres (X m c) (Ind m c)) (W m c) := by
  refine (finalQ m c).trans ?_
  have key (t : Fin 8) (r : Fin 256) (l : Fin 128) : outQ m c t (ix3 0 r l) = products (centres (X m c) (Ind m c)) (W m c) (ix3 t r l) := by
    rw [products_apply]
    simp only [centres_apply _ _ t r (hi _)]
    exact outQ_apply h hi t r l
  funext i
  exact (key (i 0) (i 1) (i 2)).trans (congrArg _ (eq_ix3 i).symm)

/-- The centres are the reference's. -/
theorem centres_eq : (dats m 0 c).arrAt 10 cfg0.N = widened (centres (X m c) (Ind m c)) := by
  refine (finalC m c).trans ?_
  have key (t : Fin 8) (r : Fin 256) (k : Fin 16) : outC m c t (ix3 0 r k) = widened (centres (X m c) (Ind m c)) (ix3 t r k) := by
    rw [widened_apply]
    unfold outC
    rw [pay4_apply, centre_apply h hi t r]
    by_cases hk : k.val < 3
    · rw [dif_pos hk, centres_apply _ _ t r (hi _)]
      exact x0_low m c t _ ⟨k.val, hk⟩
    · rw [dif_neg hk]
      have e := x0_high m c t ⟨(Ind m c (ix2 t r)).toNat, hi _⟩ ⟨k.val - 3, by omega⟩
      rwa [show (⟨3 + (k.val - 3), by omega⟩ : Fin 16) = k from Fin.ext (by simp; omega)] at e
  funext i
  exact (key (i 0) (i 1) (i 2)).trans (congrArg _ (eq_ix3 i).symm)

end Cert.PointsIdeal
-- ==== Proof.PointsNear.lean ====
/-
  The first rows within the radius.

  The kernel takes the least of a row of candidates sixteen times, each time overwriting it with 1024; the reference sorts
  the candidates and takes the first sixteen.  A candidate is a row's own number if the row is within the radius and 1024
  if it is not, so candidates below 1024 are different, and the `j`-th of the least ones is the `j`-th of the sorted
  (`nth_eq`).  The rest of the module reads the kernel's rounds as those (`lo_apply`, `next_apply`).
-/
module

public import proofs.«01_k».proof.Proof.PointsOut

@[expose] public section

set_option maxRecDepth 16384

noncomputable section

namespace Cert.PointsIdeal

open Cert.PointsIdeal.Gen
open Idealize.ShloMosaic Idealize.ShloMosaic.TcCoe

set_option maxHeartbeats 1000000

/-! ## The candidates -/

/-- The least of a row. -/
def least (f : Fin 1024 → ℕ) : ℕ := Finset.univ.inf' Finset.univ_nonempty f
/-- A row with its least entries overwritten. -/
def over (f : Fin 1024 → ℕ) : Fin 1024 → ℕ := fun n => if f n = least f then 1024 else f n
theorem over_apply (f : Fin 1024 → ℕ) (n : Fin 1024) : over f n = if f n = least f then 1024 else f n := rfl
/-- The candidates of a row of flags. -/
def cand (b : Fin 1024 → BitVec 1) : Fin 1024 → ℕ := fun n => if b n = 1#1 then n.val else 1024
/-- The `j`-th least. -/
def nth (b : Fin 1024 → BitVec 1) (j : ℕ) : ℕ := least (over^[j] (cand b))

theorem cand_le (b : Fin 1024 → BitVec 1) (n : Fin 1024) : cand b n ≤ 1024 := by
  unfold cand; split <;> omega

/-- Candidates below 1024 are different. -/
theorem cand_inj (b : Fin 1024 → BitVec 1) (n n' : Fin 1024) (h : cand b n = cand b n') (hl : cand b n < 1024) : n = n' := by
  unfold cand at h hl
  apply Fin.ext
  split at h <;> split at h <;> simp_all

/-- After `j` rounds the first `j` of the sorted candidates are overwritten, and the least of the others is the next. -/
theorem rounds (b : Fin 1024 → BitVec 1) (σ : Fin 1024 → Fin 1024) (hs : Function.Surjective σ) (hi : Function.Injective σ)
    (hm : ∀ i j, i < j → cand b (σ i) ≤ cand b (σ j)) (j : ℕ) (hj : j < 1024)
    (hr : ∀ n, over^[j] (cand b) n = if ∃ i : Fin 1024, i.val < j ∧ cand b n = cand b (σ i) then 1024 else cand b n) :
    nth b j = cand b (σ ⟨j, hj⟩) := by
  apply le_antisymm
  · refine (Finset.inf'_le _ (Finset.mem_univ (σ ⟨j, hj⟩))).trans ?_
    rw [hr]
    split
    · rename_i h
      obtain ⟨i, hij, e⟩ := h
      by_contra hl
      have := congrArg Fin.val (hi (cand_inj b _ _ e (by omega)))
      simp only at this
      omega
    · exact le_rfl
  · unfold nth least
    rw [Finset.le_inf'_iff]
    intro n _
    rw [hr]
    split
    · exact cand_le _ _
    · rename_i h
      obtain ⟨i, rfl⟩ := hs n
      have hij : j ≤ i.val := by
        by_contra hl
        exact h ⟨i, by omega, rfl⟩
      rcases Nat.lt_or_eq_of_le hij with hl | he
      · exact hm _ _ (by rw [Fin.lt_def]; exact hl)
      · rw [show (⟨j, hj⟩ : Fin 1024) = i from Fin.ext he]

/-- The candidates after `j` rounds. -/
theorem over_iter (b : Fin 1024 → BitVec 1) (σ : Fin 1024 → Fin 1024) (hs : Function.Surjective σ) (hi : Function.Injective σ)
    (hm : ∀ i j, i < j → cand b (σ i) ≤ cand b (σ j)) (j : ℕ) (hj : j ≤ 1024) (n : Fin 1024) :
    over^[j] (cand b) n = if ∃ i : Fin 1024, i.val < j ∧ cand b n = cand b (σ i) then 1024 else cand b n := by
  induction j generalizing n with
  | zero => simp
  | succ j ih =>
    have hl : least (over^[j] (cand b)) = cand b (σ ⟨j, by omega⟩) :=
      rounds b σ hs hi hm j (by omega) (ih (by omega))
    rw [Function.iterate_succ_apply']
    rw [over_apply, hl, ih (by omega)]
    by_cases h1 : ∃ i : Fin 1024, i.val < j ∧ cand b n = cand b (σ i)
    · have h2 : ∃ i : Fin 1024, i.val < j + 1 ∧ cand b n = cand b (σ i) := by
        obtain ⟨i, hi, e⟩ := h1; exact ⟨i, by omega, e⟩
      simp only [if_pos h1, if_pos h2, ite_self]
    · rw [if_neg h1]
      by_cases h3 : cand b n = cand b (σ ⟨j, by omega⟩)
      · have h2 : ∃ i : Fin 1024, i.val < j + 1 ∧ cand b n = cand b (σ i) := ⟨⟨j, by omega⟩, by simp, h3⟩
        rw [if_pos h3, if_pos h2]
      · have h2 : ¬ ∃ i : Fin 1024, i.val < j + 1 ∧ cand b n = cand b (σ i) := by
          rintro ⟨i, hi, e⟩
          rcases Nat.lt_or_eq_of_le (Nat.le_of_lt_succ hi) with hl | he
          · exact h1 ⟨i, hl, e⟩
          · exact h3 (by rw [e, show i = ⟨j, by omega⟩ from Fin.ext he])
        rw [if_neg h3, if_neg h2]

/-- The `j`-th least candidate is the `j`-th of the sorted. -/
theorem nth_eq (b : Fin 1024 → BitVec 1) (σ : Fin 1024 → Fin 1024) (hs : Function.Surjective σ) (hi : Function.Injective σ)
    (hm : ∀ i j, i < j → cand b (σ i) ≤ cand b (σ j)) (j : Fin 1024) : nth b j.val = cand b (σ j) :=
  rounds b σ hs hi hm j.val j.isLt (over_iter b σ hs hi hm j.val (by omega))

theorem nth_le (b : Fin 1024 → BitVec 1) (j : ℕ) : nth b j ≤ 1024 := by
  have h : ∀ n, over^[j] (cand b) n ≤ 1024 := by
    induction j with
    | zero => exact cand_le b
    | succ j ih =>
      intro n
      rw [Function.iterate_succ_apply', over_apply]
      split
      · exact le_rfl
      · exact ih n
  exact (Finset.inf'_le _ (Finset.mem_univ 0)).trans (h 0)

/-! ## The kernel's rounds -/

/-- A row's least entry, as the kernel takes it. -/
def lo (v : FVec Ideal S256x1024 .f32) : FVec Ideal S256x1 .f32 :=
  shapeCast S256x1 (multiReduction .minimumf [1] S256 v 0x7F800000#32 reduces_S256x1024_S256 (.inl rfl) rfl : FVec Ideal S256 .f32) shapeCasts_S256_S256x1
/-- The entries that are the least of their row, overwritten, as the kernel does it. -/
def next (v : FVec Ideal S256x1024 .f32) : FVec Ideal S256x1024 .f32 :=
  select (cmpf .oeq v (broadcastTo S256x1024 (lo v) broadcasts_S256x1_S256x1024)) (broadcast S256x1024 (Scalar.ofBits .f32 0x44800000#32 : Ideal .f32)) v

theorem top_eq : Ideal.ofBits FTy.f32 0x7F800000#32 = ⊤ := by simp [Ideal.ofBits, Ideal.ieee]

/-- 1024 as a float. -/
theorem full_eq : Ideal.ofBits FTy.f32 0x44800000#32 = (((1024 : ℕ) : ℝ) : EReal) := by
  simp [Ideal.ofBits, Ideal.ieee, -EReal.coe_mul]; norm_num

theorem nat_le_iff (k k' : ℕ) : (((k : ℝ)) : EReal) ≤ ((k' : ℝ) : EReal) ↔ k ≤ k' := by
  rw [EReal.coe_le_coe_iff, Nat.cast_le]

theorem nat_eq_iff (k k' : ℕ) : (((k : ℝ)) : EReal) = ((k' : ℝ) : EReal) ↔ k = k' := by
  rw [EReal.coe_eq_coe_iff, Nat.cast_inj]

/-- On a row of whole numbers it is the least of them. -/
theorem lo_apply (v : FVec Ideal S256x1024 .f32) (r : Fin 256) (f : Fin 1024 → ℕ) (h : ∀ n, v (ix2 r n) = (((f n : ℝ)) : EReal)) :
    lo v (ix2 r 0) = ((least f : ℝ) : EReal) := by
  pointwise [lo]
  simp only [h, top_eq]
  apply le_antisymm
  · obtain ⟨n, hn, e⟩ := Finset.exists_mem_eq_inf' (s := (Finset.univ : Finset (Fin 1024))) Finset.univ_nonempty f
    rw [Finset.fold_min_le]
    exact .inr ⟨n, hn, by rw [nat_le_iff]; exact e.ge⟩
  · rw [Finset.le_fold_min]
    exact ⟨le_top, fun n hn => by rw [nat_le_iff]; exact Finset.inf'_le _ hn⟩

/-- And the row with its least entries overwritten. -/
theorem next_apply (v : FVec Ideal S256x1024 .f32) (r : Fin 256) (f : Fin 1024 → ℕ) (h : ∀ n, v (ix2 r n) = (((f n : ℝ)) : EReal)) (n : Fin 1024) :
    next v (ix2 r n) = ((over f n : ℝ) : EReal) := by
  have e : next v (ix2 r n) = Scalar.select (FloatOps.cmpf (F := Ideal) (φ := .f32) .oeq (v (ix2 r n)) (lo v (ix2 r 0))) (Ideal.ofBits FTy.f32 0x44800000#32) (v (ix2 r n)) := by
    pointwise [next]
  rw [e, lo_apply v r f h, h, full_eq, over_apply]
  show Scalar.select (Ideal.cmp .oeq _ _) _ _ = _
  unfold Ideal.cmp Scalar.select
  simp only [nat_eq_iff]
  by_cases hn : f n = least f
  · simp [hn]
  · simp [hn]

/-- So the rounds' least entries are the least candidates in turn. -/
theorem lo_iter (v : FVec Ideal S256x1024 .f32) (r : Fin 256) (b : Fin 1024 → BitVec 1) (h : ∀ n, v (ix2 r n) = ((cand b n : ℝ) : EReal)) (j : ℕ) :
    lo (next^[j] v) (ix2 r 0) = ((nth b j : ℝ) : EReal) := by
  refine lo_apply _ r _ ?_
  induction j with
  | zero => exact h
  | succ j ih =>
    intro n
    rw [Function.iterate_succ_apply', Function.iterate_succ_apply']
    exact next_apply _ r _ ih n

/-- Whether a squared distance is within the radius. -/
def flag (x : EReal) : BitVec 1 := BitVec.ofBool (decide (x < Ideal.ofBits .f32 0x3DB851EC#32))

theorem flag_eq (x : EReal) : flag x = 1#1 ↔ x < Ideal.ofBits .f32 0x3DB851EC#32 := by
  unfold flag
  by_cases h : x < Ideal.ofBits .f32 0x3DB851EC#32 <;> simp [h]

/-- A row number as a float. -/
theorem number_eq (n : ℕ) (h : n < 1024) : FloatOps.sitofp (F := Ideal) FTy.f32 (BitVec.ofNat 32 n) = ((n : ℝ) : EReal) := by
  show (((BitVec.ofNat 32 n).toInt : ℝ) : EReal) = _
  rw [BitVec.toInt_eq_toNat_cond, BitVec.toNat_ofNat, Nat.mod_eq_of_lt (by omega), if_pos (by omega)]
  simp

/-- And back. -/
theorem word_eq (n : ℕ) (h : n ≤ 1024) : FloatOps.fptosi (F := Ideal) (φ := .f32) 32 ((n : ℝ) : EReal) = BitVec.ofNat 32 n := by
  show Ideal.fptosi 32 ((n : ℝ) : EReal) = _
  rw [Ideal.fptosi, Ideal.toIntClamped_coe, if_pos (Nat.cast_nonneg n), Int.floor_natCast, min_eq_right (by norm_num; omega), max_eq_right (by omega)]
  exact BitVec.ofInt_natCast _ _

/-- The candidates the kernel starts from. -/
theorem pay15_apply (d : FVec Ideal S256x1024 .f32) (r : Fin 256) (n : Fin 1024) :
    k0_pay15 (F := Ideal) d k0_pay13 k0_pay14 (ix2 r n) = ((cand (fun n => flag (d (ix2 r n))) n : ℝ) : EReal) := by
  have e : k0_pay15 (F := Ideal) d k0_pay13 k0_pay14 (ix2 r n)
      = if d (ix2 r n) < Ideal.ofBits .f32 0x3DB851EC#32 then FloatOps.sitofp (F := Ideal) FTy.f32 (BitVec.ofNat 32 n.val) else Ideal.ofBits FTy.f32 0x44800000#32 := by
    pointwise [k0_pay15, k0_pay13, k0_pay14]
  rw [e, number_eq _ n.isLt, full_eq]
  unfold cand
  by_cases h : d (ix2 r n) < Ideal.ofBits .f32 0x3DB851EC#32
  · rw [if_pos h, if_pos ((flag_eq _).2 h)]
  · rw [if_neg h, if_neg fun h' => h ((flag_eq _).1 h')]

/-- The last of the call: the sixteen least side by side, 1024 replaced by the first, and the batch's offset added. -/
theorem pay46_apply (a : BitVec 32) (v : FVec Ideal S256x1024 .f32) (r : Fin 256) (j : Fin 16) :
    k0_pay46 (F := Ideal) a (lo v) (lo (next v)) (lo (next^[2] v)) (lo (next^[3] v)) (lo (next^[4] v)) (lo (next^[5] v)) (lo (next^[6] v))
        (lo (next^[7] v)) (lo (next^[8] v)) (lo (next^[9] v)) (lo (next^[10] v)) (lo (next^[11] v)) (lo (next^[12] v)) (lo (next^[13] v))
        (next^[14] v) (lo (next^[14] v)) (broadcastTo S256x1024 (lo (next^[14] v)) broadcasts_S256x1_S256x1024) (ix3 0 r j)
      = IntOp.addi (FloatOps.fptosi (F := Ideal) (φ := .f32) 32 (Scalar.select (FloatOps.cmpf (F := Ideal) (φ := .f32) .oeq (lo (next^[j.val] v) (ix2 r 0)) (Ideal.ofBits FTy.f32 0x44800000#32))
          (lo v (ix2 r 0)) (lo (next^[j.val] v) (ix2 r 0)))) (Scalar.muli a 1024#32) := by
  have e (u : FVec Ideal S256x1024 .f32) (w : FVec Ideal S256x1 .f32) (h : shapeCast S256x1 (multiReduction .minimumf [1] S256 (select (cmpf .oeq u (broadcastTo S256x1024 (lo u) broadcasts_S256x1_S256x1024))
      (broadcast S256x1024 (Scalar.ofBits .f32 0x44800000#32 : Ideal .f32)) u) 0x7F800000#32 reduces_S256x1024_S256 (.inl rfl) rfl : FVec Ideal S256 .f32) shapeCasts_S256_S256x1 = w) : lo (next u) = w := h
  have e15 : lo (next (next^[14] v)) = lo (next^[15] v) := by rw [← Function.iterate_succ_apply' next]
  unfold k0_pay46
  rw [← e _ _ rfl, e15]
  fin_cases j <;> pointwise <;> rfl

/-- A row number of the result: the `j`-th least candidate, the first where there is none, and the batch's offset. -/
def place (b : Fin 1024 → BitVec 1) (a : BitVec 32) (j : ℕ) : BitVec 32 :=
  IntOp.addi (BitVec.ofNat 32 (if nth b j = 1024 then nth b 0 else nth b j)) (IntOp.muli a 1024#32)

/-- What the call stores of the row numbers. -/
def rowsOut (a : BitVec 32) (d : FVec Ideal S256x1024 .f32) : IVec S1x256x16 32 :=
  let v := k0_pay15 (F := Ideal) d k0_pay13 k0_pay14
  k0_pay46 (F := Ideal) a (lo v) (lo (next v)) (lo (next^[2] v)) (lo (next^[3] v)) (lo (next^[4] v)) (lo (next^[5] v)) (lo (next^[6] v))
    (lo (next^[7] v)) (lo (next^[8] v)) (lo (next^[9] v)) (lo (next^[10] v)) (lo (next^[11] v)) (lo (next^[12] v)) (lo (next^[13] v))
    (next^[14] v) (lo (next^[14] v)) (broadcastTo S256x1024 (lo (next^[14] v)) broadcasts_S256x1_S256x1024)

/-- The printed chain of the body's values is these rounds. -/
theorem rounds_eq (a : BitVec 32) (d : FVec Ideal S256x1024 .f32) :
    k0_pay46 (F := Ideal) a (k0_pay16 (F := Ideal) d k0_pay13 k0_pay14) (k0_pay18 (F := Ideal) d k0_pay13 k0_pay14) (k0_pay20 (F := Ideal) d k0_pay13 k0_pay14) (k0_pay22 (F := Ideal) d k0_pay13 k0_pay14) (k0_pay24 (F := Ideal) d k0_pay13 k0_pay14) (k0_pay26 (F := Ideal) d k0_pay13 k0_pay14) (k0_pay28 (F := Ideal) d k0_pay13 k0_pay14) (k0_pay30 (F := Ideal) (k0_pay29 d k0_pay13 k0_pay14)) (k0_pay32 (F := Ideal) (k0_pay29 d k0_pay13 k0_pay14)) (k0_pay34 (F := Ideal) (k0_pay29 d k0_pay13 k0_pay14)) (k0_pay36 (F := Ideal) (k0_pay29 d k0_pay13 k0_pay14)) (k0_pay38 (F := Ideal) (k0_pay29 d k0_pay13 k0_pay14)) (k0_pay40 (F := Ideal) (k0_pay29 d k0_pay13 k0_pay14)) (k0_pay42 (F := Ideal) (k0_pay29 d k0_pay13 k0_pay14))
      (k0_pay43 (F := Ideal) (k0_pay29 d k0_pay13 k0_pay14)) (k0_pay44 (F := Ideal) (k0_pay29 d k0_pay13 k0_pay14)) (k0_pay45 (F := Ideal) (k0_pay29 d k0_pay13 k0_pay14)) = rowsOut a d := by
  have l0 : (k0_pay16 (F := Ideal) d k0_pay13 k0_pay14) = lo (k0_pay15 (F := Ideal) d k0_pay13 k0_pay14) := rfl
  have e1 : (k0_pay17 (F := Ideal) d k0_pay13 k0_pay14) = (next (k0_pay15 (F := Ideal) d k0_pay13 k0_pay14)) := rfl
  have l1 : (k0_pay18 (F := Ideal) d k0_pay13 k0_pay14) = lo (next (k0_pay15 (F := Ideal) d k0_pay13 k0_pay14)) := by
    rw [show (k0_pay18 (F := Ideal) d k0_pay13 k0_pay14) = lo (k0_pay17 (F := Ideal) d k0_pay13 k0_pay14) from rfl, e1]
  have e2 : (k0_pay19 (F := Ideal) d k0_pay13 k0_pay14) = (next^[2] (k0_pay15 (F := Ideal) d k0_pay13 k0_pay14)) := by
    rw [show (k0_pay19 (F := Ideal) d k0_pay13 k0_pay14) = next (k0_pay17 (F := Ideal) d k0_pay13 k0_pay14) from rfl, e1]
    exact (Function.iterate_succ_apply' next 1 (k0_pay15 (F := Ideal) d k0_pay13 k0_pay14)).symm
  have l2 : (k0_pay20 (F := Ideal) d k0_pay13 k0_pay14) = lo (next^[2] (k0_pay15 (F := Ideal) d k0_pay13 k0_pay14)) := by
    rw [show (k0_pay20 (F := Ideal) d k0_pay13 k0_pay14) = lo (k0_pay19 (F := Ideal) d k0_pay13 k0_pay14) from rfl, e2]
  have e3 : (k0_pay21 (F := Ideal) d k0_pay13 k0_pay14) = (next^[3] (k0_pay15 (F := Ideal) d k0_pay13 k0_pay14)) := by
    rw [show (k0_pay21 (F := Ideal) d k0_pay13 k0_pay14) = next (k0_pay19 (F := Ideal) d k0_pay13 k0_pay14) from rfl, e2]
    exact (Function.iterate_succ_apply' next 2 (k0_pay15 (F := Ideal) d k0_pay13 k0_pay14)).symm
  have l3 : (k0_pay22 (F := Ideal) d k0_pay13 k0_pay14) = lo (next^[3] (k0_pay15 (F := Ideal) d k0_pay13 k0_pay14)) := by
    rw [show (k0_pay22 (F := Ideal) d k0_pay13 k0_pay14) = lo (k0_pay21 (F := Ideal) d k0_pay13 k0_pay14) from rfl, e3]
  have e4 : (k0_pay23 (F := Ideal) d k0_pay13 k0_pay14) = (next^[4] (k0_pay15 (F := Ideal) d k0_pay13 k0_pay14)) := by
    rw [show (k0_pay23 (F := Ideal) d k0_pay13 k0_pay14) = next (k0_pay21 (F := Ideal) d k0_pay13 k0_pay14) from rfl, e3]
    exact (Function.iterate_succ_apply' next 3 (k0_pay15 (F := Ideal) d k0_pay13 k0_pay14)).symm
  have l4 : (k0_pay24 (F := Ideal) d k0_pay13 k0_pay14) = lo (next^[4] (k0_pay15 (F := Ideal) d k0_pay13 k0_pay14)) := by
    rw [show (k0_pay24 (F := Ideal) d k0_pay13 k0_pay14) = lo (k0_pay23 (F := Ideal) d k0_pay13 k0_pay14) from rfl, e4]
  have e5 : (k0_pay25 (F := Ideal) d k0_pay13 k0_pay14) = (next^[5] (k0_pay15 (F := Ideal) d k0_pay13 k0_pay14)) := by
    rw [show (k0_pay25 (F := Ideal) d k0_pay13 k0_pay14) = next (k0_pay23 (F := Ideal) d k0_pay13 k0_pay14) from rfl, e4]
    exact (Function.iterate_succ_apply' next 4 (k0_pay15 (F := Ideal) d k0_pay13 k0_pay14)).symm
  have l5 : (k0_pay26 (F := Ideal) d k0_pay13 k0_pay14) = lo (next^[5] (k0_pay15 (F := Ideal) d k0_pay13 k0_pay14)) := by
    rw [show (k0_pay26 (F := Ideal) d k0_pay13 k0_pay14) = lo (k0_pay25 (F := Ideal) d k0_pay13 k0_pay14) from rfl, e5]
  have e6 : (k0_pay27 (F := Ideal) d k0_pay13 k0_pay14) = (next^[6] (k0_pay15 (F := Ideal) d k0_pay13 k0_pay14)) := by
    rw [show (k0_pay27 (F := Ideal) d k0_pay13 k0_pay14) = next (k0_pay25 (F := Ideal) d k0_pay13 k0_pay14) from rfl, e5]
    exact (Function.iterate_succ_apply' next 5 (k0_pay15 (F := Ideal) d k0_pay13 k0_pay14)).symm
  have l6 : (k0_pay28 (F := Ideal) d k0_pay13 k0_pay14) = lo (next^[6] (k0_pay15 (F := Ideal) d k0_pay13 k0_pay14)) := by
    rw [show (k0_pay28 (F := Ideal) d k0_pay13 k0_pay14) = lo (k0_pay27 (F := Ideal) d k0_pay13 k0_pay14) from rfl, e6]
  have e7 : (k0_pay29 (F := Ideal) d k0_pay13 k0_pay14) = (next^[7] (k0_pay15 (F := Ideal) d k0_pay13 k0_pay14)) := by
    rw [show (k0_pay29 (F := Ideal) d k0_pay13 k0_pay14) = next (k0_pay27 (F := Ideal) d k0_pay13 k0_pay14) from rfl, e6]
    exact (Function.iterate_succ_apply' next 6 (k0_pay15 (F := Ideal) d k0_pay13 k0_pay14)).symm
  have l7 : (k0_pay30 (F := Ideal) (k0_pay29 d k0_pay13 k0_pay14)) = lo (next^[7] (k0_pay15 (F := Ideal) d k0_pay13 k0_pay14)) := by
    rw [show (k0_pay30 (F := Ideal) (k0_pay29 d k0_pay13 k0_pay14)) = lo (k0_pay29 (F := Ideal) d k0_pay13 k0_pay14) from rfl, e7]
  have e8 : (k0_pay31 (F := Ideal) (k0_pay29 d k0_pay13 k0_pay14)) = (next^[8] (k0_pay15 (F := Ideal) d k0_pay13 k0_pay14)) := by
    rw [show (k0_pay31 (F := Ideal) (k0_pay29 d k0_pay13 k0_pay14)) = next (k0_pay29 (F := Ideal) d k0_pay13 k0_pay14) from rfl, e7]
    exact (Function.iterate_succ_apply' next 7 (k0_pay15 (F := Ideal) d k0_pay13 k0_pay14)).symm
  have l8 : (k0_pay32 (F := Ideal) (k0_pay29 d k0_pay13 k0_pay14)) = lo (next^[8] (k0_pay15 (F := Ideal) d k0_pay13 k0_pay14)) := by
    rw [show (k0_pay32 (F := Ideal) (k0_pay29 d k0_pay13 k0_pay14)) = lo (k0_pay31 (F := Ideal) (k0_pay29 d k0_pay13 k0_pay14)) from rfl, e8]
  have e9 : (k0_pay33 (F := Ideal) (k0_pay29 d k0_pay13 k0_pay14)) = (next^[9] (k0_pay15 (F := Ideal) d k0_pay13 k0_pay14)) := by
    rw [show (k0_pay33 (F := Ideal) (k0_pay29 d k0_pay13 k0_pay14)) = next (k0_pay31 (F := Ideal) (k0_pay29 d k0_pay13 k0_pay14)) from rfl, e8]
    exact (Function.iterate_succ_apply' next 8 (k0_pay15 (F := Ideal) d k0_pay13 k0_pay14)).symm
  have l9 : (k0_pay34 (F := Ideal) (k0_pay29 d k0_pay13 k0_pay14)) = lo (next^[9] (k0_pay15 (F := Ideal) d k0_pay13 k0_pay14)) := by
    rw [show (k0_pay34 (F := Ideal) (k0_pay29 d k0_pay13 k0_pay14)) = lo (k0_pay33 (F := Ideal) (k0_pay29 d k0_pay13 k0_pay14)) from rfl, e9]
  have e10 : (k0_pay35 (F := Ideal) (k0_pay29 d k0_pay13 k0_pay14)) = (next^[10] (k0_pay15 (F := Ideal) d k0_pay13 k0_pay14)) := by
    rw [show (k0_pay35 (F := Ideal) (k0_pay29 d k0_pay13 k0_pay14)) = next (k0_pay33 (F := Ideal) (k0_pay29 d k0_pay13 k0_pay14)) from rfl, e9]
    exact (Function.iterate_succ_apply' next 9 (k0_pay15 (F := Ideal) d k0_pay13 k0_pay14)).symm
  have l10 : (k0_pay36 (F := Ideal) (k0_pay29 d k0_pay13 k0_pay14)) = lo (next^[10] (k0_pay15 (F := Ideal) d k0_pay13 k0_pay14)) := by
    rw [show (k0_pay36 (F := Ideal) (k0_pay29 d k0_pay13 k0_pay14)) = lo (k0_pay35 (F := Ideal) (k0_pay29 d k0_pay13 k0_pay14)) from rfl, e10]
  have e11 : (k0_pay37 (F := Ideal) (k0_pay29 d k0_pay13 k0_pay14)) = (next^[11] (k0_pay15 (F := Ideal) d k0_pay13 k0_pay14)) := by
    rw [show (k0_pay37 (F := Ideal) (k0_pay29 d k0_pay13 k0_pay14)) = next (k0_pay35 (F := Ideal) (k0_pay29 d k0_pay13 k0_pay14)) from rfl, e10]
    exact (Function.iterate_succ_apply' next 10 (k0_pay15 (F := Ideal) d k0_pay13 k0_pay14)).symm
  have l11 : (k0_pay38 (F := Ideal) (k0_pay29 d k0_pay13 k0_pay14)) = lo (next^[11] (k0_pay15 (F := Ideal) d k0_pay13 k0_pay14)) := by
    rw [show (k0_pay38 (F := Ideal) (k0_pay29 d k0_pay13 k0_pay14)) = lo (k0_pay37 (F := Ideal) (k0_pay29 d k0_pay13 k0_pay14)) from rfl, e11]
  have e12 : (k0_pay39 (F := Ideal) (k0_pay29 d k0_pay13 k0_pay14)) = (next^[12] (k0_pay15 (F := Ideal) d k0_pay13 k0_pay14)) := by
    rw [show (k0_pay39 (F := Ideal) (k0_pay29 d k0_pay13 k0_pay14)) = next (k0_pay37 (F := Ideal) (k0_pay29 d k0_pay13 k0_pay14)) from rfl, e11]
    exact (Function.iterate_succ_apply' next 11 (k0_pay15 (F := Ideal) d k0_pay13 k0_pay14)).symm
  have l12 : (k0_pay40 (F := Ideal) (k0_pay29 d k0_pay13 k0_pay14)) = lo (next^[12] (k0_pay15 (F := Ideal) d k0_pay13 k0_pay14)) := by
    rw [show (k0_pay40 (F := Ideal) (k0_pay29 d k0_pay13 k0_pay14)) = lo (k0_pay39 (F := Ideal) (k0_pay29 d k0_pay13 k0_pay14)) from rfl, e12]
  have e13 : (k0_pay41 (F := Ideal) (k0_pay29 d k0_pay13 k0_pay14)) = (next^[13] (k0_pay15 (F := Ideal) d k0_pay13 k0_pay14)) := by
    rw [show (k0_pay41 (F := Ideal) (k0_pay29 d k0_pay13 k0_pay14)) = next (k0_pay39 (F := Ideal) (k0_pay29 d k0_pay13 k0_pay14)) from rfl, e12]
    exact (Function.iterate_succ_apply' next 12 (k0_pay15 (F := Ideal) d k0_pay13 k0_pay14)).symm
  have l13 : (k0_pay42 (F := Ideal) (k0_pay29 d k0_pay13 k0_pay14)) = lo (next^[13] (k0_pay15 (F := Ideal) d k0_pay13 k0_pay14)) := by
    rw [show (k0_pay42 (F := Ideal) (k0_pay29 d k0_pay13 k0_pay14)) = lo (k0_pay41 (F := Ideal) (k0_pay29 d k0_pay13 k0_pay14)) from rfl, e13]
  have e14 : (k0_pay43 (F := Ideal) (k0_pay29 d k0_pay13 k0_pay14)) = (next^[14] (k0_pay15 (F := Ideal) d k0_pay13 k0_pay14)) := by
    rw [show (k0_pay43 (F := Ideal) (k0_pay29 d k0_pay13 k0_pay14)) = next (k0_pay41 (F := Ideal) (k0_pay29 d k0_pay13 k0_pay14)) from rfl, e13]
    exact (Function.iterate_succ_apply' next 13 (k0_pay15 (F := Ideal) d k0_pay13 k0_pay14)).symm
  have l14 : (k0_pay44 (F := Ideal) (k0_pay29 d k0_pay13 k0_pay14)) = lo (next^[14] (k0_pay15 (F := Ideal) d k0_pay13 k0_pay14)) := by
    rw [show (k0_pay44 (F := Ideal) (k0_pay29 d k0_pay13 k0_pay14)) = lo (k0_pay43 (F := Ideal) (k0_pay29 d k0_pay13 k0_pay14)) from rfl, e14]
  have l15 : (k0_pay45 (F := Ideal) (k0_pay29 d k0_pay13 k0_pay14)) = broadcastTo S256x1024 (lo (next^[14] (k0_pay15 (F := Ideal) d k0_pay13 k0_pay14))) broadcasts_S256x1_S256x1024 := by
    rw [show (k0_pay45 (F := Ideal) (k0_pay29 d k0_pay13 k0_pay14)) = broadcastTo S256x1024 (k0_pay44 (F := Ideal) (k0_pay29 d k0_pay13 k0_pay14)) broadcasts_S256x1_S256x1024 from rfl, l14]
  rw [l0, l1, l2, l3, l4, l5, l6, l7, l8, l9, l10, l11, l12, l13, l14, l15, e14]
  rfl

/-- It is the row numbers of the candidates within the radius. -/
theorem rowsOut_apply (a : BitVec 32) (d : FVec Ideal S256x1024 .f32) (r : Fin 256) (j : Fin 16) :
    rowsOut a d (ix3 0 r j) = place (fun n => flag (d (ix2 r n))) a j.val := by
  have h0 := lo_iter _ r _ (pay15_apply d r) 0
  have hj := lo_iter _ r _ (pay15_apply d r) j.val
  unfold rowsOut
  rw [pay46_apply, hj, show lo (k0_pay15 (F := Ideal) d k0_pay13 k0_pay14) (ix2 r 0) = _ from h0, full_eq]
  unfold place
  show IntOp.addi (FloatOps.fptosi (F := Ideal) (φ := .f32) 32 (Scalar.select (Ideal.cmp .oeq _ _) _ _)) _ = _
  unfold Ideal.cmp Scalar.select
  simp only [nat_eq_iff]
  by_cases h : nth (fun n => flag (d (ix2 r n))) j.val = 1024
  · simp only [h, decide_true, BitVec.ofBool_true, if_true]
    rw [word_eq _ (nth_le _ _)]
    rfl
  · simp only [h, decide_false, BitVec.ofBool_false, if_false]
    rw [if_neg (by decide), word_eq _ (nth_le _ _)]
    rfl

end Cert.PointsIdeal
-- ==== Proof.PointsRows.lean ====
/-
  The first call alone: the numbers of the rows within the radius.

  For each centre the kernel stores the numbers of the first sixteen points within the radius, the first of them repeated
  where there are fewer; the reference sorts the candidates and takes the first sixteen (`rows_eq`).
-/
module

public import proofs.«01_k».proof.Proof.PointsValue
public import proofs.«01_k».proof.Proof.PointsNear
public import Idealize.ShloMosaic.Lib.SortFacts

@[expose] public section

set_option maxRecDepth 16384

noncomputable section

namespace Cert.PointsReferenceIdeal

open Cert.PointsReferenceIdeal.Gen
open Idealize.ShloMosaic Idealize.ShloMosaic.TcCoe
open Cert.PointsIdeal (cand cand_le nth nth_eq nth_le place flag flag_eq)

set_option maxHeartbeats 1000000

/-! ## The reference -/

/-- The squared distances of the centres to the points. -/
def distances (v : FVec Ideal S8x256x3 .f32) (x : FVec Ideal S8x1024x3 .f32) : FVec Ideal S8x256x1024 .f32 :=
  Host.reduceAdd (mulf (subf (broadcastInDim S8x256x1024x3 ![0, 1, 2, 3] bcast_S8x256x1x3_S8x256x1024x3_0_1_2_3 (broadcastInDim S8x256x1x3 ![0, 1, 3] bcast_S8x256x3_S8x256x1x3_0_1_3 v)) (broadcastInDim S8x256x1024x3 ![0, 1, 2, 3] bcast_S8x1x1024x3_S8x256x1024x3_0_1_2_3 (broadcastInDim S8x1x1024x3 ![0, 2, 3] bcast_S8x1024x3_S8x1x1024x3_0_2_3 x))) (subf (broadcastInDim S8x256x1024x3 ![0, 1, 2, 3] bcast_S8x256x1x3_S8x256x1024x3_0_1_2_3 (broadcastInDim S8x256x1x3 ![0, 1, 3] bcast_S8x256x3_S8x256x1x3_0_1_3 v)) (broadcastInDim S8x256x1024x3 ![0, 1, 2, 3] bcast_S8x1x1024x3_S8x256x1024x3_0_1_2_3 (broadcastInDim S8x1x1024x3 ![0, 2, 3] bcast_S8x1024x3_S8x1x1024x3_0_2_3 x)))) (constant S_ .f32 0x00000000#32) reducesTo_S8x256x1024x3_S8x256x1024_d3 h_S_

/-- The candidates: a point's number if it is within the radius, 1024 if it is not. -/
def cands (d : FVec Ideal S8x256x1024 .f32) : IVec S8x256x1024 32 :=
  select (cmpf .olt d (broadcastInDim S8x256x1024 ![] bcast_S_S8x256x1024 (constant S_ .f32 0x3DB851EC#32))) (broadcastInDim S8x256x1024 ![0, 1, 2] bcast_S1x1x1024_S8x256x1024_0_1_2 (broadcastInDim S1x1x1024 ![2] bcast_S1024_S1x1x1024_2 (iotaInDim S1024 32 0))) (broadcastInDim S8x256x1024 ![] bcast_S_S8x256x1024 (id (constantI S_ 32 1024#32)))

/-- The first sixteen, the first of them for 1024, and the batch's offset. -/
def firsts (s : IVec S8x256x1024 32) : IVec S8x256x16 32 :=
  addi (select (cmpi .eq (extractStridedSlice S8x256x16 ![0, 0, 0] s slices_S8x256x1024_S8x256x16_0_0_0) (broadcastInDim S8x256x16 ![] bcast_S_S8x256x16 (constantI S_ 32 1024#32))) (broadcastInDim S8x256x16 ![0, 1, 2] bcast_S8x256x1_S8x256x16_0_1_2 (extractStridedSlice S8x256x1 ![0, 0, 0] (extractStridedSlice S8x256x16 ![0, 0, 0] s slices_S8x256x1024_S8x256x16_0_0_0) slices_S8x256x16_S8x256x1_0_0_0)) (extractStridedSlice S8x256x16 ![0, 0, 0] s slices_S8x256x1024_S8x256x16_0_0_0)) (broadcastInDim S8x256x16 ![0, 1, 2] bcast_S8x1x1_S8x256x16_0_1_2 (muli (broadcastInDim S8x1x1 ![] bcast_S_S8x1x1 (constantI S_ 32 1024#32)) (broadcastInDim S8x1x1 ![0] bcast_S8_S8x1x1_0 (iotaInDim S8 32 0))))

/-- The row numbers. -/
def rows (v : FVec Ideal S8x256x3 .f32) (x : FVec Ideal S8x1024x3 .f32) : IVec S8x256x16 32 :=
  firsts (Host.sort S8x256x1024 2 comparator_i32_d2 (cands (distances v x)))

theorem distances_apply (v : FVec Ideal S8x256x3 .f32) (x : FVec Ideal S8x1024x3 .f32) (t : Fin 8) (r : Fin 256) (n : Fin 1024) :
    distances v x (ix3 t r n) = (v (ix3 t r 0) - x (ix3 t n 0)) * (v (ix3 t r 0) - x (ix3 t n 0))
      + (v (ix3 t r 1) - x (ix3 t n 1)) * (v (ix3 t r 1) - x (ix3 t n 1)) + (v (ix3 t r 2) - x (ix3 t n 2)) * (v (ix3 t r 2) - x (ix3 t n 2)) := by
  pointwise [distances]
  rw [Fin.sum_univ_three]

theorem cands_apply (d : FVec Ideal S8x256x1024 .f32) (t : Fin 8) (r : Fin 256) (n : Fin 1024) :
    cands d (ix3 t r n) = BitVec.ofNat 32 (cand (fun n => flag (d (ix3 t r n))) n) := by
  have e : cands d (ix3 t r n) = if d (ix3 t r n) < Ideal.ofBits .f32 0x3DB851EC#32 then BitVec.ofNat 32 n.val else 1024#32 := by
    pointwise [cands]
    rfl
  rw [e]
  unfold cand
  by_cases h : d (ix3 t r n) < Ideal.ofBits .f32 0x3DB851EC#32
  · rw [if_pos h, if_pos ((flag_eq _).2 h)]
  · rw [if_neg h, if_neg fun h' => h ((flag_eq _).1 h')]

/-- Sorting candidates: the `j`-th of the sorted is the `j`-th least. -/
theorem sort_apply (w : IVec S8x256x1024 32) (t : Fin 8) (r : Fin 256) (b : Fin 1024 → BitVec 1)
    (h : ∀ n, w (ix3 t r n) = BitVec.ofNat 32 (cand b n)) (j : Fin 1024) :
    Host.sort S8x256x1024 2 comparator_i32_d2 w (ix3 t r j) = BitVec.ofNat 32 (nth b j.val) := by
  have al (k : Fin 1024) : Shape.Idx.along (s := S8x256x1024) (ix3 t r j) 2 k = ix3 t r k := by
    funext a
    match a with
    | ⟨0, _⟩ => rfl
    | ⟨1, _⟩ => rfl
    | ⟨2, _⟩ => rfl
  let B (k k' : Fin 1024) : Bool := comparator_i32_d2 (w (ix3 t r k)) (w (ix3 t r k')) == 1#1
  have hB (k k' : Fin 1024) : B k k' = decide (cand b k < cand b k') := by
    have hk := cand_le b k
    have hk' := cand_le b k'
    have e : ∀ v : Bool, (BitVec.ofBool v == 1#1) = v := by decide
    show (BitVec.ofBool ((w (ix3 t r k)).slt (w (ix3 t r k'))) == 1#1) = _
    rw [e, h, h, BitVec.slt_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega), Bool.eq_iff_iff, decide_eq_true_eq, decide_eq_true_eq]
    omega
  have hm : ∀ i j, i < j → cand b (sortedFrom B i) ≤ cand b (sortedFrom B j) := by
    intro i j hij
    have := sortedFrom_noInversion B B (by simp only [hB, decide_eq_true_eq, decide_eq_false_iff_not]; omega) (fun _ _ h => h)
      (by simp only [hB, decide_eq_false_iff_not]; omega) i j hij
    simpa only [hB, decide_eq_false_iff_not, not_lt] using this
  have e : Host.sort S8x256x1024 2 comparator_i32_d2 w (ix3 t r j) = w (ix3 t r (sortedFrom B j)) := by
    unfold Host.sort
    rw [dif_pos (by decide : 2 < S8x256x1024.rank)]
    have hf : (fun k k' : Fin 1024 => comparator_i32_d2 (w (Shape.Idx.along (s := S8x256x1024) (ix3 t r j) 2 k)) (w (Shape.Idx.along (s := S8x256x1024) (ix3 t r j) 2 k')) == 1#1) = B :=
      funext fun k => funext fun k' => congrArg₂ (fun a a' => comparator_i32_d2 a a' == 1#1) (congrArg w (al k)) (congrArg w (al k'))
    exact congrArg w ((congrArg (Shape.Idx.along (s := S8x256x1024) (ix3 t r j) 2) (congrFun (congrArg sortedFrom hf) j)).trans (al _))
  rw [e, h, nth_eq b _ (sortedFrom_surjective B) (sortedFrom_injective B) hm j]

/-- A row number of the reference. -/
theorem rows_apply (v : FVec Ideal S8x256x3 .f32) (x : FVec Ideal S8x1024x3 .f32) (t : Fin 8) (r : Fin 256) (j : Fin 16) :
    rows v x (ix3 t r j) = place (fun n => flag (distances v x (ix3 t r n))) (BitVec.ofNat 32 t.val) j.val := by
  have s (j : Fin 1024) := sort_apply _ t r _ (cands_apply (distances v x) t r) j
  unfold rows
  have e (u : IVec S8x256x1024 32) : firsts u (ix3 t r j) = IntOp.addi (if u (ix3 t r ⟨j.val, by omega⟩) = 1024#32 then u (ix3 t r 0) else u (ix3 t r ⟨j.val, by omega⟩))
      (IntOp.muli 1024#32 (BitVec.ofNat 32 t.val)) := by
    have e2 : ∀ a b c e : BitVec 32, Scalar.select (IntOp.cmpi .eq a b) c e = if a = b then c else e := by
      intro a b c e
      unfold Scalar.select IntOp.cmpi
      by_cases h : a = b
      · simp [h]
      · have h' : (a == b) = false := beq_eq_false_iff_ne.2 h
        simp [h, h']
    rw [← e2]
    pointwise [firsts]
  have hw : ∀ n, n ≤ 1024 → (BitVec.ofNat 32 n = 1024#32 ↔ n = 1024) := by
    intro n hn
    rw [BitVec.toNat_eq, BitVec.toNat_ofNat, BitVec.toNat_ofNat, Nat.mod_eq_of_lt (by omega), Nat.mod_eq_of_lt (by omega)]
  rw [e, s, s]
  unfold place
  simp only [hw _ (nth_le _ _), apply_ite (BitVec.ofNat 32)]
  rw [show IntOp.muli 1024#32 (BitVec.ofNat 32 t.val) = IntOp.muli (BitVec.ofNat 32 t.val) 1024#32 from BitVec.mul_comm _ _]
  rfl

end Cert.PointsReferenceIdeal

namespace Cert.PointsIdeal

open Cert.PointsIdeal.Gen
open Idealize.ShloMosaic Idealize.ShloMosaic.TcCoe Idealize.SL.Sem

set_option maxHeartbeats 1000000

variable (m : (ℓ : Loc nD τ sig) → Buf (Elt Ideal) ℓ) (c : Dev nD)

/-! ## The kernel -/

/-- The points' coordinates, a coordinate to a row. -/
theorem V_v5 : V m c main_v5 = transpose S8x8x1024 [0, 2, 1] (extractStridedSlice S8x1024x8 ![0, 0, 0] (concatenate S8x1024x16 2 [⟨S8x1024x3, (m ((c : Thread nD τ).loc main_arg0) : FVec Ideal S8x1024x3 .f32)⟩,
    ⟨S8x1024x13, broadcastInDim S8x1024x13 ![] bcast_S_S8x1024x13 (constant S_ .f32 0x00000000#32 : FVec Ideal S_ .f32)⟩]
    concatenates_S8x1024x3_S8x1024x13_S8x1024x16_d2) slices_S8x1024x16_S8x1024x8_0_0_0) transposes_S8x1024x8_S8x8x1024_0_2_1 := by
  show StableHlo.after hostOps0 (fun b => m (c, b)) (Proc.tc.devRef main_v5) = _
  simp only [hostOps0]
  after_results

theorem idx1 : ∀ t : Fin grid0.N, win0_1.index t = ![t.val, 0, 0] := by decide +kernel
theorem idx6 : ∀ t : Fin grid0.N, win0_6.index t = ![t.val, 0, 0] := by decide +kernel
theorem coord0 : ∀ t : Fin grid0.N, (grid0.coords t 0).val = t.val := by decide +kernel

/-- The first three rows of the transposed coordinates. -/
theorem x1_apply (t : Fin cfg0.N) (k : Fin 3) (n : Fin 1024) : (iblk m c 1 t : FVec Ideal S1x8x1024 .f32) (ix3 0 ⟨k.val, by omega⟩ n) = X m c (ix3 t n k) := by
  have h : (iblk m c 1 t : FVec Ideal S1x8x1024 .f32) (ix3 0 ⟨k.val, by omega⟩ n)
      = (V m c main_v5 : FVec Ideal S8x8x1024 .f32) (ix3 t ⟨k.val, by omega⟩ n) := by
    show iblk m c 1 t _ = _
    blk_simp [iblk]
    blk_ext [idx1 t]
  rw [h, V_v5]
  pointwise

theorem ld8 (x : S1x8x1024.Idx → Elt Ideal .f32) (n : Fin 1024) : View.ld x r0_8 (ix3 0 0 n) = x (ix3 0 0 n) := by
  refine View.ld_unit_apply_of _ _ _ _ _ _ fun a => ?_
  match a with
  | ⟨0, _⟩ => rfl
  | ⟨1, _⟩ => rfl
  | ⟨2, _⟩ => exact (Nat.zero_add _).symm
theorem ld9 (x : S1x8x1024.Idx → Elt Ideal .f32) (n : Fin 1024) : View.ld x r0_9 (ix3 0 0 n) = x (ix3 0 1 n) := by
  refine View.ld_unit_apply_of _ _ _ _ _ _ fun a => ?_
  match a with
  | ⟨0, _⟩ => rfl
  | ⟨1, _⟩ => rfl
  | ⟨2, _⟩ => exact (Nat.zero_add _).symm
theorem ld10 (x : S1x8x1024.Idx → Elt Ideal .f32) (n : Fin 1024) : View.ld x r0_10 (ix3 0 0 n) = x (ix3 0 2 n) := by
  refine View.ld_unit_apply_of _ _ _ _ _ _ fun a => ?_
  match a with
  | ⟨0, _⟩ => rfl
  | ⟨1, _⟩ => rfl
  | ⟨2, _⟩ => exact (Nat.zero_add _).symm
/-- The squared distances the kernel takes at point `t`. -/
def dist (t : Fin cfg0.N) : FVec Ideal S256x1024 .f32 :=
  k0_pay12 (F := Ideal) (k0_pay3 (iblk m c 0 t) (iblk m c 3 t)) (View.ld (iblk m c 1 t) r0_8) (View.ld (iblk m c 1 t) r0_9) (View.ld (iblk m c 1 t) r0_10)

theorem pay12_apply (v : FVec Ideal S256x16 .f32) (a b e : FVec Ideal S1x1x1024 .f32) (r : Fin 256) (n : Fin 1024) :
    k0_pay12 (F := Ideal) v a b e (ix2 r n) = (v (ix2 r 0) - a (ix3 0 0 n)) * (v (ix2 r 0) - a (ix3 0 0 n))
      + (v (ix2 r 1) - b (ix3 0 0 n)) * (v (ix2 r 1) - b (ix3 0 0 n)) + (v (ix2 r 2) - e (ix3 0 0 n)) * (v (ix2 r 2) - e (ix3 0 0 n)) := by
  pointwise [k0_pay12, k0_pay9, k0_pay10, k0_pay11]

/-- The row numbers' block at point `t`. -/
def outR (t : Fin cfg0.N) : IVec S1x256x16 32 := rowsOut (BitVec.ofNat 32 t.val) (dist m c t)

/-- The body's result for the row numbers, its loads read whole. -/
theorem afterR (t : Fin cfg0.N) : (dats m 0 c).after 6 t = outR m c t := by
  rw [after0_6, out0_6, View.canon_unit_zero (by decide), coord0]
  simp only [k0_pay87, k0_pay88, k0_pay89, k0_pay90, k0_pay83, ld0, ld1]
  exact rounds_eq _ _

attribute [local irreducible] outR

/-- The row numbers: every block is written back, at its own batch. -/
theorem finalR : ((dats m 0 c).arrAt 6 cfg0.N : IVec S8x256x16 32) = fun y => outR m c (y 0) (ix3 0 (y 1) (y 2)) := by
  refine (dats m 0 c).arrAt_eq_of_covers 6 _ (by decide +kernel) fun t hf y => ?_
  have key : ∀ (t' : Fin cfg0.N) (y' : S1x256x16.Idx), t' = t → y' = y → outR m c t' y' = outR m c t y := by
    rintro _ _ rfl rfl; rfl
  blk_simp
  rw [afterR]
  refine (key _ _ (Fin.ext ?_) ?_).symm
  · blk_simp [idx6 t]
  · blk_ext [idx6 t]

open Cert.PointsReferenceIdeal (centres centres_apply rows rows_apply distances distances_apply)

variable {m c} (h : ∀ j, X m c j ≠ (⊤ : EReal) ∧ X m c j ≠ (⊥ : EReal)) (hi : ∀ j, (Ind m c j).toNat < 1024)
include h hi

/-- They are the reference's. -/
theorem rows_eq : (dats m 0 c).arrAt 6 cfg0.N = rows (centres (X m c) (Ind m c)) (X m c) := by
  refine (finalR m c).trans ?_
  have hd (t : Fin cfg0.N) (r : Fin 256) (n : Fin 1024) : dist m c t (ix2 r n) = distances (centres (X m c) (Ind m c)) (X m c) (ix3 t r n) := by
    have e (k : Fin 3) := (centre_apply h hi t r ⟨k.val, by omega⟩).trans (x0_low m c t _ k)
    unfold dist
    rw [pay12_apply, ld8, ld9, ld10, show k0_pay3 (F := Ideal) (iblk m c 0 t) (iblk m c 3 t) (ix2 r 0) = _ from e 0,
      show k0_pay3 (F := Ideal) (iblk m c 0 t) (iblk m c 3 t) (ix2 r 1) = _ from e 1, show k0_pay3 (F := Ideal) (iblk m c 0 t) (iblk m c 3 t) (ix2 r 2) = _ from e 2,
      show (iblk m c 1 t : FVec Ideal S1x8x1024 .f32) (ix3 0 0 n) = _ from x1_apply m c t 0 n,
      show (iblk m c 1 t : FVec Ideal S1x8x1024 .f32) (ix3 0 1 n) = _ from x1_apply m c t 1 n,
      show (iblk m c 1 t : FVec Ideal S1x8x1024 .f32) (ix3 0 2 n) = _ from x1_apply m c t 2 n]
    refine (?_ : _ = _).trans (distances_apply _ _ (t : Fin 8) r n).symm
    rw [centres_apply _ _ (t : Fin 8) r (hi _), centres_apply _ _ (t : Fin 8) r (hi _), centres_apply _ _ (t : Fin 8) r (hi _)]
  have key (t : Fin 8) (r : Fin 256) (j : Fin 16) : outR m c t (ix3 0 r j) = rows (centres (X m c) (Ind m c)) (X m c) (ix3 t r j) := by
    unfold outR
    rw [rowsOut_apply, rows_apply]
    simp only [hd t r]
  funext i
  exact (key (i 0) (i 1) (i 2)).trans (congrArg _ (eq_ix3 i).symm)

end Cert.PointsIdeal
-- ==== Proof.PointsOrder.lean ====
/-
  The nearest entries of a row.

  The kernel takes the first of the least entries of a row sixteen times, each time marking its place and overwriting it
  with a large number; the reference sorts the row, keeping equal entries in order, and takes the places of the first
  sixteen.  If every entry is below the large number, the place marked in round `k` is the `k`-th of the sorted
  (`isFirst_iter`), so the marked places are the first sixteen of the sorted (`marks_iff`).
-/
module

public import Idealize.ShloMosaic.Lib.SortFacts
public import Mathlib.Data.EReal.Basic

@[expose] public section

noncomputable section

namespace Cert.PointsOrder

open Idealize.ShloMosaic

variable {n : ℕ}

/-- Whether an entry of a row is less than another. -/
def below (D : Fin n → EReal) (a b : Fin n) : Bool := decide (D a < D b)
/-- Whether an entry comes before another: it is less, or equal and earlier in the row. -/
def before (D : Fin n → EReal) (a b : Fin n) : Bool := decide (D a < D b ∨ (D a = D b ∧ a < b))

/-- On places in increasing order, sorting by the entries alone is sorting by the entries and then the places. -/
theorem stableSort_eq (D : Fin n → EReal) (l : List (Fin n)) (h : l.Pairwise (· < ·)) :
    stableSort (below D) l = stableSort (before D) l := by
  induction l with
  | nil => rfl
  | cons a l ih =>
    rw [List.pairwise_cons] at h
    unfold stableSort
    rw [ih h.2]
    refine insertBefore_congr _ _ _ _ fun b hb => ?_
    have hab := h.1 b ((perm_stableSort _ l).mem_iff.1 hb)
    unfold below before
    rw [decide_eq_decide]
    exact ⟨.inl, fun h => h.elim id fun h => absurd h.2 (not_lt.2 hab.le)⟩

/-- The place that sorting puts at `k`. -/
def seat (D : Fin n → EReal) (k : Fin n) : Fin n := sortedFrom (below D) k

/-- Every place is put somewhere. -/
theorem seat_surjective (D : Fin n → EReal) : Function.Surjective (seat D) := sortedFrom_surjective _
/-- No place is put twice. -/
theorem seat_injective (D : Fin n → EReal) : Function.Injective (seat D) := sortedFrom_injective _

/-- An earlier place of the sorted comes before a later one. -/
theorem seat_before (D : Fin n → EReal) (i j : Fin n) (hij : i < j) :
    D (seat D i) < D (seat D j) ∨ (D (seat D i) = D (seat D j) ∧ seat D i < seat D j) := by
  have e : sortedFrom (below D) = sortedFrom (before D) := by
    funext k
    unfold sortedFrom
    have : sortPositions n (below D) = sortPositions n (before D) :=
      stableSort_eq D _ (List.pairwise_lt_finRange n)
    rw [List.get_of_eq this]
    rfl
  have h := sortedFrom_noInversion (before D) (before D)
    (by
      simp only [before, decide_eq_true_eq, decide_eq_false_iff_not]
      rintro a b (h | h) (h' | h')
      · exact lt_asymm h h'
      · exact absurd h'.1 h.ne'
      · exact absurd h.1 h'.ne'
      · exact lt_asymm h.2 h'.2)
    (fun _ _ h => h)
    (by
      simp only [before, decide_eq_false_iff_not, not_or, not_and, not_lt]
      rintro a b c ⟨h1, h2⟩ ⟨h3, h4⟩
      refine ⟨h3.trans h1, fun he => ?_⟩
      have e1 : D b = D a := le_antisymm h1 (he ▸ h3)
      exact (h4 (e1.trans he)).trans (h2 e1.symm)) i j hij
  have hne : seat D i ≠ seat D j := fun he => hij.ne (seat_injective D he)
  simp only [before, decide_eq_false_iff_not, not_or, not_and, not_lt, ← e] at h
  rcases lt_or_eq_of_le h.1 with hl | he
  · exact .inl hl
  · exact .inr ⟨he, lt_of_le_of_ne (h.2 he.symm) hne⟩

/-- Whether an entry is the first of the least ones. -/
def IsFirst (D : Fin n → EReal) (a : Fin n) : Prop := (∀ b, D a ≤ D b) ∧ ∀ b, b < a → D a < D b

open Classical in
/-- A row with the first of its least entries overwritten. -/
def strike (u : EReal) (D : Fin n → EReal) : Fin n → EReal := fun a => if IsFirst D a then u else D a

open Classical in
/-- One of its entries. -/
theorem strike_apply (u : EReal) (D : Fin n → EReal) (a : Fin n) : strike u D a = if IsFirst D a then u else D a := rfl

/-- The first of the least is one only. -/
theorem IsFirst.unique {D : Fin n → EReal} {a b : Fin n} (ha : IsFirst D a) (hb : IsFirst D b) : a = b := by
  rcases lt_trichotomy a b with h | h | h
  · exact absurd (hb.2 a h) (not_lt.2 (ha.1 b))
  · exact h
  · exact absurd (ha.2 b h) (not_lt.2 (hb.1 a))

open Classical in
/-- In a row whose first `k` of the sorted are overwritten, the next is the first of the least. -/
theorem isFirst_of (u : EReal) (D : Fin n → EReal) (hu : ∀ a, D a < u) (k : Fin n) (E : Fin n → EReal)
    (hE : ∀ a, E a = if ∃ i : Fin n, i < k ∧ seat D i = a then u else D a) (a : Fin n) : IsFirst E a ↔ a = seat D k := by
  have hk : IsFirst E (seat D k) := by
    have e : E (seat D k) = D (seat D k) := by
      rw [hE, if_neg]
      rintro ⟨i, hi, he⟩
      exact hi.ne (seat_injective D he)
    constructor
    · intro b
      rw [e, hE]
      split
      · exact (hu _).le
      · rename_i hn
        obtain ⟨i, rfl⟩ := seat_surjective D b
        rcases lt_trichotomy i k with h | rfl | h
        · exact absurd ⟨i, h, rfl⟩ hn
        · exact le_rfl
        · rcases seat_before D k i h with h | h
          · exact h.le
          · exact h.1.le
    · intro b hb
      rw [e, hE]
      split
      · exact hu _
      · rename_i hn
        obtain ⟨i, rfl⟩ := seat_surjective D b
        rcases lt_trichotomy i k with h | rfl | h
        · exact absurd ⟨i, h, rfl⟩ hn
        · exact absurd hb (lt_irrefl _)
        · rcases seat_before D k i h with h | h
          · exact h
          · exact absurd hb (lt_asymm h.2)
  exact ⟨fun h => h.unique hk, fun h => h ▸ hk⟩

open Classical in
/-- After `k` rounds the first `k` of the sorted are overwritten. -/
theorem strike_iter (u : EReal) (D : Fin n → EReal) (hu : ∀ a, D a < u) (k : ℕ) (hk : k ≤ n) (a : Fin n) :
    (strike u)^[k] D a = if ∃ i : Fin n, i.val < k ∧ seat D i = a then u else D a := by
  induction k generalizing a with
  | zero => simp
  | succ k ih =>
    rw [Function.iterate_succ_apply']
    rw [strike_apply, isFirst_of u D hu ⟨k, by omega⟩ _ (fun a => ih (by omega) a) a, ih (by omega)]
    by_cases h : a = seat D ⟨k, by omega⟩
    · rw [if_pos h, if_pos ⟨⟨k, by omega⟩, Nat.lt_succ_self k, h.symm⟩]
    · rw [if_neg h]
      congr 1
      rw [eq_iff_iff]
      constructor
      · rintro ⟨i, hi, e⟩
        exact ⟨i, Nat.lt_succ_of_lt hi, e⟩
      · rintro ⟨i, hi, e⟩
        rcases Nat.lt_or_eq_of_le (Nat.le_of_lt_succ hi) with hl | he
        · exact ⟨i, hl, e⟩
        · exact absurd (by rw [← e]; exact congrArg _ (Fin.ext he)) h

/-- The place of round `k` is the `k`-th of the sorted. -/
theorem isFirst_iter (u : EReal) (D : Fin n → EReal) (hu : ∀ a, D a < u) (k : Fin n) (a : Fin n) :
    IsFirst ((strike u)^[k.val] D) a ↔ a = seat D k :=
  isFirst_of u D hu k _ (fun a => strike_iter u D hu k.val k.isLt.le a) a

/-- The places of the first `k` rounds are the first `k` of the sorted. -/
theorem marks_iff (u : EReal) (D : Fin n → EReal) (hu : ∀ a, D a < u) (k : ℕ) (hk : k ≤ n) (a : Fin n) :
    (∃ j, j < k ∧ IsFirst ((strike u)^[j] D) a) ↔ ∃ i : Fin n, i.val < k ∧ seat D i = a :=
  ⟨fun ⟨j, hj, h⟩ => ⟨⟨j, by omega⟩, hj, ((isFirst_iter u D hu ⟨j, by omega⟩ a).1 h).symm⟩,
    fun ⟨i, hi, h⟩ => ⟨i.val, hi, (isFirst_iter u D hu i a).2 h.symm⟩⟩

end Cert.PointsOrder
-- ==== Proof.PointsLinks.lean ====
/-
  The nearest neighbours the kernel marks.

  In each of sixteen rounds the kernel takes, in every row of the distances, the first of the least entries, marks its
  place and overwrites it with a large number.  The marks are then made symmetric and the diagonal is set.  Here the
  body's values are read as those rounds (`links_eq`), and their result entry by entry (`links_apply`).
-/
module

public import proofs.«01_k».proof.Proof.PointsNear
public import proofs.«01_k».proof.Proof.PointsOrder

@[expose] public section

set_option maxRecDepth 16384

noncomputable section

namespace Cert.PointsIdeal

open Cert.PointsIdeal.Gen Cert.PointsOrder
open Idealize.ShloMosaic Idealize.ShloMosaic.TcCoe

set_option maxHeartbeats 1000000

/-! ## The kernel's rounds -/

/-- Each row's least entry, throughout the row, as the kernel takes it. -/
def rowLeast (D : FVec Ideal S256x256 .f32) : FVec Ideal S256x256 .f32 :=
  broadcastTo S256x256 (shapeCast S256x1 (multiReduction .minimumf [1] S256 D 0x7F800000#32 reduces_S256x256_S256 (.inl rfl) rfl : FVec Ideal S256 .f32) shapeCasts_S256_S256x1) broadcasts_S256x1_S256x256

/-- Each entry's place if it is a least one of its row, 4096 if it is not. -/
def spots (D : FVec Ideal S256x256 .f32) : FVec Ideal S256x256 .f32 :=
  select (cmpf .oeq D (rowLeast D)) (k0_pay48 (F := Ideal)) (broadcast S256x256 (Scalar.ofBits .f32 0x45800000#32 : Ideal .f32))

/-- Whether an entry is the first of the least ones of its row, as the kernel finds it. -/
def pick (D : FVec Ideal S256x256 .f32) : IVec S256x256 1 := cmpf .oeq (k0_pay48 (F := Ideal)) (rowLeast (spots D))

/-- The distances with the entries found overwritten. -/
def struck (D : FVec Ideal S256x256 .f32) : FVec Ideal S256x256 .f32 :=
  select (pick D) (broadcast S256x256 (Scalar.ofBits .f32 0x7149F2CA#32 : Ideal .f32)) D

/-- The marks with those of the entries found. -/
def marked (D M : FVec Ideal S256x256 .f32) : FVec Ideal S256x256 .f32 :=
  select (pick D) (broadcast S256x256 (Scalar.ofBits .f32 0x3F800000#32 : Ideal .f32)) M

/-- The marks after `k` rounds. -/
def marks (D : FVec Ideal S256x256 .f32) : ℕ → FVec Ideal S256x256 .f32
  | 0 => k0_pay49 (F := Ideal)
  | k + 1 => marked (struck^[k] D) (marks D k)

/-- The marks made symmetric, with the diagonal set. -/
def closed (M : FVec Ideal S256x256 .f32) : FVec Ideal S256x256 .f32 :=
  select (cmpf .oeq (k0_pay48 (F := Ideal)) (sitofp .f32 (iota .tc S256x256 32 [0] iota_S256x256_d0_w32)))
    (broadcast S256x256 (Scalar.ofBits .f32 0x3F800000#32 : Ideal .f32)) (maximumf M (transpose S256x256 [1, 0] M transposes_S256x256_p1_0_S256x256))

/-- What the call stores of the adjacency. -/
def links (D : FVec Ideal S256x256 .f32) : FVec Ideal S1x256x256 .f32 := k0_pay1 (closed (marks D 16))

/-- The place of the entry found in each row. -/
def found (D : FVec Ideal S256x256 .f32) : FVec Ideal S256x1 .f32 :=
  shapeCast S256x1 (multiReduction .minimumf [1] S256 (spots D) 0x7F800000#32 reduces_S256x256_S256 (.inl rfl) rfl : FVec Ideal S256 .f32) shapeCasts_S256_S256x1

/-- The distances the kernel takes of the centres. -/
def spans (v : FVec Ideal S256x16 .f32) : FVec Ideal S256x256 .f32 :=
  k0_pay47 (F := Ideal) v (k0_pay9 v) (k0_pay10 v) (k0_pay11 v)

/-! ### A round at an entry -/

/-- A place as a float. -/
theorem spot_eq (r n : Fin 256) : k0_pay48 (F := Ideal) (ix2 r n) = ((n.val : ℝ) : EReal) := by
  rw [← number_eq n.val (by omega)]
  pointwise [k0_pay48]

/-- 4096 as a float. -/
theorem far_eq : Ideal.ofBits FTy.f32 0x45800000#32 = (((4096 : ℕ) : ℝ) : EReal) := by
  simp [Ideal.ofBits, Ideal.ieee, -EReal.coe_mul]; norm_num

/-- A row's least entry. -/
theorem rowLeast_apply (D : FVec Ideal S256x256 .f32) (r n : Fin 256) :
    rowLeast D (ix2 r n) = Finset.fold min ⊤ (fun k => D (ix2 r k)) Finset.univ := by
  rw [← top_eq]
  pointwise [rowLeast]

/-- A choice by an equality of floats. -/
theorem select_eq (a b x y : EReal) : Scalar.select (FloatOps.cmpf (F := Ideal) (φ := .f32) .oeq a b) x y = if a = b then x else y := by
  show Scalar.select (Ideal.cmp .oeq _ _) _ _ = _
  unfold Ideal.cmp Scalar.select
  by_cases h : a = b <;> simp [h]

open Classical in
/-- The place of a least entry. -/
theorem spots_apply (D : FVec Ideal S256x256 .f32) (r n : Fin 256) :
    spots D (ix2 r n) = if D (ix2 r n) = Finset.fold min ⊤ (fun k => D (ix2 r k)) Finset.univ then ((n.val : ℝ) : EReal) else (((4096 : ℕ) : ℝ) : EReal) := by
  rw [← rowLeast_apply D r n, ← spot_eq r n, ← far_eq, ← select_eq]
  rfl

/-- The entry found is the first of the least ones. -/
theorem pick_apply (D : FVec Ideal S256x256 .f32) (r n : Fin 256) :
    pick D (ix2 r n) = 1#1 ↔ IsFirst (fun k => D (ix2 r k)) n := by
  have e : pick D (ix2 r n) = Ideal.cmp .oeq (k0_pay48 (F := Ideal) (ix2 r n)) (rowLeast (spots D) (ix2 r n)) := by
    pointwise [pick]
  rw [e, spot_eq, rowLeast_apply]
  unfold Ideal.cmp
  simp only [spots_apply]
  set m := Finset.fold min ⊤ (fun k => D (ix2 r k)) Finset.univ with hm
  have hm' (k : Fin 256) : m ≤ D (ix2 r k) := by
    rw [hm, Finset.fold_min_le]; exact .inr ⟨k, Finset.mem_univ k, le_rfl⟩
  rw [show ∀ b : Bool, (BitVec.ofBool b = 1#1 ↔ b = true) by decide, decide_eq_true_eq]
  constructor
  · intro h
    have h1 := Finset.fold_min_le (b := (⊤ : EReal)) (f := fun k : Fin 256 => if D (ix2 r k) = m then ((k.val : ℝ) : EReal) else (((4096 : ℕ) : ℝ) : EReal)) (s := Finset.univ) ((n.val : ℝ) : EReal)
    have h2 := Finset.le_fold_min (b := (⊤ : EReal)) (f := fun k : Fin 256 => if D (ix2 r k) = m then ((k.val : ℝ) : EReal) else (((4096 : ℕ) : ℝ) : EReal)) (s := Finset.univ) ((n.val : ℝ) : EReal)
    have h2 := (h2.1 h.le).2
    have hb (b : Fin 256) (hb : D (ix2 r b) = m) : n ≤ b := by
      have := h2 b (Finset.mem_univ b)
      simp only [hb, if_true, nat_le_iff] at this
      exact this
    have hn : D (ix2 r n) = m := by
      rcases h1.1 h.ge with h | ⟨k, _, h⟩
      · exact absurd (top_le_iff.1 h) (EReal.coe_ne_top _)
      · by_cases hk : D (ix2 r k) = m
        · rw [if_pos hk, nat_le_iff] at h
          rw [← hk, show n = k from le_antisymm (hb k hk) h]
        · rw [if_neg hk, nat_le_iff] at h
          omega
    have hle (b : Fin 256) : D (ix2 r n) ≤ D (ix2 r b) := by rw [hn]; exact hm' b
    refine ⟨hle, fun b hlt => lt_of_le_of_ne (hle b) fun he => ?_⟩
    exact absurd (hb b (he.symm.trans hn)) (not_le.2 hlt)
  · rintro ⟨h1, h2⟩
    have hn : D (ix2 r n) = m := by
      refine le_antisymm ?_ (hm' n)
      rw [hm, Finset.le_fold_min]
      exact ⟨le_top, fun k _ => h1 k⟩
    apply le_antisymm
    · rw [Finset.le_fold_min]
      refine ⟨le_top, fun k _ => ?_⟩
      split
      · rename_i hk
        rw [nat_le_iff]
        by_contra hl
        exact absurd (h2 k (by rw [Fin.lt_def]; omega)) (by dsimp only; rw [hn, hk]; exact lt_irrefl _)
      · rw [nat_le_iff]; omega
    · rw [Finset.fold_min_le]
      exact .inr ⟨n, Finset.mem_univ n, by rw [if_pos hn]⟩

/-- The number the kernel overwrites with. -/
def huge : EReal := Ideal.ofBits .f32 0x7149F2CA#32

open Classical in
/-- A choice by the entry found. -/
theorem select_pick (D : FVec Ideal S256x256 .f32) (r n : Fin 256) (x y : EReal) :
    Scalar.select (pick D (ix2 r n)) x y = if IsFirst (fun k => D (ix2 r k)) n then x else y := by
  change (if pick D (ix2 r n) = 1#1 then x else y) = _
  by_cases h : pick D (ix2 r n) = 1#1
  · rw [if_pos h, if_pos ((pick_apply D r n).1 h)]
  · rw [if_neg h, if_neg fun h' => h ((pick_apply D r n).2 h')]

/-- A row of the distances with the entry found overwritten. -/
theorem struck_apply (D : FVec Ideal S256x256 .f32) (r n : Fin 256) :
    struck D (ix2 r n) = Scalar.select (pick D (ix2 r n)) huge (D (ix2 r n)) := by
  unfold huge
  pointwise [struck]

/-- The rounds on a row. -/
theorem struck_iter (D : FVec Ideal S256x256 .f32) (r : Fin 256) (k : ℕ) :
    (fun n => (struck^[k] D) (ix2 r n)) = (strike huge)^[k] fun n => D (ix2 r n) := by
  induction k with
  | zero => rfl
  | succ k ih =>
    funext n
    rw [Function.iterate_succ_apply', Function.iterate_succ_apply', strike_apply, ← ih]
    exact (struck_apply _ r n).trans (select_pick _ r n _ _)

/-- 1 as a float. -/
theorem one_eq : Ideal.ofBits FTy.f32 0x3F800000#32 = (1 : EReal) := by
  simp [Ideal.ofBits, Ideal.ieee, -EReal.coe_mul]; norm_num

open Classical in
/-- The marks of a row. -/
theorem marks_apply (D : FVec Ideal S256x256 .f32) (r n : Fin 256) (k : ℕ) :
    marks D k (ix2 r n) = if ∃ j, j < k ∧ IsFirst ((strike huge)^[j] fun n => D (ix2 r n)) n then (1 : EReal) else 0 := by
  induction k with
  | zero =>
    have h : marks D 0 (ix2 r n) = Ideal.ofBits FTy.f32 0x00000000#32 := rfl
    rw [h, show Ideal.ofBits FTy.f32 0x00000000#32 = 0 by simp [Ideal.ofBits, Ideal.ieee]]
    simp
  | succ k ih =>
    have h : marks D (k + 1) (ix2 r n) = Scalar.select (pick (struck^[k] D) (ix2 r n)) (Ideal.ofBits FTy.f32 0x3F800000#32) (marks D k (ix2 r n)) := by
      rw [marks]
      pointwise [marked]
    rw [h, select_pick, struck_iter, ih, one_eq]
    by_cases h1 : IsFirst ((strike huge)^[k] fun n => D (ix2 r n)) n
    · rw [if_pos h1, if_pos ⟨k, Nat.lt_succ_self k, h1⟩]
    · rw [if_neg h1]
      refine if_congr ?_ rfl rfl
      constructor
      · rintro ⟨j, hj, h⟩
        exact ⟨j, Nat.lt_succ_of_lt hj, h⟩
      · rintro ⟨j, hj, h⟩
        rcases Nat.lt_or_eq_of_le (Nat.le_of_lt_succ hj) with hl | rfl
        · exact ⟨j, hl, h⟩
        · exact absurd ‹IsFirst _ _› h1

/-- Whether one centre is among the sixteen nearest of another. -/
def Near (d : Fin 256 → Fin 256 → EReal) (r n : Fin 256) : Prop := ∃ i : Fin 256, i.val < 16 ∧ seat (d r) i = n

open Classical in
/-- An entry of the adjacency: whether one of the two centres is among the sixteen nearest of the other. -/
def link (d : Fin 256 → Fin 256 → EReal) (r n : Fin 256) : EReal := if r = n ∨ Near d r n ∨ Near d n r then 1 else 0

/-- The adjacency the kernel stores. -/
theorem links_apply (D : FVec Ideal S256x256 .f32) (hD : ∀ r n, D (ix2 r n) < huge) (r n : Fin 256) :
    links D (ix3 0 r n) = link (fun r n => D (ix2 r n)) r n := by
  have e : links D (ix3 0 r n) = Scalar.select (FloatOps.cmpf (F := Ideal) (φ := .f32) .oeq (k0_pay48 (F := Ideal) (ix2 r n)) (FloatOps.sitofp (F := Ideal) FTy.f32 (BitVec.ofNat 32 r.val)))
      (Ideal.ofBits FTy.f32 0x3F800000#32) (max (marks D 16 (ix2 r n)) (marks D 16 (ix2 n r))) := by
    unfold links
    generalize marks D 16 = M
    pointwise [k0_pay1, closed]
  rw [e, select_eq, spot_eq, number_eq _ (by omega), one_eq, marks_apply, marks_apply]
  simp only [nat_eq_iff]
  unfold link Near
  simp only [marks_iff huge _ (hD _) 16 (by omega)]
  by_cases h0 : r = n
  · rw [if_pos (by rw [h0]), if_pos (.inl h0)]
  · rw [if_neg fun h => h0 (Fin.ext h.symm)]
    by_cases h1 : ∃ i : Fin 256, i.val < 16 ∧ seat (fun n => D (ix2 r n)) i = n <;>
    by_cases h2 : ∃ i : Fin 256, i.val < 16 ∧ seat (fun r => D (ix2 n r)) i = r <;>
    simp [h0, h1, h2]

/-! ### The body's values are those rounds -/

/-- The printed chain of the body's values is the rounds. -/
theorem links_eq (D : FVec Ideal S256x256 .f32) :
    let w := k0_pay48 (F := Ideal)
    let s := found D
    let one := (Scalar.ofBits .f32 0x3F800000#32 : Ideal .f32)
    let big := (Scalar.ofBits .f32 0x7149F2CA#32 : Ideal .f32)
    let v245 := k0_pay57 D w s
    let v255 := k0_pay58 D w s
    let v287 := k0_pay63 w v245 v255
    let v297 := k0_pay64 w v245 v255
    let v343 := k0_pay73 w v287 v297 big
    k0_pay1 (k0_pay82 w (k0_pay79 w (k0_pay72 w v287 v297 (k0_pay65 w (k0_pay56 D w (k0_pay49 (F := Ideal)) s) v245 v255 one) big) v343)
      (k0_pay80 w v343) (k0_pay81 w v343)) = links D := by
  intro w s one big v245 v255 v287 v297 v343
  have p0 : k0_pay51 w s = pick D := rfl
  have a1 : k0_pay52 D w s = struck D := rfl
  have p1 : k0_pay53 D w s = pick (struck^[1] D) := by
    rw [show k0_pay53 D w s = pick (k0_pay52 D w s) from rfl, a1, Function.iterate_one]
  have a2 : k0_pay54 D w s = (struck^[2] D) := by
    rw [show k0_pay54 D w s = struck (k0_pay52 D w s) from rfl, a1]
    rw [Function.iterate_succ_apply', Function.iterate_one]
  have p2 : k0_pay55 D w s = pick (struck^[2] D) := by
    rw [show k0_pay55 D w s = pick (k0_pay54 D w s) from rfl, a2]
  have m3 : k0_pay56 D w (k0_pay49 (F := Ideal)) s = marks D 3 := by
    rw [show k0_pay56 D w (k0_pay49 (F := Ideal)) s = select (k0_pay55 D w s) (broadcast S256x256 one) (select (k0_pay53 D w s) (broadcast S256x256 one) (select (k0_pay51 w s) (broadcast S256x256 one) (k0_pay49 (F := Ideal)))) from rfl, p0, p1, p2]
    rfl
  have a3 : v245 = (struck^[3] D) := by
    rw [show v245 = struck (k0_pay54 D w s) from rfl, a2]
    exact (Function.iterate_succ_apply' struck 2 D).symm
  have p3 : v255 = pick (struck^[3] D) := by
    rw [show v255 = pick v245 from rfl, a3]
  have r4 (E : FVec Ideal S256x256 .f32) : k0_pay59 E (pick E) = struck E := rfl
  have a4 : k0_pay59 v245 v255 = (struck^[4] D) := by
    rw [p3, a3, r4]
    exact (Function.iterate_succ_apply' struck 3 D).symm
  have p4 : k0_pay60 w v245 v255 = pick (struck^[4] D) := by
    rw [show k0_pay60 w v245 v255 = pick (k0_pay59 v245 v255) from rfl, a4]
  have a5 : k0_pay61 w v245 v255 = (struck^[5] D) := by
    rw [show k0_pay61 w v245 v255 = select (k0_pay60 w v245 v255) (broadcast S256x256 big) (k0_pay59 v245 v255) from rfl, p4, a4]
    exact (Function.iterate_succ_apply' struck 4 D).symm
  have p5 : k0_pay62 w v245 v255 = pick (struck^[5] D) := by
    rw [show k0_pay62 w v245 v255 = pick (k0_pay61 w v245 v255) from rfl, a5]
  have a6 : v287 = (struck^[6] D) := by
    rw [show v287 = select (k0_pay62 w v245 v255) (broadcast S256x256 big) (k0_pay61 w v245 v255) from rfl, p5, a5]
    exact (Function.iterate_succ_apply' struck 5 D).symm
  have p6 : v297 = pick (struck^[6] D) := by
    rw [show v297 = pick v287 from rfl, a6]
  have m7 : k0_pay65 w (k0_pay56 D w (k0_pay49 (F := Ideal)) s) v245 v255 one = marks D 7 := by
    rw [show k0_pay65 w (k0_pay56 D w (k0_pay49 (F := Ideal)) s) v245 v255 one = select v297 (broadcast S256x256 one) (select (k0_pay62 w v245 v255) (broadcast S256x256 one) (select (k0_pay60 w v245 v255) (broadcast S256x256 one) (select v255 (broadcast S256x256 one) (k0_pay56 D w (k0_pay49 (F := Ideal)) s)))) from rfl, p6, p5, p4, p3, m3]
    rfl
  have a7 : k0_pay66 v287 v297 big = (struck^[7] D) := by
    rw [show k0_pay66 v287 v297 big = select v297 (broadcast S256x256 big) v287 from rfl, p6, a6]
    exact (Function.iterate_succ_apply' struck 6 D).symm
  have p7 : k0_pay67 w v287 v297 big = pick (struck^[7] D) := by
    rw [show k0_pay67 w v287 v297 big = pick (k0_pay66 v287 v297 big) from rfl, a7]
  have a8 : k0_pay68 w v287 v297 big = (struck^[8] D) := by
    rw [show k0_pay68 w v287 v297 big = select (k0_pay67 w v287 v297 big) (broadcast S256x256 big) (k0_pay66 v287 v297 big) from rfl, p7, a7]
    exact (Function.iterate_succ_apply' struck 7 D).symm
  have p8 : k0_pay69 w v287 v297 big = pick (struck^[8] D) := by
    rw [show k0_pay69 w v287 v297 big = pick (k0_pay68 w v287 v297 big) from rfl, a8]
  have a9 : k0_pay70 w v287 v297 big = (struck^[9] D) := by
    rw [show k0_pay70 w v287 v297 big = select (k0_pay69 w v287 v297 big) (broadcast S256x256 big) (k0_pay68 w v287 v297 big) from rfl, p8, a8]
    exact (Function.iterate_succ_apply' struck 8 D).symm
  have p9 : k0_pay71 w v287 v297 big = pick (struck^[9] D) := by
    rw [show k0_pay71 w v287 v297 big = pick (k0_pay70 w v287 v297 big) from rfl, a9]
  have a10 : v343 = (struck^[10] D) := by
    rw [show v343 = select (k0_pay71 w v287 v297 big) (broadcast S256x256 big) (k0_pay70 w v287 v297 big) from rfl, p9, a9]
    exact (Function.iterate_succ_apply' struck 9 D).symm
  have m10 : k0_pay72 w v287 v297 (marks D 7) big = marks D 10 := by
    rw [show k0_pay72 w v287 v297 (marks D 7) big = select (k0_pay71 w v287 v297 big) (broadcast S256x256 one) (select (k0_pay69 w v287 v297 big) (broadcast S256x256 one) (select (k0_pay67 w v287 v297 big) (broadcast S256x256 one) (marks D 7))) from rfl, p7, p8, p9]
    rfl
  have p10 : k0_pay74 w v343 = pick (struck^[10] D) := by
    rw [show k0_pay74 w v343 = pick v343 from rfl, a10]
  have a11 : k0_pay75 w v343 = (struck^[11] D) := by
    rw [show k0_pay75 w v343 = select (k0_pay74 w v343) (broadcast S256x256 big) v343 from rfl, p10, a10]
    exact (Function.iterate_succ_apply' struck 10 D).symm
  have p11 : k0_pay76 w v343 = pick (struck^[11] D) := by
    rw [show k0_pay76 w v343 = pick (k0_pay75 w v343) from rfl, a11]
  have a12 : k0_pay77 w v343 = (struck^[12] D) := by
    rw [show k0_pay77 w v343 = select (k0_pay76 w v343) (broadcast S256x256 big) (k0_pay75 w v343) from rfl, p11, a11]
    exact (Function.iterate_succ_apply' struck 11 D).symm
  have p12 : k0_pay78 w v343 = pick (struck^[12] D) := by
    rw [show k0_pay78 w v343 = pick (k0_pay77 w v343) from rfl, a12]
  have a13 : k0_pay80 w v343 = (struck^[13] D) := by
    rw [show k0_pay80 w v343 = select (k0_pay78 w v343) (broadcast S256x256 big) (k0_pay77 w v343) from rfl, p12, a12]
    exact (Function.iterate_succ_apply' struck 12 D).symm
  have m13 : k0_pay79 w (marks D 10) v343 = marks D 13 := by
    rw [show k0_pay79 w (marks D 10) v343 = select (k0_pay78 w v343) (broadcast S256x256 one) (select (k0_pay76 w v343) (broadcast S256x256 one) (select (k0_pay74 w v343) (broadcast S256x256 one) (marks D 10))) from rfl, p10, p11, p12]
    rfl
  have e13 : k0_pay81 w v343 = rowLeast (struck^[13] D) := by
    rw [show k0_pay81 w v343 = rowLeast (k0_pay80 w v343) from rfl, a13]
  have last (E M : FVec Ideal S256x256 .f32) : k0_pay82 w M E (rowLeast E)
      = closed (marked (struck (struck E)) (marked (struck E) (marked E M))) := rfl
  rw [m7, m10, m13, a13, e13, last, ← Function.iterate_succ_apply' struck, ← Function.iterate_succ_apply' struck]
  rfl

end Cert.PointsIdeal
-- ==== Proof.PointsSorted.lean ====
/-
  The reference's sorting of a row of distances, and the size of a distance.

  An argsort of a row carries the places along with the entries; its `k`-th place is the `k`-th of the sorted
  (`argsort_apply`).  The distance between two points whose coordinates are within the bound is below the number that the
  kernel overwrites with (`span_lt`).
-/
module

public import proofs.«01_k».proof.Proof.PointsLinks

@[expose] public section

set_option maxRecDepth 16384

noncomputable section

namespace Cert.PointsIdeal

open Cert.PointsIdeal.Gen Cert.PointsOrder
open Idealize.ShloMosaic Idealize.ShloMosaic.TcCoe

set_option maxHeartbeats 1000000

/-- The places an argsort of the rows gives. -/
theorem argsort_apply (before : EReal × BitVec 32 → EReal × BitVec 32 → BitVec 1)
    (hc : ∀ p q : EReal × BitVec 32, before p q = BitVec.ofBool (decide (p.1 < q.1)))
    (x : S8x256x256.Idx → EReal) (y : S8x256x256.Idx → BitVec 32) (hy : ∀ t r n, y (ix3 t r n) = BitVec.ofNat 32 n.val)
    (t : Fin 8) (r k : Fin 256) :
    (Host.sort2 S8x256x256 2 before x y).2 (ix3 t r k) = BitVec.ofNat 32 (seat (fun n => x (ix3 t r n)) k).val := by
  have al (n : Fin 256) : Shape.Idx.along (s := S8x256x256) (ix3 t r k) 2 n = ix3 t r n := by
    funext a
    match a with
    | ⟨0, _⟩ => rfl
    | ⟨1, _⟩ => rfl
    | ⟨2, _⟩ => rfl
  have hB : (fun n n' : Fin 256 => before (x (Shape.Idx.along (s := S8x256x256) (ix3 t r k) 2 n), y (Shape.Idx.along (s := S8x256x256) (ix3 t r k) 2 n))
      (x (Shape.Idx.along (s := S8x256x256) (ix3 t r k) 2 n'), y (Shape.Idx.along (s := S8x256x256) (ix3 t r k) 2 n')) == 1#1) = below fun n => x (ix3 t r n) := by
    funext n n'
    have e : ∀ v : Bool, (BitVec.ofBool v == 1#1) = v := by decide
    rw [hc, e]
    exact congrArg₂ (fun a b : S8x256x256.Idx => decide (x a < x b)) (al n) (al n')
  unfold Host.sort2
  rw [dif_pos (by decide : 2 < S8x256x256.rank)]
  refine Eq.trans ?_ (hy t r _)
  exact congrArg y ((congrArg (Shape.Idx.along (s := S8x256x256) (ix3 t r k) 2) (congrFun (congrArg sortedFrom hB) k)).trans (al _))

/-- The distance between two points. -/
def span (a b : Fin 3 → EReal) : EReal :=
  Ideal.sqrt ((a 0 - b 0) * (a 0 - b 0) + (a 1 - b 1) * (a 1 - b 1) + (a 2 - b 2) * (a 2 - b 2))

/-- The bound on the coordinates. -/
theorem bound_eq : Ideal.ofBits .f32 0x70622EA5#32 = (((14823077 * 2 ^ 74 : ℝ)) : EReal) := by
  simp [Ideal.ofBits, Ideal.ieee, -EReal.coe_mul]

/-- What is within the bound is finite. -/
theorem finite_of_bound (x : EReal) (h : max x (-x) < Ideal.ofBits .f32 0x70622EA5#32) : x ≠ ⊤ ∧ x ≠ ⊥ := by
  have h' := max_lt_iff.1 (h.trans_le le_top)
  refine ⟨h'.1.ne, fun hb => ?_⟩
  rw [hb] at h'
  exact absurd h'.2 (by simp)

/-- The number that the kernel overwrites with. -/
theorem huge_eq : huge = (((13234890 * 2 ^ 76 : ℝ)) : EReal) := by
  unfold huge
  simp [Ideal.ofBits, Ideal.ieee, -EReal.coe_mul]

/-- The distance between points within the bound is below the number that the kernel overwrites with. -/
theorem span_lt (a b : Fin 3 → EReal) (ha : ∀ k, max (a k) (-a k) < Ideal.ofBits .f32 0x70622EA5#32)
    (hb : ∀ k, max (b k) (-b k) < Ideal.ofBits .f32 0x70622EA5#32) : span a b < huge := by
  have real (a : Fin 3 → EReal) (ha : ∀ k, max (a k) (-a k) < Ideal.ofBits .f32 0x70622EA5#32) (k : Fin 3) :
      ∃ x : ℝ, a k = x ∧ |x| < 14823077 * 2 ^ 74 := by
    have h := ha k
    rw [bound_eq, max_lt_iff] at h
    generalize a k = z at h
    induction z using EReal.rec with
    | bot => exact absurd h.2 (by simp)
    | top => exact absurd h.1 (by simp)
    | coe x =>
      refine ⟨x, rfl, abs_lt.2 ⟨?_, EReal.coe_lt_coe_iff.1 h.1⟩⟩
      have := EReal.coe_lt_coe_iff.1 ((EReal.coe_neg x).trans_lt h.2)
      linarith
  choose x hx hx' using real a ha
  choose y hy hy' using real b hb
  have d (k : Fin 3) : (a k - b k) * (a k - b k) = (((x k - y k) * (x k - y k) : ℝ) : EReal) := by
    rw [hx, hy, ← EReal.coe_sub, ← EReal.coe_mul]
  have q (k : Fin 3) : (x k - y k) * (x k - y k) < (2 * (14823077 * 2 ^ 74)) ^ 2 := by
    have h1 := abs_lt.1 (hx' k); have h2 := abs_lt.1 (hy' k)
    rw [← pow_two]
    exact sq_lt_sq' (by linarith) (by linarith)
  unfold span
  rw [d, d, d, ← EReal.coe_add, ← EReal.coe_add, huge_eq]
  show (if _ then (⊥ : EReal) else _) < _
  rw [if_neg (not_lt.2 (add_nonneg (add_nonneg (mul_self_nonneg _) (mul_self_nonneg _)) (mul_self_nonneg _))), EReal.coe_lt_coe_iff, Real.sqrt_lt' (by positivity)]
  have h0 := q 0; have h1 := q 1; have h2 := q 2
  norm_num at h0 h1 h2 ⊢
  linarith

end Cert.PointsIdeal
-- ==== Proof.PointsNearest.lean ====
/-
  The reference's adjacency, read at an entry.

  The reference argsorts each row of the distances, takes the first sixteen places, sums their one-hot rows, makes the sum
  symmetric and sets the diagonal.  An entry is 1 if it is on the diagonal or one of its two centres is among the sixteen
  nearest of the other, and 0 if not (`adjacency_apply`).
-/
module

public import proofs.«01_k».proof.Proof.PointsRef
public import proofs.«01_k».proof.Proof.PointsSorted

@[expose] public section

set_option maxRecDepth 16384

noncomputable section

namespace Cert.PointsReferenceIdeal

open Cert.PointsReferenceIdeal.Gen Cert.PointsOrder
open Idealize.ShloMosaic Idealize.ShloMosaic.TcCoe
open Cert.PointsIdeal (span link Near argsort_apply one_eq)

set_option maxHeartbeats 1000000

/-- The distances between the centres. -/
def lengths (v : FVec Ideal S8x256x3 .f32) : FVec Ideal S8x256x256 .f32 :=
  Host.sqrt (Host.reduceAdd (mulf (subf (broadcastInDim S8x256x256x3 ![0, 1, 2, 3] bcast_S8x256x1x3_S8x256x256x3_0_1_2_3 (broadcastInDim S8x256x1x3 ![0, 1, 3] bcast_S8x256x3_S8x256x1x3_0_1_3 v)) (broadcastInDim S8x256x256x3 ![0, 1, 2, 3] bcast_S8x1x256x3_S8x256x256x3_0_1_2_3 (broadcastInDim S8x1x256x3 ![0, 2, 3] bcast_S8x256x3_S8x1x256x3_0_2_3 v))) (subf (broadcastInDim S8x256x256x3 ![0, 1, 2, 3] bcast_S8x256x1x3_S8x256x256x3_0_1_2_3 (broadcastInDim S8x256x1x3 ![0, 1, 3] bcast_S8x256x3_S8x256x1x3_0_1_3 v)) (broadcastInDim S8x256x256x3 ![0, 1, 2, 3] bcast_S8x1x256x3_S8x256x256x3_0_1_2_3 (broadcastInDim S8x1x256x3 ![0, 2, 3] bcast_S8x256x3_S8x1x256x3_0_2_3 v)))) (constant S_ .f32 0x00000000#32) reducesTo_S8x256x256x3_S8x256x256_d3 h_S_)

/-- The argsort of each row. -/
def ranks (d : FVec Ideal S8x256x256 .f32) : IVec S8x256x256 32 :=
  (Host.sort2 S8x256x256 2 comparator_f32_i32_d2 d (iotaInDim S8x256x256 32 2)).2

/-- The sum of the one-hot rows of the first sixteen places. -/
def counts (s : IVec S8x256x256 32) : FVec Ideal S8x256x256 .f32 :=
  Host.reduceAdd (uitofp .f32 (cmpi .eq (broadcastInDim S8x256x16x256 ![0, 1, 2, 3] bcast_S8x256x16x1_S8x256x16x256_0_1_2_3 (broadcastInDim S8x256x16x1 ![0, 1, 2] bcast_S8x256x16_S8x256x16x1_0_1_2 (extractStridedSlice S8x256x16 ![0, 0, 0] s slices_S8x256x256_S8x256x16_0_0_0))) (broadcastInDim S8x256x16x256 ![0, 1, 2, 3] bcast_S1x1x1x256_S8x256x16x256_0_1_2_3 (iotaInDim S1x1x1x256 32 3)))) (constant S_ .f32 0x00000000#32) reducesTo_S8x256x16x256_S8x256x256_d2 h_S_

/-- The sum made symmetric, its nonzero entries and the diagonal set to one. -/
def joined (l : FVec Ideal S8x256x256 .f32) : FVec Ideal S8x256x256 .f32 :=
  select (broadcastInDim S8x256x256 ![1, 2] bcast_S256x256_S8x256x256_1_2 (cmpi .eq (addi (iotaInDim S256x256 32 0) (broadcastInDim S256x256 ![] bcast_S_S256x256 (constantI S_ 32 0#32))) (iotaInDim S256x256 32 1))) (broadcastInDim S8x256x256 ![] bcast_S_S8x256x256 (id (constant S_ .f32 0x3F800000#32))) (uitofp .f32 (cmpf .une (addf l (transpose S8x256x256 [0, 2, 1] l transposes_S8x256x256_S8x256x256_0_2_1) : (⟨S8x256x256, .f32⟩ : BufTy).Contents (Elt Ideal)) (broadcastInDim S8x256x256 ![] bcast_S_S8x256x256 (constant S_ .f32 0x00000000#32))))

/-- The adjacency. -/
def adjacency (v : FVec Ideal S8x256x3 .f32) : FVec Ideal S8x256x256 .f32 := joined (counts (ranks (lengths v)))

theorem lengths_apply (v : FVec Ideal S8x256x3 .f32) (t : Fin 8) (r n : Fin 256) :
    lengths v (ix3 t r n) = span (fun k => v (ix3 t r k)) fun k => v (ix3 t n k) := by
  unfold span
  rw [← Fin.sum_univ_three fun k => (v (ix3 t r k) - v (ix3 t n k)) * (v (ix3 t r k) - v (ix3 t n k))]
  pointwise [lengths]

/-- The comparator compares the entries: it takes both zeros for one, and none is not a number. -/
theorem comparator_eq (p q : EReal × BitVec 32) :
    comparator_f32_i32_d2 (F := Ideal) p q = BitVec.ofBool (decide (p.1 < q.1)) := by
  have z : Ideal.ofBits .f32 0x00000000#32 = 0 := by simp [Ideal.ofBits, Ideal.ieee]
  have e (a : EReal) : Scalar.select (Ideal.cmp .une a a) (Ideal.ofBits .f32 0x7FC00000#32)
      (Scalar.select (Ideal.cmp .oeq a (Ideal.ofBits .f32 0x00000000#32)) (Ideal.ofBits .f32 0x00000000#32) a) = a := by
    have h1 : Ideal.cmp .une a a = 0#1 := by simp [Ideal.cmp]
    rw [h1, ValueIdx.select_zero, z]
    by_cases h : a = 0
    · subst h
      simp [Scalar.select]
    · have h2 : Ideal.cmp .oeq a 0 = 0#1 := by simp [Ideal.cmp, h]
      rw [h2, ValueIdx.select_zero]
  show Ideal.cmp .olt _ _ = _
  exact congrArg₂ (Ideal.cmp .olt) (e p.1) (e q.1)

theorem ranks_apply (d : FVec Ideal S8x256x256 .f32) (t : Fin 8) (r k : Fin 256) :
    ranks d (ix3 t r k) = BitVec.ofNat 32 (seat (fun n => (d (ix3 t r n) : EReal)) k).val :=
  argsort_apply _ comparator_eq d (iotaInDim S8x256x256 32 2) (fun _ _ _ => rfl) t r k

/-- A bit as a float. -/
theorem bit_eq (b : Bool) : FloatOps.uitofp (F := Ideal) .f32 (BitVec.ofBool b) = if b then (1 : EReal) else 0 := by
  cases b
  · show (((BitVec.ofBool false).toNat : ℝ) : EReal) = _
    simp
  · show (((BitVec.ofBool true).toNat : ℝ) : EReal) = _
    simp

theorem counts_apply (s : IVec S8x256x256 32) (t : Fin 8) (r n : Fin 256) :
    counts s (ix3 t r n) = ∑ k : Fin 16, if s (ix3 t r ⟨k.val, by omega⟩) = BitVec.ofNat 32 n.val then (1 : EReal) else 0 := by
  have e (a b : BitVec 32) : (if a = b then (1 : EReal) else 0) = FloatOps.uitofp (F := Ideal) .f32 (IntOp.cmpi .eq a b) := by
    refine Eq.trans ?_ (bit_eq (a == b)).symm
    exact if_congr beq_iff_eq.symm rfl rfl
  simp only [e]
  pointwise [counts]

theorem joined_apply (l : FVec Ideal S8x256x256 .f32) (t : Fin 8) (r n : Fin 256) :
    joined l (ix3 t r n) = if r = n then (1 : EReal) else if l (ix3 t r n) + l (ix3 t n r) = (0 : EReal) then 0 else 1 := by
  have e : IntOp.cmpi .eq (IntOp.addi (BitVec.ofNat 32 r.val) 0#32) (BitVec.ofNat 32 n.val) = BitVec.ofBool (decide (r = n)) := by
    show BitVec.ofBool (BitVec.ofNat 32 r.val + 0#32 == BitVec.ofNat 32 n.val) = _
    congr 1
    rw [BitVec.add_zero, Bool.eq_iff_iff, beq_iff_eq, decide_eq_true_eq, ← BitVec.toNat_inj, BitVec.toNat_ofNat, BitVec.toNat_ofNat, Fin.ext_iff]
    omega
  have o : (id (constant S_ .f32 0x3F800000#32) : FVec Ideal S_ .f32) ix0 = (1 : EReal) := one_eq
  pointwise [joined]
  rw [e, o]
  by_cases h : r = n
  · simp [h, Scalar.select]
  · rw [if_neg h, decide_eq_false h]
    refine (ValueIdx.select_zero _ _).trans ?_
    generalize (l (ix3 t r n) + l (ix3 t n r) : EReal) = z
    refine (bit_eq _).trans ?_
    by_cases h0 : z = 0
    · rw [if_pos h0, if_neg (by simp [h0])]
    · rw [if_neg h0, if_pos (by simp [h0])]

/-- Whether two centres are joined: they are the same, or one is among the sixteen nearest of the other. -/
theorem adjacency_apply (v : FVec Ideal S8x256x3 .f32) (t : Fin 8) (r n : Fin 256) :
    adjacency v (ix3 t r n) = link (fun r n => span (fun k => v (ix3 t r k)) fun k => v (ix3 t n k)) r n := by
  set D : Fin 256 → Fin 256 → EReal := fun r n => span (fun k => v (ix3 t r k)) fun k => v (ix3 t n k) with hD
  have hs (r k : Fin 256) : ranks (lengths v) (ix3 t r k) = BitVec.ofNat 32 (seat (D r) k).val := by
    rw [ranks_apply]
    simp only [lengths_apply, hD]
  have hn (r n : Fin 256) : (0 : EReal) ≤ counts (ranks (lengths v)) (ix3 t r n) := by
    rw [counts_apply]
    exact Finset.sum_nonneg fun k _ => by split <;> simp
  have hz (r n : Fin 256) : counts (ranks (lengths v)) (ix3 t r n) = (0 : EReal) ↔ ¬ Near D r n := by
    rw [counts_apply, Finset.sum_eq_zero_iff_of_nonneg fun k _ => by split <;> simp]
    have hw (a b : Fin 256) : BitVec.ofNat 32 a.val = BitVec.ofNat 32 b.val ↔ a = b := by
      rw [← BitVec.toNat_inj, BitVec.toNat_ofNat, BitVec.toNat_ofNat, Fin.ext_iff]
      omega
    simp only [hs, hw]
    constructor
    · rintro h ⟨i, hi, e⟩
      have := h ⟨i.val, hi⟩ (Finset.mem_univ _)
      simp [e] at this
    · intro h k _
      rw [if_neg fun e => h ⟨⟨k.val, by omega⟩, k.isLt, e⟩]
  unfold adjacency
  rw [joined_apply]
  have h0 : (counts (ranks (lengths v)) (ix3 t r n) + counts (ranks (lengths v)) (ix3 t n r) : EReal) = 0 ↔ ¬ Near D r n ∧ ¬ Near D n r :=
    (add_eq_zero_iff_of_nonneg (hn r n) (hn n r)).trans (and_congr (hz r n) (hz n r))
  unfold link
  by_cases h1 : r = n
  · rw [if_pos h1, if_pos (.inl h1)]
  · rw [if_neg h1]
    by_cases h2 : Near D r n ∨ Near D n r
    · rw [if_neg fun h => h2.elim (h0.1 h).1 (h0.1 h).2, if_pos (.inr h2)]
    · rw [if_pos (h0.2 (not_or.1 h2)), if_neg fun h => h.elim h1 h2]

end Cert.PointsReferenceIdeal
-- ==== Proof.PointsAdjacency.lean ====
/-
  The first call alone: the adjacency.

  For each pair of centres the kernel stores 1 if one is among the sixteen nearest of the other or they are the same, and
  0 if not; the reference argsorts the distances (`adjacency_eq`).
-/
module

public import proofs.«01_k».proof.Proof.PointsRows
public import proofs.«01_k».proof.Proof.PointsSorted
public import proofs.«01_k».proof.Proof.PointsNearest

@[expose] public section

set_option maxRecDepth 16384

noncomputable section

namespace Cert.PointsIdeal

open Cert.PointsIdeal.Gen Cert.PointsOrder
open Idealize.ShloMosaic Idealize.ShloMosaic.TcCoe Idealize.SL.Sem

set_option maxHeartbeats 1000000

variable (m : (ℓ : Loc nD τ sig) → Buf (Elt Ideal) ℓ) (c : Dev nD)

/-! ## The kernel -/

/-- The window of the adjacency is at the grid point's batch. -/
theorem idx7 : ∀ t : Fin grid0.N, win0_7.index t = ![t.val, 0, 0] := by decide +kernel

/-- A distance the kernel takes. -/
theorem spans_apply (v : FVec Ideal S256x16 .f32) (r n : Fin 256) :
    spans v (ix2 r n) = span (fun k => v (ix2 r ⟨k.val, by omega⟩)) fun k => v (ix2 n ⟨k.val, by omega⟩) := by
  unfold span
  pointwise [spans, k0_pay47, k0_pay9, k0_pay10, k0_pay11]

/-- The adjacency's block at point `t`. -/
def outL (t : Fin cfg0.N) : FVec Ideal S1x256x256 .f32 := links (spans (k0_pay3 (iblk m c 0 t) (iblk m c 3 t)))

/-- The printed chain starts from the distances of the centres. -/
theorem found_eq (v : FVec Ideal S256x16 .f32) : k0_pay50 (F := Ideal) v (k0_pay9 v) (k0_pay10 v) (k0_pay11 v) = found (spans v) := rfl

/-- The body's result for the adjacency, its loads read whole. -/
theorem afterL (t : Fin cfg0.N) : (dats m 0 c).after 7 t = outL m c t := by
  rw [after0_7, out0_7, View.canon_unit_zero (by decide)]
  simp only [k0_pay91, k0_pay92, k0_pay93, k0_pay94, k0_pay95, k0_pay96, k0_pay97, k0_pay98, k0_pay83, k0_pay84, k0_pay85, k0_pay86, ld0, ld1, found_eq]
  exact links_eq (spans _)

attribute [local irreducible] outL

/-- The adjacency: every block is written back, at its own batch. -/
theorem finalL : ((dats m 0 c).arrAt 7 cfg0.N : FVec Ideal S8x256x256 .f32) = fun y => outL m c (y 0) (ix3 0 (y 1) (y 2)) := by
  refine (dats m 0 c).arrAt_eq_of_covers 7 _ (by decide +kernel) fun t hf y => ?_
  have key : ∀ (t' : Fin cfg0.N) (y' : S1x256x256.Idx), t' = t → y' = y → outL m c t' y' = outL m c t y := by
    rintro _ _ rfl rfl; rfl
  blk_simp
  rw [afterL]
  refine (key _ _ (Fin.ext ?_) ?_).symm
  · blk_simp [idx7 t]
  · blk_ext [idx7 t]

open Cert.PointsReferenceIdeal (centres centres_apply adjacency adjacency_apply)

variable {m c} (hb : ∀ j, max (X m c j : EReal) (-(X m c j : EReal)) < Ideal.ofBits .f32 0x70622EA5#32)
  (h : ∀ j, X m c j ≠ (⊤ : EReal) ∧ X m c j ≠ (⊥ : EReal)) (hi : ∀ j, (Ind m c j).toNat < 1024)
include hb h hi

/-- The adjacency's block at an entry. -/
theorem outL_apply (t : Fin cfg0.N) (r n : Fin 256) : outL m c t (ix3 0 r n)
    = link (fun r n => span (fun k => centres (X m c) (Ind m c) (ix3 t r k)) fun k => centres (X m c) (Ind m c) (ix3 t n k)) r n := by
  have e (r : Fin 256) (k : Fin 3) : k0_pay3 (F := Ideal) (iblk m c 0 t) (iblk m c 3 t) (ix2 r ⟨k.val, by omega⟩) = centres (X m c) (Ind m c) (ix3 t r k) :=
    ((centre_apply h hi t r ⟨k.val, by omega⟩).trans (x0_low m c t _ k)).trans (centres_apply _ _ (t : Fin 8) r (hi _) k).symm
  have es (r n : Fin 256) : spans (k0_pay3 (F := Ideal) (iblk m c 0 t) (iblk m c 3 t)) (ix2 r n)
      = span (fun k => centres (X m c) (Ind m c) (ix3 t r k)) fun k => centres (X m c) (Ind m c) (ix3 t n k) := by
    rw [spans_apply]
    exact congrArg₂ span (funext (e r)) (funext (e n))
  have hs (r : Fin 256) (k : Fin 3) : max (centres (X m c) (Ind m c) (ix3 t r k) : EReal) (-(centres (X m c) (Ind m c) (ix3 t r k) : EReal)) < Ideal.ofBits .f32 0x70622EA5#32 := by
    rw [centres_apply _ _ (t : Fin 8) r (hi _)]
    exact hb _
  unfold outL
  rw [links_apply _ fun r n => (es r n).trans_lt (span_lt _ _ (hs r) (hs n))]
  simp only [es]

/-- The kernel's adjacency is the reference's. -/
theorem adjacency_eq : (dats m 0 c).arrAt 7 cfg0.N = adjacency (centres (X m c) (Ind m c)) := by
  refine (finalL m c).trans ?_
  funext i
  exact ((outL_apply hb h hi (i 0) (i 1) (i 2)).trans (adjacency_apply _ (i 0) (i 1) (i 2)).symm).trans (congrArg _ (eq_ix3 i).symm)

end Cert.PointsIdeal
-- ==== Proof.lean ====
/-
  The claims of this directory, put together. The SparseCore program's run is `run_main` (Launch.lean), over any float
  values; the two frames of the kernel are that run with the values dropped. The reference's run is its generated
  module's; `ref_eq` (Ref.lean) says that the two results are one.

  The layers' call is stated apart: its run is `LayersRun`'s, over any float values, its frame over machine words
  `LayersWords`', and `LayersValue` says that its result is its reference's. So is the first call (`PointsValue`, `PointsRows`, `PointsAdjacency`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.Layers
public import proofs.«01_k».proof.Proof.Gen.LayersIdeal
public import proofs.«01_k».proof.Proof.Gen.LayersReferenceIdeal.Run
public import proofs.«01_k».proof.Proof.Gen.ReferenceIdeal.Run
public import proofs.«01_k».proof.Proof.Gen.Reference.Run
public import Idealize.ShloMosaic.Adequacy
public import Idealize.ShloMosaic.Init
public import proofs.«01_k».proof.Proof.Offsets
public import proofs.«01_k».proof.Proof.Slots
public import proofs.«01_k».proof.Proof.Steps
public import proofs.«01_k».proof.Proof.Tile
public import proofs.«01_k».proof.Proof.Deal
public import proofs.«01_k».proof.Proof.Launch
public import proofs.«01_k».proof.Proof.Ref
public import proofs.«01_k».proof.Proof.LayersRun
public import proofs.«01_k».proof.Proof.LayersValue
public import proofs.«01_k».proof.Proof.LayersWords
public import proofs.«01_k».proof.Proof.PointsRows
public import proofs.«01_k».proof.Proof.PointsAdjacency
public import proofs.«01_k».proof.Proof.Gen.PointsIdeal.Value
public import proofs.«01_k».proof.Proof.Gen.PointsReferenceIdeal.Run
public import proofs.«01_k».proof.Proof.Gen.Points.Frame
public import proofs.«01_k».proof.Proof.Gen.Pre_sampled

@[expose] public section

noncomputable section

namespace Cert.Proof

open Idealize.ShloMosaic Idealize.SL.Sem Cert.Kernel

/-- The kernel terminates, leaves its arguments alone and every counter at zero. -/
theorem frame_ideal : Cert.quiescent_KernelIdeal := fun m ρ h =>
  (θ_run Cert.KernelIdeal.defs _ _).mono (fun _ h => ⟨fun c => ⟨(h.1 c).1, (h.1 c).2.1⟩, h.2⟩)
    (run_main m ρ fun d => inRange_of_fn _ _ (h d))

/-- The same of the kernel over machine words: its run is the same run. -/
theorem frame_kernel : Cert.quiescent_Kernel := fun m ρ h =>
  (θ_run Cert.KernelIdeal.defs _ _).mono (fun _ h => ⟨fun c => ⟨(h.1 c).1, (h.1 c).2.1⟩, h.2⟩)
    (run_main (F := Bits) m ρ fun d => inRange_of_fn _ _ (h d))

/-- The ideal reference terminates and leaves its arguments alone; it has no counters. -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference over machine words does too. -/
theorem frame_ref : Cert.quiescent_Reference := fun m ρ _ =>
  (θ_run Cert.Reference.defs _ _).mono (fun r h => ⟨fun c => (h c).2, sem_eq_zero_of_no_sems (by decide) r.2⟩)
    (Cert.Reference.Value.run m ρ)

/-- Kernel and reference compute the same function over the extended reals. -/
theorem algebraic : Cert.algebraic_KernelIdeal_ReferenceIdeal := fun m ρ m' ρ' h hargs =>
  ⟨fun c => resultOf (m ((c.tc : Thread _ _).loc Cert.KernelIdeal.main_arg0)) (m ((c.tc : Thread _ _).loc Cert.KernelIdeal.main_arg1)),
    (θ_run Cert.KernelIdeal.defs _ _).mono (fun _ h c => ⟨(h.1 c).2.2, (h.1 c).1, (h.1 c).2.1⟩)
      (run_main m ρ fun d => inRange_of_fn _ _ (h d)),
    (θ_run Cert.ReferenceIdeal.defs _ _).mono (fun _ hr c => ⟨(hr c).1.trans (by
        rw [(hargs c).1, (hargs c).2]
        exact ref_eq _ _ (inRange_of_fn _ _ (h c))), (hr c).2.1, (hr c).2.2⟩)
      (Cert.ReferenceIdeal.Value.run m' ρ')⟩

/-- The same, word for word, whatever the float operations are. -/
theorem bitexact : Cert.bitexact_Kernel_Reference := fun m ρ m' ρ' h hargs =>
  ⟨fun c => resultOf (F := Bits) (m ((c.tc : Thread _ _).loc Cert.Kernel.main_arg0)) (m ((c.tc : Thread _ _).loc Cert.Kernel.main_arg1)),
    (θ_run Cert.KernelIdeal.defs _ _).mono (fun _ h c => ⟨(h.1 c).2.2, (h.1 c).1, (h.1 c).2.1⟩)
      (run_main (F := Bits) m ρ fun d => inRange_of_fn _ _ (h d)),
    (θ_run Cert.Reference.defs _ _).mono (fun _ hr c => ⟨(hr c).1.trans (by
        rw [(hargs c).1, (hargs c).2]
        exact ref_eq _ _ (inRange_of_fn _ _ (h c))), (hr c).2.1, (hr c).2.2⟩)
      (Cert.Reference.Value.run m' ρ')⟩

/-! ## The layers' call -/

/-- The layers' call terminates, leaves its arguments alone and every counter at zero. -/
theorem frame_layersIdeal : Cert.quiescent_LayersIdeal := fun m ρ _ =>
  (θ_run Cert.LayersIdeal.defs _ _).mono (fun _ h => ⟨fun c => h.1.all m c, h.2⟩) (Cert.LayersIdeal.frame m ρ)

/-- The layers' reference terminates and leaves its arguments alone; it has no counters. -/
theorem frame_layersRef : Cert.quiescent_LayersReferenceIdeal := fun m ρ _ =>
  (θ_run Cert.LayersReferenceIdeal.defs _ _).mono (fun r h => ⟨fun c => (h c).2, sem_eq_zero_of_no_sems (by decide) r.2⟩)
    (Cert.LayersReferenceIdeal.Value.run m ρ)

/-- The constant the kernel multiplies by is named as the exact factor. -/
theorem preserves_layers : Cert.preserves_Layers_LayersIdeal :=
  IdealRules.named_const.statement _ _ _ _ _ rfl

/-- The layers' call and its reference compute the same function over the extended reals. -/
theorem algebraic_layers : Cert.algebraic_LayersIdeal_LayersReferenceIdeal := fun m ρ m' ρ' _ hargs =>
  ⟨_, (θ_run Cert.LayersIdeal.defs _ _).mono (fun _ h c => ⟨h.1 c, h.2.all m c⟩) (Cert.LayersIdeal.run_value m ρ),
    (θ_run Cert.LayersReferenceIdeal.defs _ _).mono (fun _ hr c => ⟨(hr c).1.trans (Cert.LayersIdeal.result_eq (hargs c)), (hr c).2⟩)
      (Cert.LayersReferenceIdeal.Value.run m' ρ')⟩

/-! ## The first call -/

/-- The first call terminates, leaves its arguments alone and every counter at zero. -/
theorem frame_points : Cert.quiescent_Points := fun m ρ _ => Cert.Points.Gen.frame m ρ

/-- The same at exact arithmetic. -/
theorem frame_pointsIdeal : Cert.quiescent_PointsIdeal := fun m ρ _ => Cert.PointsIdeal.Gen.frame m ρ

/-- The first call's reference terminates and leaves its arguments alone; it has no counters. -/
theorem frame_pointsRef : Cert.quiescent_PointsReferenceIdeal := fun m ρ _ =>
  (θ_run Cert.PointsReferenceIdeal.defs _ _).mono
    (fun r h => ⟨fun c => (h c).2.2.2.2.2, sem_eq_zero_of_no_sems (by decide) r.2⟩) (Cert.PointsReferenceIdeal.Value.run m ρ)

/-- The factor the kernel multiplies by is named as the exact inverse of the radius. -/
theorem preserves_points : Cert.preserves_Points_PointsIdeal :=
  IdealRules.named_const.statement _ _ _ _ _ rfl

open Cert.PointsIdeal Cert.PointsReferenceIdeal in
/-- The first call and its reference compute the same five arrays over the extended reals. -/
theorem algebraic_points : Cert.algebraic_PointsIdeal_PointsReferenceIdeal_pre_sampled := fun m ρ m' ρ' h hargs =>
  ⟨fun c => rows (centres (X m c) (Ind m c)) (X m c), fun c => adjacency (centres (X m c) (Ind m c)),
    fun c => table (X m c) (Feat m c) (W m c), fun c => products (centres (X m c) (Ind m c)) (W m c), fun c => widened (centres (X m c) (Ind m c)),
    (θ_run Cert.PointsIdeal.defs _ _).mono (fun _ hr c => by
        obtain ⟨h6, h7, h8, h9, h10, ha⟩ := hr c
        obtain ⟨hb, hi⟩ := sampled_of_fn _ _ _ _ (h c)
        have hx := fun j => finite_of_bound _ (hb j)
        exact ⟨h6.trans (rows_eq hx hi), h7.trans (adjacency_eq hb hx hi), h8.trans (table_eq m c), h9.trans (products_eq hx hi), h10.trans (centres_eq hx hi), ha⟩)
      (Cert.PointsIdeal.Value.run_blocks m ρ),
    (θ_run Cert.PointsReferenceIdeal.defs _ _).mono (fun _ hr c => by
        obtain ⟨h6, h7, h8, h9, h10, ha⟩ := hr c
        obtain ⟨e0, e1, e2, e3⟩ := hargs c
        unfold Cert.PointsReferenceIdeal.Value.res_main_v40 at h6
        unfold Cert.PointsReferenceIdeal.Value.res_main_v61 at h7
        rw [e0, e2] at h6
        rw [e0, e2] at h7
        rw [e0, e1, e3] at h8
        rw [e0, e2, e3] at h9
        rw [e0, e2] at h10
        exact ⟨h6, h7, h8, h9, h10, ha⟩)
      (Cert.PointsReferenceIdeal.Value.run m' ρ')⟩

theorem claim : Cert.Claim := ⟨Cert.Kernel.Gen.facts, Cert.KernelIdeal.Gen.facts, Cert.ReferenceIdeal.Gen.facts, Cert.Reference.Gen.facts,
  Cert.Layers.Gen.facts, Cert.LayersIdeal.Gen.facts, Cert.LayersReferenceIdeal.Gen.facts,
  Cert.Points.Gen.facts, Cert.PointsIdeal.Gen.facts, Cert.PointsReferenceIdeal.Gen.facts, Cert.Pre_in_range.Gen.facts, Cert.Pre_sampled.Gen.facts,
  frame_kernel, frame_ideal, frame_refIdeal, fun m ρ _ => frame_refIdeal m ρ trivial, frame_ref, Cert.LayersWords.frame, frame_layersIdeal, frame_layersRef,
  frame_points, frame_pointsIdeal, fun m ρ _ => frame_pointsIdeal m ρ trivial, frame_pointsRef, fun m ρ _ => frame_pointsRef m ρ trivial,
  trivial, algebraic, bitexact, preserves_layers, algebraic_layers,
  preserves_points, algebraic_points⟩

end Cert.Proof

end
